-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v108) = v0 c
          ∧ r.2.mem ((c.tc : Thread Cert.Reference2Ideal.nD Cert.Reference2Ideal.τ).loc Cert.Reference2Ideal.main_v107) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v109) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S2x8448x512 : Shape := ⟨3, ![2, 8448, 512]⟩
abbrev S2x4x128x8448 : Shape := ⟨4, ![2, 4, 128, 8448]⟩
abbrev S2x8448x14336 : Shape := ⟨3, ![2, 8448, 14336]⟩
abbrev S2x4 : Shape := ⟨2, ![2, 4]⟩
abbrev S2x8448x1024 : Shape := ⟨3, ![2, 8448, 1024]⟩
abbrev S_ : Shape := ⟨0, ![]⟩

class Facts : Prop where
  slices_S2x8448x14336_S2x8448x1024_0_0_4096 : S2x8448x14336.Slices ![0, 0, 4096] S2x8448x1024
  bitsLt_bf16_f32 : FTy.bits .bf16 < FTy.bits .f32
  bcast_S_S2x8448x512 : S_.BroadcastsInDim S2x8448x512 (![] : Fin 0 → Fin S2x8448x512.rank)
  bcast_S_S2x4x128x8448 : S_.BroadcastsInDim S2x4x128x8448 (![] : Fin 0 → Fin S2x4x128x8448.rank)
  bcast_S_S2x8448x1024 : S_.BroadcastsInDim S2x8448x1024 (![] : Fin 0 → Fin S2x8448x1024.rank)

variable [Facts]

def fn {F : FTy → Type} [FloatOps F] (main_arg0 : FVec F S2x8448x512 .bf16) (main_arg1 : FVec F S2x4x128x8448 .bf16) (main_arg2 : FVec F S2x8448x14336 .bf16) (main_arg3 : FVec F S2x4 .f32) : IVec S2x8448x512 1 × IVec S2x4x128x8448 1 × IVec S2x8448x1024 1 :=
  let main_v0 : FVec F S2x8448x1024 .bf16 := (extractStridedSlice S2x8448x1024 ![0, 0, 4096] · slices_S2x8448x14336_S2x8448x1024_0_0_4096) main_arg2
  let main_v1 : FVec F S2x8448x512 .f32 := (extf .f32 · bitsLt_bf16_f32) main_arg0
  let main_v2 : FVec F S2x8448x512 .f32 := Host.absf main_v1
  let main_cst : FVec F S_ .f32 := constant S_ .f32 0x7F800000#32
  let main_v3 : FVec F S2x8448x512 .f32 := broadcastInDim S2x8448x512 ![] bcast_S_S2x8448x512 main_cst
  let main_v4 : IVec S2x8448x512 1 := cmpf .olt main_v2 main_v3
  let main_v5 : FVec F S2x4x128x8448 .f32 := (extf .f32 · bitsLt_bf16_f32) main_arg1
  let main_v6 : FVec F S2x4x128x8448 .f32 := Host.absf main_v5
  let main_cst_0 : FVec F S_ .f32 := constant S_ .f32 0x7F800000#32
  let main_v7 : FVec F S2x4x128x8448 .f32 := broadcastInDim S2x4x128x8448 ![] bcast_S_S2x4x128x8448 main_cst_0
  let main_v8 : IVec S2x4x128x8448 1 := cmpf .olt main_v6 main_v7
  let main_v9 : FVec F S2x8448x1024 .f32 := (extf .f32 · bitsLt_bf16_f32) main_v0
  let main_v10 : FVec F S2x8448x1024 .f32 := Host.absf main_v9
  let main_cst_1 : FVec F S_ .f32 := constant S_ .f32 0x7F800000#32
  let main_v11 : FVec F S2x8448x1024 .f32 := broadcastInDim S2x8448x1024 ![] bcast_S_S2x8448x1024 main_cst_1
  let main_v12 : IVec S2x8448x1024 1 := cmpf .olt main_v10 main_v11
  (main_v4, main_v8, main_v12)
-- ==== Pre_finite2.lean ====
abbrev S2x8448x1024 : Shape := ⟨3, ![2, 8448, 1024]⟩
abbrev S8x3072 : Shape := ⟨2, ![8, 3072]⟩
abbrev S1024 : Shape := ⟨1, ![1024]⟩
abbrev S1024x14352 : Shape := ⟨2, ![1024, 14352]⟩
abbrev S3x2048 : Shape := ⟨2, ![3, 2048]⟩
abbrev S_ : Shape := ⟨0, ![]⟩

class Facts : Prop where
  slices_S8x3072_S3x2048_0_0 : S8x3072.Slices ![0, 0] S3x2048
  bcast_S_S3x2048 : S_.BroadcastsInDim S3x2048 (![] : Fin 0 → Fin S3x2048.rank)
  bcast_S_S1024 : S_.BroadcastsInDim S1024 (![] : Fin 0 → Fin S1024.rank)
  bcast_S_S1024x14352 : S_.BroadcastsInDim S1024x14352 (![] : Fin 0 → Fin S1024x14352.rank)

variable [Facts]

def fn {F : FTy → Type} [FloatOps F] (main_arg0 : FVec F S2x8448x1024 .f32) (main_arg1 : FVec F S8x3072 .f32) (main_arg2 : FVec F S1024 .f32) (main_arg3 : FVec F S1024x14352 .f32) : IVec S3x2048 1 × IVec S1024 1 × IVec S1024x14352 1 :=
  let main_v0 : FVec F S3x2048 .f32 := (extractStridedSlice S3x2048 ![0, 0] · slices_S8x3072_S3x2048_0_0) main_arg1
  let main_v1 : FVec F S3x2048 .f32 := Host.absf main_v0
  let main_cst : FVec F S_ .f32 := constant S_ .f32 0x7F800000#32
  let main_v2 : FVec F S3x2048 .f32 := broadcastInDim S3x2048 ![] bcast_S_S3x2048 main_cst
  let main_v3 : IVec S3x2048 1 := cmpf .olt main_v1 main_v2
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x14352 .f32 := Host.absf main_arg3
  let main_cst_1 : FVec F S_ .f32 := constant S_ .f32 0x7F800000#32
  let main_v8 : FVec F S1024x14352 .f32 := broadcastInDim S1024x14352 ![] bcast_S_S1024x14352 main_cst_1
  let main_v9 : IVec S1024x14352 1 := cmpf .olt main_v7 main_v8
  (main_v3, main_v6, main_v9)
-- ==== Pre_finite5.lean ====
abbrev S2x1024 : Shape := ⟨2, ![2, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩

class Facts : Prop where
  bcast_S_S2x1024 : S_.BroadcastsInDim S2x1024 (![] : Fin 0 → Fin S2x1024.rank)
  bcast_S_S1024 : S_.BroadcastsInDim S1024 (![] : Fin 0 → Fin S1024.rank)

variable [Facts]

def fn {F : FTy → Type} [FloatOps F] (main_arg0 : FVec F S2x1024 .f32) (main_arg1 : FVec F S1024 .f32) (main_arg2 : FVec F S2x1024x3072 .f32) (main_arg3 : FVec F S2x3072 .f32) : IVec S2x1024 1 × IVec S1024 1 :=
  let main_v0 : FVec F S2x1024 .f32 := Host.absf main_arg0
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Kernel.lean ====
abbrev S2x8448x512 : Shape := ⟨3, ![2, 8448, 512]⟩
abbrev S2x4x128x8448 : Shape := ⟨4, ![2, 4, 128, 8448]⟩
abbrev S2x8448x14336 : Shape := ⟨3, ![2, 8448, 14336]⟩
abbrev S2x4 : Shape := ⟨2, ![2, 4]⟩
abbrev S1x8 : Shape := ⟨2, ![1, 8]⟩
abbrev S_ : Shape := ⟨0, ![]⟩
abbrev S1x128 : Shape := ⟨2, ![1, 128]⟩
abbrev S2x8448x1024 : Shape := ⟨3, ![2, 8448, 1024]⟩
abbrev S1x256x512 : Shape := ⟨3, ![1, 256, 512]⟩
abbrev S1x4x128x256 : Shape := ⟨4, ![1, 4, 128, 256]⟩
abbrev S1x256x1024 : Shape := ⟨3, ![1, 256, 1024]⟩
abbrev S2x4x128x256 : Shape := ⟨4, ![2, 4, 128, 256]⟩
abbrev S2x4x256x256 : Shape := ⟨4, ![2, 4, 256, 256]⟩
abbrev S2x4x256x128 : Shape := ⟨4, ![2, 4, 256, 128]⟩
abbrev S2x4x8x128 : Shape := ⟨4, ![2, 4, 8, 128]⟩
abbrev S256x256 : Shape := ⟨2, ![256, 256]⟩
abbrev S256x128 : Shape := ⟨2, ![256, 128]⟩
abbrev S128x256 : Shape := ⟨2, ![128, 256]⟩
abbrev S1x1 : Shape := ⟨2, ![1, 1]⟩
abbrev S1x1x256x256 : Shape := ⟨4, ![1, 1, 256, 256]⟩
abbrev S1x1x256x128 : Shape := ⟨4, ![1, 1, 256, 128]⟩
abbrev S1x1x128x256 : Shape := ⟨4, ![1, 1, 128, 256]⟩
abbrev S8x128 : Shape := ⟨2, ![8, 128]⟩
abbrev S1x1x8x128 : Shape := ⟨4, ![1, 1, 8, 128]⟩
abbrev S1x256x128 : Shape := ⟨3, ![1, 256, 128]⟩
abbrev S1x256x256 : Shape := ⟨3, ![1, 256, 256]⟩

abbrev nBuf : Space → Nat
  | .hbm => 10
  | .vmem => 22
  | .smem => 0
  | _ => 0

abbrev bufTy : (tb : Table) → Fin (tcTables nBuf tb) → BufTy
  | .hbm, ⟨0, _⟩ => ⟨S2x8448x512, .bf16⟩
  | .hbm, ⟨1, _⟩ => ⟨S2x4x128x8448, .bf16⟩
  | .hbm, ⟨2, _⟩ => ⟨S2x8448x14336, .bf16⟩
  | .hbm, ⟨3, _⟩ => ⟨S2x4, .f32⟩
  | .hbm, ⟨4, _⟩ => ⟨S1x8, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S2x8448x1024, .bf16⟩
  | .hbm, ⟨9, _⟩ => ⟨S2x8448x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4x128x256, .bf16⟩
  | .local _ .vmem, ⟨3, _⟩ => ⟨S1x4x128x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x512, .bf16⟩
  | .local _ .vmem, ⟨7, _⟩ => ⟨S1x256x512, .bf16⟩
  | .local _ .vmem, ⟨8, _⟩ => ⟨S1x4x128x256, .bf16⟩
  | .local _ .vmem, ⟨9, _⟩ => ⟨S1x4x128x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x128, .f32⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S2x4x128x256, .f32⟩
  | .local _ .vmem, ⟨18, _⟩ => ⟨S2x4x256x256, .f32⟩
  | .local _ .vmem, ⟨19, _⟩ => ⟨S2x4x256x128, .f32⟩
  | .local _ .vmem, ⟨20, _⟩ => ⟨S2x4x128x256, .f32⟩
  | .local _ .vmem, ⟨21, _⟩ => ⟨S2x4x8x128, .f32⟩
  | _, _ => ⟨S2x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  ![arg0.toNat, v4.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  let c0_i32_3 : BitVec 32 := 0#32
  ![arg0.toNat, c0_i32_1.toNat, c0_i32_2.toNat, v4.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c32_i32 : BitVec 32 := 32#32
  let v3 : BitVec 32 := Scalar.subi c32_i32 v2
  let v4 : BitVec 32 := Scalar.select v0 v1 v3
  let c4_i32 : BitVec 32 := 4#32
  let c0_i32_1 : BitVec 32 := 0#32
  ![arg0.toNat, v4.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c1_i32_0 : BitVec 32 := 1#32
  let v2 : BitVec 32 := Scalar.subi arg1 c1_i32_0
  let c32_i32 : BitVec 32 := 32#32
  let v3 : BitVec 32 := Scalar.subi c32_i32 v2
  let v4 : BitVec 32 := Scalar.select v0 v1 v3
  let c0_i32_1 : BitVec 32 := 0#32
  let c0_i32_2 : BitVec 32 := 0#32
  ![arg0.toNat, v4.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8448x512 : Shape := ⟨3, ![2, 8448, 512]⟩
abbrev S2x4x128x8448 : Shape := ⟨4, ![2, 4, 128, 8448]⟩
abbrev S2x8448x14336 : Shape := ⟨3, ![2, 8448, 14336]⟩
abbrev S2x4 : Shape := ⟨2, ![2, 4]⟩
abbrev S2x8448x4x128 : Shape := ⟨4, ![2, 8448, 4, 128]⟩
abbrev S2x8448x1024 : Shape := ⟨3, ![2, 8448, 1024]⟩
abbrev S2x8448x4x256 : Shape := ⟨4, ![2, 8448, 4, 256]⟩
abbrev S_ : Shape := ⟨0, ![]⟩
abbrev S2x2x4x128x256 : Shape := ⟨5, ![2, 2, 4, 128, 256]⟩
abbrev S2x256x4x128 : Shape := ⟨4, ![2, 256, 4, 128]⟩
abbrev S2x8192x4x128 : Shape := ⟨4, ![2, 8192, 4, 128]⟩
abbrev S1x2x8448x4x128 : Shape := ⟨5, ![1, 2, 8448, 4, 128]⟩
abbrev S2x2x8448x4x128 : Shape := ⟨5, ![2, 2, 8448, 4, 128]⟩
abbrev S8448x2x2x4x128 : Shape := ⟨5, ![8448, 2, 2, 4, 128]⟩
abbrev S2x256x4x256 : Shape := ⟨4, ![2, 256, 4, 256]⟩
abbrev S2x8192x4x256 : Shape := ⟨4, ![2, 8192, 4, 256]⟩
abbrev S1x2x8448x4x256 : Shape := ⟨5, ![1, 2, 8448, 4, 256]⟩
abbrev S2x2x8448x4x256 : Shape := ⟨5, ![2, 2, 8448, 4, 256]⟩
abbrev S8448x2x2x4x256 : Shape := ⟨5, ![8448, 2, 2, 4, 256]⟩
abbrev S1x2x2x4x128 : Shape := ⟨5, ![1, 2, 2, 4, 128]⟩
abbrev S2x2x4x128 : Shape := ⟨4, ![2, 2, 4, 128]⟩
abbrev S1x2x2x4x256 : Shape := ⟨5, ![1, 2, 2, 4, 256]⟩
abbrev S2x2x4x256 : Shape := ⟨4, ![2, 2, 4, 256]⟩
abbrev S2x1x4x1x1 : Shape := ⟨5, ![2, 1, 4, 1, 1]⟩
abbrev S2x2x4x128x1 : Shape := ⟨5, ![2, 2, 4, 128, 1]⟩
abbrev S2x2x4x1x256 : Shape := ⟨5, ![2, 2, 4, 1, 256]⟩
abbrev S2x2x8448x1024 : Shape := ⟨4, ![2, 2, 8448, 1024]⟩
abbrev S1x2x8448x1024 : Shape := ⟨4, ![1, 2, 8448, 1024]⟩
abbrev S2x256x1024 : Shape := ⟨3, ![2, 256, 1024]⟩
abbrev S2x8192x1024 : Shape := ⟨3, ![2, 8192, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2x8448x512, .bf16⟩
  | .hbm, ⟨1, _⟩ => ⟨S2x4x128x8448, .bf16⟩
  | .hbm, ⟨2, _⟩ => ⟨S2x8448x14336, .bf16⟩
  | .hbm, ⟨3, _⟩ => ⟨S2x4, .f32⟩
  | .hbm, ⟨4, _⟩ => ⟨S2x8448x512, .f32⟩
  | .hbm, ⟨5, _⟩ => ⟨S2x8448x4x128, .f32⟩
  | .hbm, ⟨6, _⟩ => ⟨S2x4x128x8448, .f32⟩
  | .hbm, ⟨7, _⟩ => ⟨S2x8448x4x128, .f32⟩
  | .hbm, ⟨8, _⟩ => ⟨S2x8448x1024, .bf16⟩
  | .hbm, ⟨9, _⟩ => ⟨S2x8448x1024, .f32⟩
  | .hbm, ⟨10, _⟩ => ⟨S2x8448x4x256, .f32⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S_, .f32⟩
  | .hbm, ⟨17, _⟩ => ⟨S2x2x4x128x256, .f32⟩
  | .hbm, ⟨18, _⟩ => ⟨S2x256x4x128, .f32⟩
  | .hbm, ⟨19, _⟩ => ⟨S2x256x4x128, .f32⟩
  | .hbm, ⟨20, _⟩ => ⟨S2x8192x4x128, .f32⟩
  | .hbm, ⟨21, _⟩ => ⟨S2x8192x4x128, .f32⟩
  | .hbm, ⟨22, _⟩ => ⟨S2x8448x4x128, .f32⟩
  | .hbm, ⟨23, _⟩ => ⟨S1x2x8448x4x128, .f32⟩
  | .hbm, ⟨24, _⟩ => ⟨S1x2x8448x4x128, .f32⟩
  | .hbm, ⟨25, _⟩ => ⟨S2x2x8448x4x128, .f32⟩
  | .hbm, ⟨26, _⟩ => ⟨S8448x2x2x4x128, .f32⟩
  | .hbm, ⟨27, _⟩ => ⟨S2x256x4x128, .f32⟩
  | .hbm, ⟨28, _⟩ => ⟨S2x256x4x128, .f32⟩
  | .hbm, ⟨29, _⟩ => ⟨S2x8192x4x128, .f32⟩
  | .hbm, ⟨30, _⟩ => ⟨S2x8192x4x128, .f32⟩
  | .hbm, ⟨31, _⟩ => ⟨S2x8448x4x128, .f32⟩
  | .hbm, ⟨32, _⟩ => ⟨S1x2x8448x4x128, .f32⟩
  | .hbm, ⟨33, _⟩ => ⟨S1x2x8448x4x128, .f32⟩
  | .hbm, ⟨34, _⟩ => ⟨S2x2x8448x4x128, .f32⟩
  | .hbm, ⟨35, _⟩ => ⟨S8448x2x2x4x128, .f32⟩
  | .hbm, ⟨36, _⟩ => ⟨S2x256x4x256, .f32⟩
  | .hbm, ⟨37, _⟩ => ⟨S2x256x4x256, .f32⟩
  | .hbm, ⟨38, _⟩ => ⟨S2x8192x4x256, .f32⟩
  | .hbm, ⟨39, _⟩ => ⟨S2x8192x4x256, .f32⟩
  | .hbm, ⟨40, _⟩ => ⟨S2x8448x4x256, .f32⟩
  | .hbm, ⟨41, _⟩ => ⟨S1x2x8448x4x256, .f32⟩
  | .hbm, ⟨42, _⟩ => ⟨S1x2x8448x4x256, .f32⟩
  | .hbm, ⟨43, _⟩ => ⟨S2x2x8448x4x256, .f32⟩
  | .hbm, ⟨44, _⟩ => ⟨S8448x2x2x4x256, .f32⟩
  | .hbm, ⟨45, _⟩ => ⟨S_, .f32⟩
  | .hbm, ⟨46, _⟩ => ⟨S8448x2x2x4x256, .f32⟩
  | .hbm, ⟨47, _⟩ => ⟨S_, .i32⟩
  | .hbm, ⟨48, _⟩ => ⟨S8448x2x2x4x128, .f32⟩
  | .hbm, ⟨49, _⟩ => ⟨S8448x2x2x4x128, .f32⟩
  | .hbm, ⟨50, _⟩ => ⟨S8448x2x2x4x256, .f32⟩
  | .hbm, ⟨51, _⟩ => ⟨S2x4, .f32⟩
  | .hbm, ⟨52, _⟩ => ⟨S_, .i32⟩
  | .hbm, ⟨53, _⟩ => ⟨S2x2x4x128x256, .f32⟩
  | .hbm, ⟨54, _⟩ => ⟨S8448x2x2x4x256, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x2x2x4x128, .f32⟩
  | .hbm, ⟨62, _⟩ => ⟨S2x2x4x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x2x2x4x128, .f32⟩
  | .hbm, ⟨68, _⟩ => ⟨S2x2x4x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x2x2x4x256, .f32⟩
  | .hbm, ⟨74, _⟩ => ⟨S2x2x4x256, .f32⟩
  | .hbm, ⟨75, _⟩ => ⟨S2x1x4x1x1, .f32⟩
  | .hbm, ⟨76, _⟩ => ⟨S2x2x4x128x256, .f32⟩
  | .hbm, ⟨77, _⟩ => ⟨S2x2x4x128x256, .f32⟩
  | .hbm, ⟨78, _⟩ => ⟨S2x2x4x128x1, .f32⟩
  | .hbm, ⟨79, _⟩ => ⟨S2x2x4x1x256, .f32⟩
  | .hbm, ⟨80, _⟩ => ⟨S2x2x4x128x256, .f32⟩
  | .hbm, ⟨81, _⟩ => ⟨S2x2x4x128x256, .f32⟩
  | .hbm, ⟨82, _⟩ => ⟨S2x2x4x128x256, .f32⟩
  | .hbm, ⟨83, _⟩ => ⟨S2x2x4x128x256, .f32⟩
  | .hbm, ⟨84, _⟩ => ⟨S2x2x4x128x1, .f32⟩
  | .hbm, ⟨85, _⟩ => ⟨S2x2x4x128x256, .f32⟩
  | .hbm, ⟨86, _⟩ => ⟨S2x2x4x128x256, .f32⟩
  | .hbm, ⟨87, _⟩ => ⟨S_, .f32⟩
  | .hbm, ⟨88, _⟩ => ⟨S2x2x4x256, .f32⟩
  | .hbm, ⟨89, _⟩ => ⟨S1x2x2x4x256, .f32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S8448x2x2x4x256, .f32⟩
  | .hbm, ⟨95, _⟩ => ⟨S_, .i32⟩
  | .hbm, ⟨96, _⟩ => ⟨S_, .i32⟩
  | .hbm, ⟨97, _⟩ => ⟨S2x2x8448x4x256, .f32⟩
  | .hbm, ⟨98, _⟩ => ⟨S2x2x8448x1024, .f32⟩
  | .hbm, ⟨99, _⟩ => ⟨S1x2x8448x1024, .f32⟩
  | .hbm, ⟨100, _⟩ => ⟨S2x8448x1024, .f32⟩
  | .hbm, ⟨101, _⟩ => ⟨S2x8448x1024, .bf16⟩
  | .hbm, ⟨102, _⟩ => ⟨S1x2x8448x1024, .f32⟩
  | .hbm, ⟨103, _⟩ => ⟨S2x8448x1024, .f32⟩
  | .hbm, ⟨104, _⟩ => ⟨S2x256x1024, .f32⟩
  | .hbm, ⟨105, _⟩ => ⟨S2x256x1024, .f32⟩
  | .hbm, ⟨106, _⟩ => ⟨S2x8192x1024, .f32⟩
  | .hbm, ⟨107, _⟩ => ⟨S2x8192x1024, .f32⟩
  | .hbm, ⟨108, _⟩ => ⟨S2x8448x1024, .f32⟩
  | .hbm, ⟨109, _⟩ => ⟨S2x8448x1024, .bf16⟩
  | _, _ => ⟨S2x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_c : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev main_v41_4 : Ref sig .tc := ⟨.hbm, 52, rfl⟩
abbrev main_v41_5 : Ref sig .tc := ⟨.hbm, 53, rfl⟩
abbrev main_v41_6 : Ref sig .tc := ⟨.hbm, 54, rfl⟩
abbrev main_while0c_c_7 : Ref sig .tc := ⟨.hbm, 55, rfl⟩
abbrev main_while0c_v55 : Ref sig .tc := ⟨.hbm, 56, rfl⟩
abbrev main_while0b_call6_c : Ref sig .tc := ⟨.hbm, 57, rfl⟩
abbrev main_while0b_call6_c_0 : Ref sig .tc := ⟨.hbm, 58, rfl⟩
abbrev main_while0b_call6_c_1 : Ref sig .tc := ⟨.hbm, 59, rfl⟩
abbrev main_while0b_call6_c_2 : Ref sig .tc := ⟨.hbm, 60, rfl⟩
abbrev main_while0b_call6_v0 : Ref sig .tc := ⟨.hbm, 61, rfl⟩
abbrev main_while0b_v55 : Ref sig .tc := ⟨.hbm, 62, rfl⟩
abbrev main_while0b_call7_c : Ref sig .tc := ⟨.hbm, 63, rfl⟩
abbrev main_while0b_call7_c_0 : Ref sig .tc := ⟨.hbm, 64, rfl⟩
abbrev main_while0b_call7_c_1 : Ref sig .tc := ⟨.hbm, 65, rfl⟩
abbrev main_while0b_call7_c_2 : Ref sig .tc := ⟨.hbm, 66, rfl⟩
abbrev main_while0b_call7_v0 : Ref sig .tc := ⟨.hbm, 67, rfl⟩
abbrev main_while0b_v56 : Ref sig .tc := ⟨.hbm, 68, rfl⟩
abbrev main_while0b_call8_c : Ref sig .tc := ⟨.hbm, 69, rfl⟩
abbrev main_while0b_call8_c_0 : Ref sig .tc := ⟨.hbm, 70, rfl⟩
abbrev main_while0b_call8_c_1 : Ref sig .tc := ⟨.hbm, 71, rfl⟩
abbrev main_while0b_call8_c_2 : Ref sig .tc := ⟨.hbm, 72, rfl⟩
abbrev main_while0b_call8_v0 : Ref sig .tc := ⟨.hbm, 73, rfl⟩
abbrev main_while0b_v57 : Ref sig .tc := ⟨.hbm, 74, rfl⟩
abbrev main_while0b_v58 : Ref sig .tc := ⟨.hbm, 75, rfl⟩
abbrev main_while0b_v59 : Ref sig .tc := ⟨.hbm, 76, rfl⟩
abbrev main_while0b_v60 : Ref sig .tc := ⟨.hbm, 77, rfl⟩
abbrev main_while0b_v61 : Ref sig .tc := ⟨.hbm, 78, rfl⟩
abbrev main_while0b_v62 : Ref sig .tc := ⟨.hbm, 79, rfl⟩
abbrev main_while0b_v63 : Ref sig .tc := ⟨.hbm, 80, rfl⟩
abbrev main_while0b_v64 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_cst_7 : Ref sig .tc := ⟨.hbm, 87, rfl⟩
abbrev main_while0b_v70 : Ref sig .tc := ⟨.hbm, 88, rfl⟩
abbrev main_while0b_call9_v0 : Ref sig .tc := ⟨.hbm, 89, rfl⟩
abbrev main_while0b_call9_c : Ref sig .tc := ⟨.hbm, 90, rfl⟩
abbrev main_while0b_call9_c_0 : Ref sig .tc := ⟨.hbm, 91, rfl⟩
abbrev main_while0b_call9_c_1 : Ref sig .tc := ⟨.hbm, 92, rfl⟩
abbrev main_while0b_call9_c_2 : Ref sig .tc := ⟨.hbm, 93, rfl⟩
abbrev main_while0b_v71 : Ref sig .tc := ⟨.hbm, 94, rfl⟩
abbrev main_while0b_c_8 : Ref sig .tc := ⟨.hbm, 95, rfl⟩
abbrev main_while0b_v72 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩

abbrev nD : Nat := 1
abbrev τ : Topo := Topo.v7x

variable {F : FTy → Type} [FloatOps F]

abbrev main_while0_count : Scf.Loop 32 := ⟨0#32, 8448#32, 1#32⟩
-- ==== Kernel2.lean ====
abbrev S2x8448x1024 : Shape := ⟨3, ![2, 8448, 1024]⟩
abbrev S8x3072 : Shape := ⟨2, ![8, 3072]⟩
abbrev S1024 : Shape := ⟨1, ![1024]⟩
abbrev S1024x14352 : Shape := ⟨2, ![1024, 14352]⟩
abbrev S1024x3072 : Shape := ⟨2, ![1024, 3072]⟩
abbrev S1024x11264 : Shape := ⟨2, ![1024, 11264]⟩
abbrev S1024x14336 : Shape := ⟨2, ![1024, 14336]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S2x8448x14336 : Shape := ⟨3, ![2, 8448, 14336]⟩
abbrev S2x8448x128 : Shape := ⟨3, ![2, 8448, 128]⟩
abbrev S1x1056x1024 : Shape := ⟨3, ![1, 1056, 1024]⟩
abbrev S1024x3584 : Shape := ⟨2, ![1024, 3584]⟩
abbrev S1x1056x3584 : Shape := ⟨3, ![1, 1056, 3584]⟩
abbrev S1x1056x128 : Shape := ⟨3, ![1, 1056, 128]⟩
abbrev S1056x1024 : Shape := ⟨2, ![1056, 1024]⟩
abbrev S1056 : Shape := ⟨1, ![1056]⟩
abbrev S1056x1 : Shape := ⟨2, ![1056, 1]⟩
abbrev S1056x128 : Shape := ⟨2, ![1056, 128]⟩
abbrev S1024x512 : Shape := ⟨2, ![1024, 512]⟩
abbrev S1056x512 : Shape := ⟨2, ![1056, 512]⟩
abbrev S1x1056x512 : Shape := ⟨3, ![1, 1056, 512]⟩

abbrev nBuf : Space → Nat
  | .hbm => 16
  | .vmem => 12
  | .smem => 0
  | _ => 0

abbrev bufTy : (tb : Table) → Fin (tcTables nBuf tb) → BufTy
  | .hbm, ⟨0, _⟩ => ⟨S2x8448x1024, .f32⟩
  | .hbm, ⟨1, _⟩ => ⟨S8x3072, .f32⟩
  | .hbm, ⟨2, _⟩ => ⟨S1024, .f32⟩
  | .hbm, ⟨3, _⟩ => ⟨S1024x14352, .f32⟩
  | .hbm, ⟨4, _⟩ => ⟨S1024x3072, .f32⟩
  | .hbm, ⟨5, _⟩ => ⟨S1024x11264, .f32⟩
  | .hbm, ⟨6, _⟩ => ⟨S1024x14336, .f32⟩
  | .hbm, ⟨7, _⟩ => ⟨S1024x14336, .bf16⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1x1024, .f32⟩
  | .hbm, ⟨14, _⟩ => ⟨S2x8448x14336, .bf16⟩
  | .hbm, ⟨15, _⟩ => ⟨S2x8448x128, .f32⟩
  | .local _ .vmem, ⟨0, _⟩ => ⟨S1x1056x1024, .f32⟩
  | .local _ .vmem, ⟨1, _⟩ => ⟨S1x1056x1024, .f32⟩
  | .local _ .vmem, ⟨2, _⟩ => ⟨S8x3072, .f32⟩
  | .local _ .vmem, ⟨3, _⟩ => ⟨S1x1024, .f32⟩
  | .local _ .vmem, ⟨4, _⟩ => ⟨S1024x3584, .bf16⟩
  | .local _ .vmem, ⟨5, _⟩ => ⟨S1024x3584, .bf16⟩
  | .local _ .vmem, ⟨6, _⟩ => ⟨S1024x128, .bf16⟩
  | .local _ .vmem, ⟨7, _⟩ => ⟨S1x1056x3584, .bf16⟩
  | .local _ .vmem, ⟨8, _⟩ => ⟨S1x1056x3584, .bf16⟩
  | .local _ .vmem, ⟨9, _⟩ => ⟨S1x1056x128, .f32⟩
  | .local _ .vmem, ⟨10, _⟩ => ⟨S1x1056x128, .f32⟩
  | .local _ .vmem, ⟨11, _⟩ => ⟨S1056x1024, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v38 : Index := Scalar.indexCast arg0
  let c0_13 : Index := 0#32
  ![v38.toNat, 0]
def k0_off2 (i : grid0.Coords) : Fin 2 → Nat :=
  let arg0 : BitVec 32 := BitVec.ofNat 32 (i 0).val
  let v48 : Index := Scalar.indexCast arg0
  let c1024_15 : Index := 1024#32
  ![v48.toNat, 1024]
def k0_cond2 (i : grid0.Coords) : BitVec 1 :=
  let arg2 : BitVec 32 := BitVec.ofNat 32 (i 2).val
  let c2_i32 : BitVec 32 := 2#32
  let v3 : BitVec 1 := Scalar.cmpi .eq arg2 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c0_i32_2 : BitVec 32 := 0#32
  let v6 : BitVec 1 := Scalar.cmpi .eq arg2 c0_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1056x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1056x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S2x8448x1024 : Shape := ⟨3, ![2, 8448, 1024]⟩
abbrev S8x3072 : Shape := ⟨2, ![8, 3072]⟩
abbrev S1024 : Shape := ⟨1, ![1024]⟩
abbrev S1024x14352 : Shape := ⟨2, ![1024, 14352]⟩
abbrev S2x256x1024 : Shape := ⟨3, ![2, 256, 1024]⟩
abbrev S1x1024 : Shape := ⟨2, ![1, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x8192x1024 : Shape := ⟨3, ![2, 8192, 1024]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S2x8448x14352 : Shape := ⟨3, ![2, 8448, 14352]⟩
abbrev S2x8448x2048 : Shape := ⟨3, ![2, 8448, 2048]⟩
abbrev S2x8448x8 : Shape := ⟨3, ![2, 8448, 8]⟩
abbrev S2x8448x512 : Shape := ⟨3, ![2, 8448, 512]⟩
abbrev S2x8448x3072 : Shape := ⟨3, ![2, 8448, 3072]⟩
abbrev S2x8448x14336 : Shape := ⟨3, ![2, 8448, 14336]⟩
abbrev S2x8448x112 : Shape := ⟨3, ![2, 8448, 112]⟩
abbrev S2x8448x128 : Shape := ⟨3, ![2, 8448, 128]⟩

abbrev nBuf : Space → Nat
  | .hbm => 134
  | .vmem => 0
  | .smem => 0
  | _ => 0

abbrev hbmTy0_0 (i : Nat) : BufTy := match i % 128 with
  | 0 => ⟨S2x8448x1024, .f32⟩
  | 1 => ⟨S8x3072, .f32⟩
  | 2 => ⟨S1024, .f32⟩
  | 3 => ⟨S1024x14352, .f32⟩
  | 4 => ⟨S2x256x1024, .f32⟩
  | 5 => ⟨S1x1024, .f32⟩
  | 6 => ⟨S1024, .f32⟩
  | 7 => ⟨S1x1024, .f32⟩
  | 8 => ⟨S1024, .f32⟩
  | 9 => ⟨S2x256x1024, .f32⟩
  | 10 => ⟨S_, .f32⟩
  | 11 => ⟨S2x256, .f32⟩
  | 12 => ⟨S2x256x1, .f32⟩
  | 13 => ⟨S_, .f32⟩
  | 14 => ⟨S2x256x1, .f32⟩
  | 15 => ⟨S2x256x1, .f32⟩
  | 16 => ⟨S_, .f32⟩
  | 17 => ⟨S2x256x1, .f32⟩
  | 18 => ⟨S2x256x1, .f32⟩
  | 19 => ⟨S2x256x1, .f32⟩
  | 20 => ⟨S2x256x1024, .f32⟩
  | 21 => ⟨S2x256x1024, .f32⟩
  | 22 => ⟨S1x1x1024, .f32⟩
  | 23 => ⟨S2x256x1024, .f32⟩
  | 24 => ⟨S2x256x1024, .f32⟩
  | 25 => ⟨S_, .f32⟩
  | 26 => ⟨S1024, .f32⟩
  | 27 => ⟨S1024, .f32⟩
  | 28 => ⟨S1x1x1024, .f32⟩
  | 29 => ⟨S2x256x1024, .f32⟩
  | 30 => ⟨S2x256x1024, .f32⟩
  | 31 => ⟨S1x1x1024, .f32⟩
  | 32 => ⟨S2x256x1024, .f32⟩
  | 33 => ⟨S2x256x1024, .f32⟩
  | 34 => ⟨S2x8192x1024, .f32⟩
  | 35 => ⟨S2x1024, .f32⟩
  | 36 => ⟨S2x1x1024, .f32⟩
  | 37 => ⟨S2x1024, .f32⟩
  | 38 => ⟨S2x1x1024, .f32⟩
  | 39 => ⟨S2x8192x1024, .f32⟩
  | 40 => ⟨S_, .f32⟩
  | 41 => ⟨S2x8192, .f32⟩
  | 42 => ⟨S2x8192x1, .f32⟩
  | 43 => ⟨S_, .f32⟩
  | 44 => ⟨S2x8192x1, .f32⟩
  | 45 => ⟨S2x8192x1, .f32⟩
  | 46 => ⟨S_, .f32⟩
  | 47 => ⟨S2x8192x1, .f32⟩
  | 48 => ⟨S2x8192x1, .f32⟩
  | 49 => ⟨S2x8192x1, .f32⟩
  | 50 => ⟨S2x8192x1024, .f32⟩
  | 51 => ⟨S2x8192x1024, .f32⟩
  | 52 => ⟨S1x1x1024, .f32⟩
  | 53 => ⟨S2x8192x1024, .f32⟩
  | 54 => ⟨S2x8192x1024, .f32⟩
  | 55 => ⟨S_, .f32⟩
  | 56 => ⟨S2x1x1024, .f32⟩
  | 57 => ⟨S2x1x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S2x8448x1024, .f32⟩
  | 63 => ⟨S2x8448x14352, .f32⟩
  | 64 => ⟨S2x8448x2048, .f32⟩
  | 65 => ⟨S2x8448x1024, .f32⟩
  | 66 => ⟨S2x8448x8, .f32⟩
  | 67 => ⟨S2x8448x8, .f32⟩
  | 68 => ⟨S2x8448x512, .f32⟩
  | 69 => ⟨S2x8448x512, .f32⟩
  | 70 => ⟨S2x8448x1024, .f32⟩
  | 71 => ⟨S2x8448x1024, .f32⟩
  | 72 => ⟨S2x8448x1024, .f32⟩
  | 73 => ⟨S2x8448x2048, .f32⟩
  | 74 => ⟨S2x8448x1024, .f32⟩
  | 75 => ⟨S2x8448x1024, .f32⟩
  | 76 => ⟨S2x8448x3072, .f32⟩
  | 77 => ⟨S2x8448x1024, .f32⟩
  | 78 => ⟨S2x8448x1024, .f32⟩
  | 79 => ⟨S_, .f32⟩
  | 80 => ⟨S2x8448x1024, .f32⟩
  | 81 => ⟨S2x8448x1024, .f32⟩
  | 82 => ⟨S_, .f32⟩
  | 83 => ⟨S2x8448x1024, .f32⟩
  | 84 => ⟨S2x8448x1024, .f32⟩
  | 85 => ⟨S2x8448x1024, .f32⟩
  | 86 => ⟨S2x8448x1024, .f32⟩
  | 87 => ⟨S2x8448x1024, .f32⟩
  | 88 => ⟨S_, .f32⟩
  | 89 => ⟨S2x8448x1024, .f32⟩
  | 90 => ⟨S2x8448x1024, .f32⟩
  | 91 => ⟨S_, .f32⟩
  | 92 => ⟨S2x8448x1024, .f32⟩
  | 93 => ⟨S2x8448x1024, .f32⟩
  | 94 => ⟨S2x8448x1024, .f32⟩
  | 95 => ⟨S2x8448x1024, .f32⟩
  | 96 => ⟨S2x8448x1024, .f32⟩
  | 97 => ⟨S_, .f32⟩
  | 98 => ⟨S2x8448x1024, .f32⟩
  | 99 => ⟨S2x8448x1024, .f32⟩
  | 100 => ⟨S_, .f32⟩
  | 101 => ⟨S2x8448x1024, .f32⟩
  | 102 => ⟨S2x8448x1024, .f32⟩
  | 103 => ⟨S2x8448x1024, .f32⟩
  | 104 => ⟨S2x8448x2048, .f32⟩
  | 105 => ⟨S2x8448x2048, .f32⟩
  | 106 => ⟨S_, .f32⟩
  | 107 => ⟨S2x8448x2048, .f32⟩
  | 108 => ⟨S2x8448x2048, .f32⟩
  | 109 => ⟨S_, .f32⟩
  | 110 => ⟨S2x8448x2048, .f32⟩
  | 111 => ⟨S2x8448x2048, .f32⟩
  | 112 => ⟨S2x8448x1024, .f32⟩
  | 113 => ⟨S2x8448x1024, .f32⟩
  | 114 => ⟨S_, .f32⟩
  | 115 => ⟨S2x8448x1024, .f32⟩
  | 116 => ⟨S2x8448x1024, .f32⟩
  | 117 => ⟨S_, .f32⟩
  | 118 => ⟨S2x8448x1024, .f32⟩
  | 119 => ⟨S2x8448x1024, .f32⟩
  | 120 => ⟨S2x8448x1024, .f32⟩
  | 121 => ⟨S2x8448x3072, .f32⟩
  | 122 => ⟨S2x8448x3072, .f32⟩
  | 123 => ⟨S_, .f32⟩
  | 124 => ⟨S2x8448x3072, .f32⟩
  | 125 => ⟨S2x8448x3072, .f32⟩
  | 126 => ⟨S_, .f32⟩
  | 127 => ⟨S2x8448x3072, .f32⟩
  | _ => ⟨S2x8448x1024, .f32⟩

abbrev hbmTy0_1 (i : Nat) : BufTy := match i % 128 with
  | 0 => ⟨S2x8448x3072, .f32⟩
  | 1 => ⟨S2x8448x14336, .f32⟩
  | 2 => ⟨S_, .f32⟩
  | 3 => ⟨S2x8448x112, .f32⟩
  | 4 => ⟨S2x8448x128, .f32⟩
  | 5 => ⟨S2x8448x14336, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_cst_8 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_9 : Ref sig .tc := ⟨.hbm, 88, rfl⟩
abbrev main_v74 : Ref sig .tc := ⟨.hbm, 89, rfl⟩
abbrev main_v75 : Ref sig .tc := ⟨.hbm, 90, rfl⟩
abbrev main_cst_10 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_11 : Ref sig .tc := ⟨.hbm, 97, rfl⟩
abbrev main_v81 : Ref sig .tc := ⟨.hbm, 98, rfl⟩
abbrev main_v82 : Ref sig .tc := ⟨.hbm, 99, rfl⟩
abbrev main_cst_12 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_13 : Ref sig .tc := ⟨.hbm, 106, rfl⟩
abbrev main_v88 : Ref sig .tc := ⟨.hbm, 107, rfl⟩
abbrev main_v89 : Ref sig .tc := ⟨.hbm, 108, rfl⟩
abbrev main_cst_14 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_15 : Ref sig .tc := ⟨.hbm, 114, rfl⟩
abbrev main_v94 : Ref sig .tc := ⟨.hbm, 115, rfl⟩
abbrev main_v95 : Ref sig .tc := ⟨.hbm, 116, rfl⟩
abbrev main_cst_16 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_17 : Ref sig .tc := ⟨.hbm, 123, rfl⟩
abbrev main_v101 : Ref sig .tc := ⟨.hbm, 124, rfl⟩
abbrev main_v102 : Ref sig .tc := ⟨.hbm, 125, rfl⟩
abbrev main_cst_18 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_19 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩

abbrev nD : Nat := 1
abbrev τ : Topo := Topo.v7x

variable {F : FTy → Type} [FloatOps F]
-- ==== Kernel3.lean ====
abbrev S2x8448x1024 : Shape := ⟨3, ![2, 8448, 1024]⟩
abbrev S2x8448x14336 : Shape := ⟨3, ![2, 8448, 14336]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S1x256 : Shape := ⟨2, ![1, 256]⟩
abbrev S1x128 : Shape := ⟨2, ![1, 128]⟩
abbrev S1x1024 : Shape := ⟨2, ![1, 1024]⟩
abbrev S1x256x1024 : Shape := ⟨3, ![1, 256, 1024]⟩
abbrev S256x1024 : Shape := ⟨2, ![256, 1024]⟩
abbrev S256x256 : Shape := ⟨2, ![256, 256]⟩
abbrev S256x1 : Shape := ⟨2, ![256, 1]⟩
abbrev S256x128 : Shape := ⟨2, ![256, 128]⟩
abbrev S1x1024x1024 : Shape := ⟨3, ![1, 1024, 1024]⟩

abbrev nBuf : Space → Nat
  | .hbm => 22
  | .vmem => 35
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .bf16⟩
  | .hbm, ⟨2, _⟩ => ⟨S2x8448x1024, .bf16⟩
  | .hbm, ⟨3, _⟩ => ⟨S2x8448x1024, .bf16⟩
  | .hbm, ⟨4, _⟩ => ⟨S2x8448x1024, .bf16⟩
  | .hbm, ⟨5, _⟩ => ⟨S2x8448x1024, .bf16⟩
  | .hbm, ⟨6, _⟩ => ⟨S2x8448x14336, .bf16⟩
  | .hbm, ⟨7, _⟩ => ⟨S2x8448x1024, .f32⟩
  | .hbm, ⟨8, _⟩ => ⟨S8x3072, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S3x1024x1024, .f32⟩
  | .hbm, ⟨13, _⟩ => ⟨S1024x1024, .f32⟩
  | .hbm, ⟨14, _⟩ => ⟨S1024, .f32⟩
  | .hbm, ⟨15, _⟩ => ⟨S1x256, .f32⟩
  | .hbm, ⟨16, _⟩ => ⟨S1x256, .f32⟩
  | .hbm, ⟨17, _⟩ => ⟨S1x128, .f32⟩
  | .hbm, ⟨18, _⟩ => ⟨S3x1024x1024, .bf16⟩
  | .hbm, ⟨19, _⟩ => ⟨S1024x1024, .bf16⟩
  | .hbm, ⟨20, _⟩ => ⟨S1x1024, .f32⟩
  | .hbm, ⟨21, _⟩ => ⟨S2x8448x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .f32⟩
  | .local _ .vmem, ⟨25, _⟩ => ⟨S1x256x1024, .f32⟩
  | .local _ .vmem, ⟨26, _⟩ => ⟨S8x3072, .f32⟩
  | .local _ .vmem, ⟨27, _⟩ => ⟨S1x256, .f32⟩
  | .local _ .vmem, ⟨28, _⟩ => ⟨S1x256, .f32⟩
  | .local _ .vmem, ⟨29, _⟩ => ⟨S1x128, .f32⟩
  | .local _ .vmem, ⟨30, _⟩ => ⟨S3x1024x1024, .bf16⟩
  | .local _ .vmem, ⟨31, _⟩ => ⟨S1024x1024, .bf16⟩
  | .local _ .vmem, ⟨32, _⟩ => ⟨S1x1024, .f32⟩
  | .local _ .vmem, ⟨33, _⟩ => ⟨S1x256x1024, .f32⟩
  | .local _ .vmem, ⟨34, _⟩ => ⟨S1x256x1024, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![2, 33], ![false, false]⟩

def k0_off1 (i : grid0.Coords) : Fin 2 → Nat :=
  let arg0 : BitVec 32 := BitVec.ofNat 32 (i 0).val
  let v284 : Index := Scalar.indexCast arg0
  let c2048_103 : Index := 2048#32
  ![v284.toNat, 2048]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let c0_i32_0 : BitVec 32 := 0#32
  ![arg0.toNat, v0.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c5_i32 : BitVec 32 := 5#32
  let c0_i32_0 : BitVec 32 := 0#32
  ![arg0.toNat, v0.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c10_i32 : BitVec 32 := 10#32
  let c0_i32_0 : BitVec 32 := 0#32
  ![arg0.toNat, v0.toNat, c10_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c11_i32 : BitVec 32 := 11#32
  let c0_i32_0 : BitVec 32 := 0#32
  ![arg0.toNat, v0.toNat, c11_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c12_i32 : BitVec 32 := 12#32
  let c0_i32_0 : BitVec 32 := 0#32
  ![arg0.toNat, v0.toNat, c12_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c13_i32 : BitVec 32 := 13#32
  let c0_i32_0 : BitVec 32 := 0#32
  ![arg0.toNat, v0.toNat, c13_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S2x8448x1024 : Shape := ⟨3, ![2, 8448, 1024]⟩
abbrev S2x8448x14336 : Shape := ⟨3, ![2, 8448, 14336]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S2x8448x4x256 : Shape := ⟨4, ![2, 8448, 4, 256]⟩
abbrev S_ : Shape := ⟨0, ![]⟩
abbrev S2x8448x4 : Shape := ⟨3, ![2, 8448, 4]⟩
abbrev S2x8448x4x1 : Shape := ⟨4, ![2, 8448, 4, 1]⟩
abbrev S1x1x1x256 : Shape := ⟨4, ![1, 1, 1, 256]⟩
abbrev S1x1024x1024 : Shape := ⟨3, ![1, 1024, 1024]⟩
abbrev S2x8448x8x128 : Shape := ⟨4, ![2, 8448, 8, 128]⟩
abbrev S2x8448x8 : Shape := ⟨3, ![2, 8448, 8]⟩
abbrev S2x8448x8x1 : Shape := ⟨4, ![2, 8448, 8, 1]⟩
abbrev S1x1x1x128 : Shape := ⟨4, ![1, 1, 1, 128]⟩
abbrev S2x256x1024 : Shape := ⟨3, ![2, 256, 1024]⟩
abbrev S1x1024 : Shape := ⟨2, ![1, 1024]⟩
abbrev S1x1x1024 : Shape := ⟨3, ![1, 1, 1024]⟩
abbrev S2x8192x1024 : Shape := ⟨3, ![2, 8192, 1024]⟩
abbrev S2x1024 : Shape := ⟨2, ![2, 1024]⟩
abbrev S2x1x1024 : Shape := ⟨3, ![2, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .bf16⟩
  | .hbm, ⟨2, _⟩ => ⟨S2x8448x1024, .bf16⟩
  | .hbm, ⟨3, _⟩ => ⟨S2x8448x1024, .bf16⟩
  | .hbm, ⟨4, _⟩ => ⟨S2x8448x1024, .bf16⟩
  | .hbm, ⟨5, _⟩ => ⟨S2x8448x1024, .bf16⟩
  | .hbm, ⟨6, _⟩ => ⟨S2x8448x14336, .bf16⟩
  | .hbm, ⟨7, _⟩ => ⟨S2x8448x1024, .f32⟩
  | .hbm, ⟨8, _⟩ => ⟨S8x3072, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S3x1024x1024, .f32⟩
  | .hbm, ⟨13, _⟩ => ⟨S1024x1024, .f32⟩
  | .hbm, ⟨14, _⟩ => ⟨S1024, .f32⟩
  | .hbm, ⟨15, _⟩ => ⟨S2x8448x1024, .f32⟩
  | .hbm, ⟨16, _⟩ => ⟨S2x8448x1024, .f32⟩
  | .hbm, ⟨17, _⟩ => ⟨S2x8448x1024, .f32⟩
  | .hbm, ⟨18, _⟩ => ⟨S2x8448x4x256, .f32⟩
  | .hbm, ⟨19, _⟩ => ⟨S2x8448x4x256, .f32⟩
  | .hbm, ⟨20, _⟩ => ⟨S_, .f32⟩
  | .hbm, ⟨21, _⟩ => ⟨S2x8448x4, .f32⟩
  | .hbm, ⟨22, _⟩ => ⟨S2x8448x4x1, .f32⟩
  | .hbm, ⟨23, _⟩ => ⟨S_, .f32⟩
  | .hbm, ⟨24, _⟩ => ⟨S2x8448x4x1, .f32⟩
  | .hbm, ⟨25, _⟩ => ⟨S2x8448x4x1, .f32⟩
  | .hbm, ⟨26, _⟩ => ⟨S_, .f32⟩
  | .hbm, ⟨27, _⟩ => ⟨S2x8448x4x1, .f32⟩
  | .hbm, ⟨28, _⟩ => ⟨S2x8448x4x1, .f32⟩
  | .hbm, ⟨29, _⟩ => ⟨S2x8448x4x1, .f32⟩
  | .hbm, ⟨30, _⟩ => ⟨S2x8448x4x256, .f32⟩
  | .hbm, ⟨31, _⟩ => ⟨S2x8448x4x256, .f32⟩
  | .hbm, ⟨32, _⟩ => ⟨S1x1x1x256, .f32⟩
  | .hbm, ⟨33, _⟩ => ⟨S2x8448x4x256, .f32⟩
  | .hbm, ⟨34, _⟩ => ⟨S2x8448x4x256, .f32⟩
  | .hbm, ⟨35, _⟩ => ⟨S2x8448x1024, .f32⟩
  | .hbm, ⟨36, _⟩ => ⟨S2x8448x1024, .bf16⟩
  | .hbm, ⟨37, _⟩ => ⟨S2x8448x1024, .f32⟩
  | .hbm, ⟨38, _⟩ => ⟨S2x8448x1024, .f32⟩
  | .hbm, ⟨39, _⟩ => ⟨S1x1024x1024, .f32⟩
  | .hbm, ⟨40, _⟩ => ⟨S1024x1024, .f32⟩
  | .hbm, ⟨41, _⟩ => ⟨S2x8448x1024, .f32⟩
  | .hbm, ⟨42, _⟩ => ⟨S2x8448x1024, .bf16⟩
  | .hbm, ⟨43, _⟩ => ⟨S2x8448x1024, .f32⟩
  | .hbm, ⟨44, _⟩ => ⟨S2x8448x1024, .f32⟩
  | .hbm, ⟨45, _⟩ => ⟨S2x8448x1024, .f32⟩
  | .hbm, ⟨46, _⟩ => ⟨S2x8448x1024, .f32⟩
  | .hbm, ⟨47, _⟩ => ⟨S2x8448x1024, .f32⟩
  | .hbm, ⟨48, _⟩ => ⟨S2x8448x4x256, .f32⟩
  | .hbm, ⟨49, _⟩ => ⟨S2x8448x4x256, .f32⟩
  | .hbm, ⟨50, _⟩ => ⟨S_, .f32⟩
  | .hbm, ⟨51, _⟩ => ⟨S2x8448x4, .f32⟩
  | .hbm, ⟨52, _⟩ => ⟨S2x8448x4x1, .f32⟩
  | .hbm, ⟨53, _⟩ => ⟨S_, .f32⟩
  | .hbm, ⟨54, _⟩ => ⟨S2x8448x4x1, .f32⟩
  | .hbm, ⟨55, _⟩ => ⟨S2x8448x4x1, .f32⟩
  | .hbm, ⟨56, _⟩ => ⟨S_, .f32⟩
  | .hbm, ⟨57, _⟩ => ⟨S2x8448x4x1, .f32⟩
  | .hbm, ⟨58, _⟩ => ⟨S2x8448x4x1, .f32⟩
  | .hbm, ⟨59, _⟩ => ⟨S2x8448x4x1, .f32⟩
  | .hbm, ⟨60, _⟩ => ⟨S2x8448x4x256, .f32⟩
  | .hbm, ⟨61, _⟩ => ⟨S2x8448x4x256, .f32⟩
  | .hbm, ⟨62, _⟩ => ⟨S1x1x1x256, .f32⟩
  | .hbm, ⟨63, _⟩ => ⟨S2x8448x4x256, .f32⟩
  | .hbm, ⟨64, _⟩ => ⟨S2x8448x4x256, .f32⟩
  | .hbm, ⟨65, _⟩ => ⟨S2x8448x1024, .f32⟩
  | .hbm, ⟨66, _⟩ => ⟨S2x8448x1024, .bf16⟩
  | .hbm, ⟨67, _⟩ => ⟨S2x8448x1024, .f32⟩
  | .hbm, ⟨68, _⟩ => ⟨S2x8448x1024, .f32⟩
  | .hbm, ⟨69, _⟩ => ⟨S1x1024x1024, .f32⟩
  | .hbm, ⟨70, _⟩ => ⟨S1024x1024, .f32⟩
  | .hbm, ⟨71, _⟩ => ⟨S2x8448x1024, .f32⟩
  | .hbm, ⟨72, _⟩ => ⟨S2x8448x1024, .bf16⟩
  | .hbm, ⟨73, _⟩ => ⟨S2x8448x1024, .f32⟩
  | .hbm, ⟨74, _⟩ => ⟨S2x8448x1024, .f32⟩
  | .hbm, ⟨75, _⟩ => ⟨S2x8448x1024, .f32⟩
  | .hbm, ⟨76, _⟩ => ⟨S2x8448x1024, .f32⟩
  | .hbm, ⟨77, _⟩ => ⟨S2x8448x1024, .f32⟩
  | .hbm, ⟨78, _⟩ => ⟨S2x8448x1024, .f32⟩
  | .hbm, ⟨79, _⟩ => ⟨S2x8448x8x128, .f32⟩
  | .hbm, ⟨80, _⟩ => ⟨S2x8448x8x128, .f32⟩
  | .hbm, ⟨81, _⟩ => ⟨S_, .f32⟩
  | .hbm, ⟨82, _⟩ => ⟨S2x8448x8, .f32⟩
  | .hbm, ⟨83, _⟩ => ⟨S2x8448x8x1, .f32⟩
  | .hbm, ⟨84, _⟩ => ⟨S_, .f32⟩
  | .hbm, ⟨85, _⟩ => ⟨S2x8448x8x1, .f32⟩
  | .hbm, ⟨86, _⟩ => ⟨S2x8448x8x1, .f32⟩
  | .hbm, ⟨87, _⟩ => ⟨S_, .f32⟩
  | .hbm, ⟨88, _⟩ => ⟨S2x8448x8x1, .f32⟩
  | .hbm, ⟨89, _⟩ => ⟨S2x8448x8x1, .f32⟩
  | .hbm, ⟨90, _⟩ => ⟨S2x8448x8x1, .f32⟩
  | .hbm, ⟨91, _⟩ => ⟨S2x8448x8x128, .f32⟩
  | .hbm, ⟨92, _⟩ => ⟨S2x8448x8x128, .f32⟩
  | .hbm, ⟨93, _⟩ => ⟨S1x1x1x128, .f32⟩
  | .hbm, ⟨94, _⟩ => ⟨S2x8448x8x128, .f32⟩
  | .hbm, ⟨95, _⟩ => ⟨S2x8448x8x128, .f32⟩
  | .hbm, ⟨96, _⟩ => ⟨S2x8448x1024, .f32⟩
  | .hbm, ⟨97, _⟩ => ⟨S2x8448x1024, .bf16⟩
  | .hbm, ⟨98, _⟩ => ⟨S2x8448x1024, .f32⟩
  | .hbm, ⟨99, _⟩ => ⟨S2x8448x1024, .f32⟩
  | .hbm, ⟨100, _⟩ => ⟨S1x1024x1024, .f32⟩
  | .hbm, ⟨101, _⟩ => ⟨S1024x1024, .f32⟩
  | .hbm, ⟨102, _⟩ => ⟨S2x8448x1024, .f32⟩
  | .hbm, ⟨103, _⟩ => ⟨S2x8448x1024, .bf16⟩
  | .hbm, ⟨104, _⟩ => ⟨S2x8448x1024, .f32⟩
  | .hbm, ⟨105, _⟩ => ⟨S2x8448x1024, .f32⟩
  | .hbm, ⟨106, _⟩ => ⟨S2x8448x1024, .f32⟩
  | .hbm, ⟨107, _⟩ => ⟨S2x8448x1024, .f32⟩
  | .hbm, ⟨108, _⟩ => ⟨S2x256x1024, .f32⟩
  | .hbm, ⟨109, _⟩ => ⟨S1x1024, .f32⟩
  | .hbm, ⟨110, _⟩ => ⟨S1024, .f32⟩
  | .hbm, ⟨111, _⟩ => ⟨S2x256x1024, .f32⟩
  | .hbm, ⟨112, _⟩ => ⟨S1x1x1024, .f32⟩
  | .hbm, ⟨113, _⟩ => ⟨S2x256x1024, .f32⟩
  | .hbm, ⟨114, _⟩ => ⟨S2x256x1024, .f32⟩
  | .hbm, ⟨115, _⟩ => ⟨S2x256x1024, .f32⟩
  | .hbm, ⟨116, _⟩ => ⟨S2x8192x1024, .f32⟩
  | .hbm, ⟨117, _⟩ => ⟨S2x1024, .f32⟩
  | .hbm, ⟨118, _⟩ => ⟨S2x1x1024, .f32⟩
  | .hbm, ⟨119, _⟩ => ⟨S2x8192x1024, .f32⟩
  | .hbm, ⟨120, _⟩ => ⟨S2x8192x1024, .f32⟩
  | .hbm, ⟨121, _⟩ => ⟨S2x8192x1024, .f32⟩
  | .hbm, ⟨122, _⟩ => ⟨S2x8192x1024, .f32⟩
  | .hbm, ⟨123, _⟩ => ⟨S2x8448x1024, .f32⟩
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== Kernel4.lean ====
abbrev S2x8448x1024 : Shape := ⟨3, ![2, 8448, 1024]⟩
abbrev S2x8448x14336 : Shape := ⟨3, ![2, 8448, 14336]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S1x256 : Shape := ⟨2, ![1, 256]⟩
abbrev S1x128 : Shape := ⟨2, ![1, 128]⟩
abbrev S1x1024 : Shape := ⟨2, ![1, 1024]⟩
abbrev S2x8192x1024 : Shape := ⟨3, ![2, 8192, 1024]⟩
abbrev S1x256x1024 : Shape := ⟨3, ![1, 256, 1024]⟩
abbrev S256x1024 : Shape := ⟨2, ![256, 1024]⟩
abbrev S256x256 : Shape := ⟨2, ![256, 256]⟩
abbrev S256x1 : Shape := ⟨2, ![256, 1]⟩
abbrev S256x128 : Shape := ⟨2, ![256, 128]⟩
abbrev S1x1024x1024 : Shape := ⟨3, ![1, 1024, 1024]⟩

abbrev nBuf : Space → Nat
  | .hbm => 22
  | .vmem => 35
  | .smem => 0
  | _ => 0

abbrev bufTy : (tb : Table) → Fin (tcTables nBuf tb) → BufTy
  | .hbm, ⟨0, _⟩ => ⟨S2x8448x1024, .bf16⟩
  | .hbm, ⟨1, _⟩ => ⟨S2x8448x1024, .bf16⟩
  | .hbm, ⟨2, _⟩ => ⟨S2x8448x1024, .bf16⟩
  | .hbm, ⟨3, _⟩ => ⟨S2x8448x1024, .bf16⟩
  | .hbm, ⟨4, _⟩ => ⟨S2x8448x1024, .bf16⟩
  | .hbm, ⟨5, _⟩ => ⟨S2x8448x1024, .bf16⟩
  | .hbm, ⟨6, _⟩ => ⟨S2x8448x14336, .bf16⟩
  | .hbm, ⟨7, _⟩ => ⟨S2x8448x1024, .f32⟩
  | .hbm, ⟨8, _⟩ => ⟨S8x3072, .f32⟩
  | .hbm, ⟨9, _⟩ => ⟨S256, .f32⟩
  | .hbm, ⟨10, _⟩ => ⟨S256, .f32⟩
  | .hbm, ⟨11, _⟩ => ⟨S128, .f32⟩
  | .hbm, ⟨12, _⟩ => ⟨S3x1024x1024, .f32⟩
  | .hbm, ⟨13, _⟩ => ⟨S1024x1024, .f32⟩
  | .hbm, ⟨14, _⟩ => ⟨S1024, .f32⟩
  | .hbm, ⟨15, _⟩ => ⟨S1x256, .f32⟩
  | .hbm, ⟨16, _⟩ => ⟨S1x256, .f32⟩
  | .hbm, ⟨17, _⟩ => ⟨S1x128, .f32⟩
  | .hbm, ⟨18, _⟩ => ⟨S3x1024x1024, .bf16⟩
  | .hbm, ⟨19, _⟩ => ⟨S1024x1024, .bf16⟩
  | .hbm, ⟨20, _⟩ => ⟨S1x1024, .f32⟩
  | .hbm, ⟨21, _⟩ => ⟨S2x8192x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .f32⟩
  | .local _ .vmem, ⟨25, _⟩ => ⟨S1x256x1024, .f32⟩
  | .local _ .vmem, ⟨26, _⟩ => ⟨S8x3072, .f32⟩
  | .local _ .vmem, ⟨27, _⟩ => ⟨S1x256, .f32⟩
  | .local _ .vmem, ⟨28, _⟩ => ⟨S1x256, .f32⟩
  | .local _ .vmem, ⟨29, _⟩ => ⟨S1x128, .f32⟩
  | .local _ .vmem, ⟨30, _⟩ => ⟨S3x1024x1024, .bf16⟩
  | .local _ .vmem, ⟨31, _⟩ => ⟨S1024x1024, .bf16⟩
  | .local _ .vmem, ⟨32, _⟩ => ⟨S1x1024, .f32⟩
  | .local _ .vmem, ⟨33, _⟩ => ⟨S1x256x1024, .f32⟩
  | .local _ .vmem, ⟨34, _⟩ => ⟨S1x256x1024, .f32⟩
  | _, _ => ⟨S2x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg0 : BitVec 32 := BitVec.ofNat 32 (i 0).val
  let v284 : Index := Scalar.indexCast arg0
  let c2048_103 : Index := 2048#32
  ![v284.toNat, 2048]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c0_i32 : BitVec 32 := 0#32
  ![arg0.toNat, v0.toNat, c2_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c5_i32 : BitVec 32 := 5#32
  let c0_i32 : BitVec 32 := 0#32
  ![arg0.toNat, v0.toNat, c5_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let c0_i32 : BitVec 32 := 0#32
  ![arg0.toNat, v0.toNat, c10_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c11_i32 : BitVec 32 := 11#32
  let c0_i32 : BitVec 32 := 0#32
  ![arg0.toNat, v0.toNat, c11_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c12_i32 : BitVec 32 := 12#32
  let c0_i32 : BitVec 32 := 0#32
  ![arg0.toNat, v0.toNat, c12_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c13_i32 : BitVec 32 := 13#32
  let c0_i32 : BitVec 32 := 0#32
  ![arg0.toNat, v0.toNat, c13_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference4Ideal.lean ====
abbrev S2x8448x1024 : Shape := ⟨3, ![2, 8448, 1024]⟩
abbrev S2x8448x14336 : Shape := ⟨3, ![2, 8448, 14336]⟩
abbrev S8x3072 : Shape := ⟨2, ![8, 3072]⟩
abbrev S256 : Shape := ⟨1, ![256]⟩
abbrev S128 : Shape := ⟨1, ![128]⟩
abbrev S3x1024x1024 : Shape := ⟨3, ![3, 1024, 1024]⟩
abbrev S1024x1024 : Shape := ⟨2, ![1024, 1024]⟩
abbrev S1024 : Shape := ⟨1, ![1024]⟩
abbrev S2x8192x1024 : Shape := ⟨3, ![2, 8192, 1024]⟩
abbrev S2x8192x14336 : Shape := ⟨3, ![2, 8192, 14336]⟩
abbrev S2x8192x4x256 : Shape := ⟨4, ![2, 8192, 4, 256]⟩
abbrev S_ : Shape := ⟨0, ![]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S1x1024x1024 : Shape := ⟨3, ![1, 1024, 1024]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 137
  | .vmem => 0
  | .smem => 0
  | _ => 0

abbrev hbmTy0_0 (i : Nat) : BufTy := match i % 128 with
  | 0 => ⟨S2x8448x1024, .bf16⟩
  | 1 => ⟨S2x8448x1024, .bf16⟩
  | 2 => ⟨S2x8448x1024, .bf16⟩
  | 3 => ⟨S2x8448x1024, .bf16⟩
  | 4 => ⟨S2x8448x1024, .bf16⟩
  | 5 => ⟨S2x8448x1024, .bf16⟩
  | 6 => ⟨S2x8448x14336, .bf16⟩
  | 7 => ⟨S2x8448x1024, .f32⟩
  | 8 => ⟨S8x3072, .f32⟩
  | 9 => ⟨S256, .f32⟩
  | 10 => ⟨S256, .f32⟩
  | 11 => ⟨S128, .f32⟩
  | 12 => ⟨S3x1024x1024, .f32⟩
  | 13 => ⟨S1024x1024, .f32⟩
  | 14 => ⟨S1024, .f32⟩
  | 15 => ⟨S2x8192x1024, .bf16⟩
  | 16 => ⟨S2x8192x1024, .bf16⟩
  | 17 => ⟨S2x8192x1024, .bf16⟩
  | 18 => ⟨S2x8192x1024, .bf16⟩
  | 19 => ⟨S2x8192x1024, .bf16⟩
  | 20 => ⟨S2x8192x1024, .bf16⟩
  | 21 => ⟨S2x8192x14336, .bf16⟩
  | 22 => ⟨S2x8192x1024, .f32⟩
  | 23 => ⟨S2x8192x1024, .f32⟩
  | 24 => ⟨S2x8192x1024, .f32⟩
  | 25 => ⟨S2x8192x4x256, .f32⟩
  | 26 => ⟨S2x8192x4x256, .f32⟩
  | 27 => ⟨S_, .f32⟩
  | 28 => ⟨S2x8192x4, .f32⟩
  | 29 => ⟨S2x8192x4x1, .f32⟩
  | 30 => ⟨S_, .f32⟩
  | 31 => ⟨S2x8192x4x1, .f32⟩
  | 32 => ⟨S2x8192x4x1, .f32⟩
  | 33 => ⟨S_, .f32⟩
  | 34 => ⟨S2x8192x4x1, .f32⟩
  | 35 => ⟨S2x8192x4x1, .f32⟩
  | 36 => ⟨S2x8192x4x1, .f32⟩
  | 37 => ⟨S2x8192x4x256, .f32⟩
  | 38 => ⟨S2x8192x4x256, .f32⟩
  | 39 => ⟨S1x1x1x256, .f32⟩
  | 40 => ⟨S2x8192x4x256, .f32⟩
  | 41 => ⟨S2x8192x4x256, .f32⟩
  | 42 => ⟨S2x8192x1024, .f32⟩
  | 43 => ⟨S2x8192x1024, .bf16⟩
  | 44 => ⟨S2x8192x1024, .f32⟩
  | 45 => ⟨S2x8192x1024, .f32⟩
  | 46 => ⟨S1x1024x1024, .f32⟩
  | 47 => ⟨S1024x1024, .f32⟩
  | 48 => ⟨S2x8192x1024, .f32⟩
  | 49 => ⟨S2x8192x1024, .bf16⟩
  | 50 => ⟨S2x8192x1024, .f32⟩
  | 51 => ⟨S2x8192x1024, .f32⟩
  | 52 => ⟨S2x8192x1024, .f32⟩
  | 53 => ⟨S2x8192x1024, .f32⟩
  | 54 => ⟨S2x8192x1024, .f32⟩
  | 55 => ⟨S2x8192x4x256, .f32⟩
  | 56 => ⟨S2x8192x4x256, .f32⟩
  | 57 => ⟨S_, .f32⟩
  | 58 => ⟨S2x8192x4, .f32⟩
  | 59 => ⟨S2x8192x4x1, .f32⟩
  | 60 => ⟨S_, .f32⟩
  | 61 => ⟨S2x8192x4x1, .f32⟩
  | 62 => ⟨S2x8192x4x1, .f32⟩
  | 63 => ⟨S_, .f32⟩
  | 64 => ⟨S2x8192x4x1, .f32⟩
  | 65 => ⟨S2x8192x4x1, .f32⟩
  | 66 => ⟨S2x8192x4x1, .f32⟩
  | 67 => ⟨S2x8192x4x256, .f32⟩
  | 68 => ⟨S2x8192x4x256, .f32⟩
  | 69 => ⟨S1x1x1x256, .f32⟩
  | 70 => ⟨S2x8192x4x256, .f32⟩
  | 71 => ⟨S2x8192x4x256, .f32⟩
  | 72 => ⟨S2x8192x1024, .f32⟩
  | 73 => ⟨S2x8192x1024, .bf16⟩
  | 74 => ⟨S2x8192x1024, .f32⟩
  | 75 => ⟨S2x8192x1024, .f32⟩
  | 76 => ⟨S1x1024x1024, .f32⟩
  | 77 => ⟨S1024x1024, .f32⟩
  | 78 => ⟨S2x8192x1024, .f32⟩
  | 79 => ⟨S2x8192x1024, .bf16⟩
  | 80 => ⟨S2x8192x1024, .f32⟩
  | 81 => ⟨S2x8192x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S2x8192x8x128, .f32⟩
  | 87 => ⟨S2x8192x8x128, .f32⟩
  | 88 => ⟨S_, .f32⟩
  | 89 => ⟨S2x8192x8, .f32⟩
  | 90 => ⟨S2x8192x8x1, .f32⟩
  | 91 => ⟨S_, .f32⟩
  | 92 => ⟨S2x8192x8x1, .f32⟩
  | 93 => ⟨S2x8192x8x1, .f32⟩
  | 94 => ⟨S_, .f32⟩
  | 95 => ⟨S2x8192x8x1, .f32⟩
  | 96 => ⟨S2x8192x8x1, .f32⟩
  | 97 => ⟨S2x8192x8x1, .f32⟩
  | 98 => ⟨S2x8192x8x128, .f32⟩
  | 99 => ⟨S2x8192x8x128, .f32⟩
  | 100 => ⟨S1x1x1x128, .f32⟩
  | 101 => ⟨S2x8192x8x128, .f32⟩
  | 102 => ⟨S2x8192x8x128, .f32⟩
  | 103 => ⟨S2x8192x1024, .f32⟩
  | 104 => ⟨S2x8192x1024, .bf16⟩
  | 105 => ⟨S2x8192x1024, .f32⟩
  | 106 => ⟨S2x8192x1024, .f32⟩
  | 107 => ⟨S1x1024x1024, .f32⟩
  | 108 => ⟨S1024x1024, .f32⟩
  | 109 => ⟨S2x8192x1024, .f32⟩
  | 110 => ⟨S2x8192x1024, .bf16⟩
  | 111 => ⟨S2x8192x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S2x1024, .f32⟩
  | 117 => ⟨S2x1x1024, .f32⟩
  | 118 => ⟨S2x8192x1024, .f32⟩
  | 119 => ⟨S2x8192x1024, .f32⟩
  | 120 => ⟨S2x8192x1024, .f32⟩
  | 121 => ⟨S2x8192x1024, .f32⟩
  | 122 => ⟨S_, .f32⟩
  | 123 => ⟨S2x8192, .f32⟩
  | 124 => ⟨S2x8192x1, .f32⟩
  | 125 => ⟨S_, .f32⟩
  | 126 => ⟨S2x8192x1, .f32⟩
  | 127 => ⟨S2x8192x1, .f32⟩
  | _ => ⟨S2x8448x1024, .bf16⟩

abbrev hbmTy0_1 (i : Nat) : BufTy := match i % 128 with
  | 0 => ⟨S_, .f32⟩
  | 1 => ⟨S2x8192x1, .f32⟩
  | 2 => ⟨S2x8192x1, .f32⟩
  | 3 => ⟨S2x8192x1, .f32⟩
  | 4 => ⟨S2x8192x1024, .f32⟩
  | 5 => ⟨S2x8192x1024, .f32⟩
  | 6 => ⟨S1x1x1024, .f32⟩
  | 7 => ⟨S2x8192x1024, .f32⟩
  | 8 => ⟨S2x8192x1024, .f32⟩
  | _ => ⟨S2x8448x1024, .bf16⟩

abbrev hbmTy (i : Nat) : BufTy := match i / 128 with
  | 0 => hbmTy0_0 i
  | 1 => hbmTy0_1 i
  | _ => ⟨S2x8448x1024, .bf16⟩

abbrev bufTy : (tb : Table) → Fin (tcTables nBuf tb) → BufTy
  | .hbm, ⟨i, _⟩ => hbmTy i
  | _, _ => ⟨S2x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_cst_7 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_8 : Ref sig .tc := ⟨.hbm, 122, rfl⟩
abbrev main_v98 : Ref sig .tc := ⟨.hbm, 123, rfl⟩
abbrev main_v99 : Ref sig .tc := ⟨.hbm, 124, rfl⟩
abbrev main_cst_9 : Ref sig .tc := ⟨.hbm, 125, rfl⟩
abbrev main_v100 : Ref sig .tc := ⟨.hbm, 126, rfl⟩
abbrev main_v101 : Ref sig .tc := ⟨.hbm, 127, rfl⟩
abbrev main_cst_10 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x3072, .f32⟩
  | .hbm, ⟨9, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x1024 : Shape := ⟨2, ![2, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S1x8x3072 : Shape := ⟨3, ![1, 8, 3072]⟩
abbrev S2x8x3072 : Shape := ⟨3, ![2, 8, 3072]⟩

abbrev nBuf : Space → Nat
  | .hbm => 36
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x3072, .f32⟩
  | .hbm, ⟨18, _⟩ => ⟨S1024x3072, .f32⟩
  | .hbm, ⟨19, _⟩ => ⟨S8x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S8x3072, .f32⟩
  | .hbm, ⟨24, _⟩ => ⟨S8x3072, .f32⟩
  | .hbm, ⟨25, _⟩ => ⟨S1x1024x3072, .f32⟩
  | .hbm, ⟨26, _⟩ => ⟨S1024x3072, .f32⟩
  | .hbm, ⟨27, _⟩ => ⟨S8x3072, .f32⟩
  | .hbm, ⟨28, _⟩ => ⟨S1x3072, .f32⟩
  | .hbm, ⟨29, _⟩ => ⟨S3072, .f32⟩
  | .hbm, ⟨30, _⟩ => ⟨S1x3072, .f32⟩
  | .hbm, ⟨31, _⟩ => ⟨S8x3072, .f32⟩
  | .hbm, ⟨32, _⟩ => ⟨S8x3072, .f32⟩
  | .hbm, ⟨33, _⟩ => ⟨S1x8x3072, .f32⟩
  | .hbm, ⟨34, _⟩ => ⟨S1x8x3072, .f32⟩
  | .hbm, ⟨35, _⟩ => ⟨S2x8x3072, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel6.lean ====
abbrev S2x2x1024 : Shape := ⟨3, ![2, 2, 1024]⟩
abbrev S1x2x1024 : Shape := ⟨3, ![1, 2, 1024]⟩
abbrev S2x1024 : Shape := ⟨2, ![2, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x2x1024, .f32⟩
  | .hbm, ⟨1, _⟩ => ⟨S2x2x1024, .f32⟩
  | .local _ .vmem, ⟨0, _⟩ => ⟨S2x2x1024, .f32⟩
  | .local _ .vmem, ⟨1, _⟩ => ⟨S2x2x1024, .f32⟩
  | _, _ => ⟨S2x2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference6Ideal.lean ====
abbrev S2x2x1024 : Shape := ⟨3, ![2, 2, 1024]⟩
abbrev S_ : Shape := ⟨0, ![]⟩
abbrev S2x1024 : Shape := ⟨2, ![2, 1024]⟩
abbrev S1x2x1024 : Shape := ⟨3, ![1, 2, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x2x1024, .f32⟩
  | .hbm, ⟨1, _⟩ => ⟨S_, .f32⟩
  | .hbm, ⟨2, _⟩ => ⟨S2x1024, .f32⟩
  | .hbm, ⟨3, _⟩ => ⟨S1x2x1024, .f32⟩
  | .hbm, ⟨4, _⟩ => ⟨S2x2x1024, .f32⟩
  | .hbm, ⟨5, _⟩ => ⟨S2x2x1024, .f32⟩
  | .hbm, ⟨6, _⟩ => ⟨S2x2x1024, .f32⟩
  | .hbm, ⟨7, _⟩ => ⟨S_, .f32⟩
  | .hbm, ⟨8, _⟩ => ⟨S2x1024, .f32⟩
  | .hbm, ⟨9, _⟩ => ⟨S1x2x1024, .f32⟩
  | .hbm, ⟨10, _⟩ => ⟨S2x2x1024, .f32⟩
  | .hbm, ⟨11, _⟩ => ⟨S2x2x1024, .f32⟩
  | .hbm, ⟨12, _⟩ => ⟨S_, .f32⟩
  | .hbm, ⟨13, _⟩ => ⟨S_, .f32⟩
  | .hbm, ⟨14, _⟩ => ⟨S2x2x1024, .f32⟩
  | .hbm, ⟨15, _⟩ => ⟨S1x2x1024, .f32⟩
  | .hbm, ⟨16, _⟩ => ⟨S2x2x1024, .f32⟩
  | .hbm, ⟨17, _⟩ => ⟨S2x2x1024, .f32⟩
  | _, _ => ⟨S2x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_cst : Ref sig .tc := ⟨.hbm, 12, rfl⟩
abbrev main_call0_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.RetBlock.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

/-- Column `h * 128 + i` of the queries: entry `i` of head `h`. -/
def qcol (h : Fin 4) (i : Fin 128) : Fin 512 := ⟨h * 128 + i, by omega⟩

/-- Column `h * 256 + e` of the values: entry `e` of head `h`. -/
def vcol (h : Fin 4) (e : Fin 256) : Fin 1024 := ⟨h * 256 + e, by omega⟩

theorem qcol_zero (i : Fin 128) : qcol 0 i = ⟨i, by omega⟩ := Fin.ext (Nat.zero_add _)

theorem vcol_zero (e : Fin 256) : vcol 0 e = ⟨e, by omega⟩ := Fin.ext (Nat.zero_add _)

/-- What a grid point computes for row `r` and column `e` of head `h`: the decayed scores against the block's values, and
    the scaled queries against the state the block found. -/
def oBlk (q : FVec Ideal S1x256x512 .bf16) (k : FVec Ideal S1x4x128x256 .bf16) (v : FVec Ideal S1x256x1024 .bf16)
    (s : Fin 128 → Fin 256 → EReal) (dec : Fin 256 → Fin 256 → EReal) (eq : Fin 256 → Fin 128 → EReal)
    (h : Fin 4) (r e : Fin 256) : EReal :=
  (∑ c : Fin 256, ((∑ i : Fin 128, q (ix3 0 r (qcol h i)) * k (ix4 0 h i c)) * dec r c) * v (ix3 0 c (vcol h e)))
    + ∑ i : Fin 128, (q (ix3 0 r (qcol h i)) * eq r i) * s i e

/-- What a grid point leaves in the state of head `h`: the state it found, decayed, and the block's decayed keys against
    its values. -/
def sBlk (k : FVec Ideal S1x4x128x256 .bf16) (v : FVec Ideal S1x256x1024 .bf16)
    (s : Fin 128 → Fin 256 → EReal) (ek : Fin 128 → Fin 256 → EReal) (egl : EReal)
    (h : Fin 4) (i : Fin 128) (e : Fin 256) : EReal :=
  s i e * egl + ∑ c : Fin 256, (k (ix4 0 h i c) * ek i c) * v (ix3 0 c (vcol h e))

/-- The log-sigmoid of a weight, as the kernel writes it. -/
def lamk (x : EReal) : EReal := min x 0 - Ideal.log (1 + Ideal.exp (0 - FloatOps.absf (F := Ideal) (φ := .f32) x))

/-- The decay from place `b` to place `a` of a block: nought where `b` is the later. -/
def decR (x : EReal) (a b : ℕ) : EReal :=
  Ideal.exp (Scalar.select (IntOp.cmpi CmpIPredicate.sge (IntOp.subi (BitVec.ofNat 32 a) (BitVec.ofNat 32 b)) 0#32)
    (FloatOps.sitofp (F := Ideal) FTy.f32 (IntOp.subi (BitVec.ofNat 32 a) (BitVec.ofNat 32 b)) * lamk x)
    (Named.named (F := Ideal) (φ := .f32) κ "mask" 4048155338#32))

/-- The table of decays between the rows of a block. -/
def decT (d : Fin 2) (x : EReal) (r c : Fin 256) : EReal := if d = 0 then decR x r c else decR x c r

/-- The table of the queries' factors. -/
def eqT (d : Fin 2) (x : EReal) (r : Fin 256) : EReal :=
  if d = 0 then Ideal.exp (FloatOps.sitofp (F := Ideal) FTy.f32 (IntOp.addi (BitVec.ofNat 32 r) 1#32) * lamk x)
  else Ideal.exp (FloatOps.sitofp (F := Ideal) FTy.f32 (IntOp.subi 256#32 (BitVec.ofNat 32 r)) * lamk x)

/-- The table of the keys' factors. -/
def ekT (d : Fin 2) (x : EReal) (c : Fin 256) : EReal :=
  if d = 0 then Ideal.exp (FloatOps.sitofp (F := Ideal) FTy.f32 (IntOp.subi 255#32 (BitVec.ofNat 32 c)) * lamk x)
  else Ideal.exp (FloatOps.sitofp (F := Ideal) FTy.f32 (BitVec.ofNat 32 c) * lamk x)

/-- The decay of the state over a block. -/
def eglT (x : EReal) : EReal := Ideal.exp (lamk x * Ideal.ofBits FTy.f32 1132462080#32)

/-- The weight of direction `d` and head `h`, in the row of weights a grid point reads. -/
def wt (c : Dev nD) (t : Fin cfg0.N) (d : Fin 2) (h : Fin 4) : EReal :=
  (iblk m c 6 t : FVec Ideal S1x128 .f32) (ix2 0 ⟨4 * d + h, by omega⟩)

/-- The keys' block that direction `d` works on at a grid point. -/
def kblk (c : Dev nD) (d : Fin 2) (t : Fin cfg0.N) : FVec Ideal S1x4x128x256 .bf16 :=
  if d = 0 then iblk m c 1 t else iblk m c 4 t

/-- The values' block that direction `d` works on at a grid point. -/
def vblk (c : Dev nD) (d : Fin 2) (t : Fin cfg0.N) : FVec Ideal S1x256x1024 .bf16 :=
  if d = 0 then iblk m c 2 t else iblk m c 5 t

end Cert.KernelIdeal.Ret

end
-- ==== Proof.RetMath.lean ====
module

public import Idealize.ShloMosaic.Lib.Pointwise

@[expose] public section

noncomputable section

open Idealize.ShloMosaic

namespace Cert.Ret

open Finset

variable {ι κ : Type} [Fintype ι]

/-- The retention state after `t` tokens: it decays by `g` and takes the token's key against its value. -/
def st (g : ℝ) (K : ℕ → ι → ℝ) (V : ℕ → κ → ℝ) : ℕ → ι → κ → ℝ
  | 0 => fun _ _ => 0
  | t + 1 => fun i j => g * st g K V t i j + K t i * V t j

section Blocks

variable (g : ℝ) (K : ℕ → ι → ℝ) (V : ℕ → κ → ℝ)

/-- The state `m` tokens on: the old state decayed, and each of the new tokens decayed since its own time. -/
theorem st_add (n m : ℕ) (i : ι) (j : κ) :
    st g K V (n + m) i j
      = g ^ m * st g K V n i j + ∑ s ∈ range m, g ^ (m - 1 - s) * (K (n + s) i * V (n + s) j) := by
  induction m with
  | zero => simp
  | succ m ih =>
    rw [← Nat.add_assoc]
    show g * st g K V (n + m) i j + K (n + m) i * V (n + m) j = _
    rw [ih, sum_range_succ, mul_add, mul_sum, pow_succ]
    have : ∀ s ∈ range m, g * (g ^ (m - 1 - s) * (K (n + s) i * V (n + s) j))
        = g ^ (m + 1 - 1 - s) * (K (n + s) i * V (n + s) j) := by
      intro s hs
      have hs := mem_range.1 hs
      rw [show m + 1 - 1 - s = (m - 1 - s) + 1 by omega, pow_succ]
      ring
    rw [sum_congr rfl this]
    simp
    ring

/-- The state after a block of 256 tokens, the block's tokens taken in any order. -/
theorem st_block (n : ℕ) (u : Equiv.Perm (Fin 256)) (i : ι) (j : κ) :
    st g K V (n + 256) i j
      = st g K V n i j * g ^ 256 + ∑ c : Fin 256, (K (n + u c) i * g ^ (255 - (u c : ℕ))) * V (n + u c) j := by
  rw [st_add, Finset.sum_range, Equiv.sum_comp u (fun s : Fin 256 => (K (n + s) i * g ^ (255 - (s : ℕ))) * V (n + s) j)]
  rw [mul_comm]
  refine congrArg _ (sum_congr rfl fun s _ => ?_)
  ring

/-- The readout at a token of a block: the scores decayed by the distance against the values, and the query scaled against
    the state before the block. -/
theorem readout_block (Q : ι → ℝ) (n : ℕ) (u : Equiv.Perm (Fin 256)) (r : Fin 256) (j : κ) :
    ∑ i, Q i * st g K V (n + u r + 1) i j
      = (∑ c : Fin 256, ((∑ i, Q i * K (n + u c) i) * (if (u c : ℕ) ≤ u r then g ^ ((u r : ℕ) - u c) else 0)) * V (n + u c) j)
        + ∑ i, (Q i * g ^ ((u r : ℕ) + 1)) * st g K V n i j := by
  have h : ∀ i, st g K V (n + u r + 1) i j = g ^ ((u r : ℕ) + 1) * st g K V n i j
      + ∑ c : Fin 256, (if (u c : ℕ) ≤ u r then g ^ ((u r : ℕ) - u c) else 0) * (K (n + u c) i * V (n + u c) j) := by
    intro i
    rw [Nat.add_assoc, st_add,
      Equiv.sum_comp u (fun s : Fin 256 => (if (s : ℕ) ≤ u r then g ^ ((u r : ℕ) - s) else 0) * (K (n + s) i * V (n + s) j)),
      ← Finset.sum_range (fun s => (if s ≤ (u r : ℕ) then g ^ ((u r : ℕ) - s) else 0) * (K (n + s) i * V (n + s) j))]
    refine congrArg _ ?_
    have hu : (u r : ℕ) + 1 ≤ 256 := (u r).isLt
    rw [← sum_subset (range_subset_range.2 hu)]
    · refine sum_congr rfl fun s hs => ?_
      have hs := mem_range.1 hs
      rw [if_pos (by omega), show (u r : ℕ) + 1 - 1 - s = u r - s by omega]
    · intro s _ hs
      have hs := mem_range.not.1 hs
      rw [if_neg (by omega), zero_mul]
  simp only [h, mul_add, sum_add_distrib, mul_sum, sum_mul]
  rw [add_comm, sum_comm]
  refine congrArg₂ _ (sum_congr rfl fun c _ => sum_congr rfl fun i _ => ?_) (sum_congr rfl fun i _ => ?_) <;> ring

end Blocks

/-- The token a direction meets at a time: the second direction meets the context backwards, then the latents backwards. -/
def tok (d : Fin 2) (t : ℕ) : Fin 8448 :=
  ⟨(if d = 0 then t else if t < 256 then 255 - t else 8703 - t) % 8448, Nat.mod_lt _ (by decide)⟩

/-- The decay of a weight: the exponential of its log-sigmoid. -/
def gam (x : EReal) : EReal := Ideal.exp (-Ideal.log1p (Ideal.exp (-x)))

/-- The log-sigmoid of a weight, as the least of it and nought less the logarithm of one and its size's exponential. -/
def lam (x : EReal) : EReal := min x 0 - Ideal.log1p (Ideal.exp (-(max x (-x))))

theorem coe_sum {α : Type} (s : Finset α) (f : α → ℝ) : ((∑ a ∈ s, f a : ℝ) : EReal) = ∑ a ∈ s, (f a : EReal) := by
  classical
  induction s using Finset.induction_on with
  | empty => simp
  | insert a s ha ih => rw [sum_insert ha, sum_insert ha, EReal.coe_add, ih]

theorem log_coe {r : ℝ} (h : 0 < r) : Ideal.log (r : EReal) = (Real.log r : EReal) := by
  show (if r ≤ 0 then (⊥ : EReal) else (Real.log r : EReal)) = _
  rw [if_neg (not_le.2 h)]

/-- The logarithm of one and a number's exponential, on the reals. -/
theorem log1p_exp (a : ℝ) : Ideal.log1p (Ideal.exp (a : EReal)) = (Real.log (1 + Real.exp a) : EReal) := by
  show Ideal.log (1 + (Real.exp a : EReal)) = _
  rw [← EReal.coe_one, ← EReal.coe_add, log_coe (by positivity)]

theorem exp_bot : Ideal.exp ⊥ = 0 := rfl
theorem exp_top : Ideal.exp ⊤ = ⊤ := rfl
theorem log_top : Ideal.log ⊤ = ⊤ := rfl

theorem log_one : Ideal.log 1 = 0 := by
  rw [← EReal.coe_one, log_coe one_pos, Real.log_one, EReal.coe_zero]

/-- The log-sigmoid's two spellings agree on the reals. -/
theorem logsig (a : ℝ) : min a 0 - Real.log (1 + Real.exp (-(max a (-a)))) = -Real.log (1 + Real.exp (-a)) := by
  rcases le_total 0 a with h | h
  · rw [min_eq_right h, max_eq_left (by linarith)]; ring
  · rw [min_eq_left h, max_eq_right (by linarith), neg_neg]
    have : 1 + Real.exp (-a) = Real.exp (-a) * (1 + Real.exp a) := by
      rw [mul_add, mul_one, ← Real.exp_add]; simp [add_comm]
    rw [this, Real.log_mul (Real.exp_pos _).ne' (by positivity), Real.log_exp]
    ring

/-- The decay is a real number, and a whole multiple of the log-sigmoid is the exponent of its power. -/
theorem gam_lam (x : EReal) :
    ∃ g : ℝ, gam x = g ∧ ∀ n : ℕ, Ideal.exp (((n : ℝ) : EReal) * lam x) = ((g ^ n : ℝ) : EReal) := by
  induction x using EReal.rec with
  | bot =>
    refine ⟨0, ?_, fun n => ?_⟩
    · have : (1 : EReal) + ⊤ = ⊤ := EReal.coe_add_top 1
      simp only [gam, Ideal.log1p, EReal.neg_bot, exp_top, this, log_top, EReal.neg_top, exp_bot, EReal.coe_zero]
    · have hl : lam ⊥ = ⊥ := by
        simp [lam]
      rw [hl]
      rcases Nat.eq_zero_or_pos n with rfl | hn
      · simp only [Nat.cast_zero, EReal.coe_zero, zero_mul, pow_zero, EReal.coe_one]
        show ((Real.exp 0 : ℝ) : EReal) = 1
        rw [Real.exp_zero, EReal.coe_one]
      · rw [EReal.coe_mul_bot_of_pos (by exact_mod_cast hn), zero_pow hn.ne']
        rfl
  | top =>
    refine ⟨1, ?_, fun n => ?_⟩
    · simp only [gam, Ideal.log1p, EReal.neg_top, exp_bot, add_zero, log_one, neg_zero, EReal.coe_one]
      show ((Real.exp 0 : ℝ) : EReal) = 1
      rw [Real.exp_zero, EReal.coe_one]
    · have hl : lam ⊤ = 0 := by
        simp [lam, Ideal.log1p, log_one, exp_bot]
      rw [hl, mul_zero, one_pow]
      show ((Real.exp 0 : ℝ) : EReal) = _
      rw [Real.exp_zero]
  | coe a =>
    refine ⟨Real.exp (-Real.log (1 + Real.exp (-a))), ?_, fun n => ?_⟩
    · rw [gam, ← EReal.coe_neg, log1p_exp, ← EReal.coe_neg]
      rfl
    · have hl : lam (a : EReal) = ((-Real.log (1 + Real.exp (-a)) : ℝ) : EReal) := by
        rw [← logsig, lam, ← EReal.coe_neg, ← EReal.coe_zero, ← EReal.coe_strictMono.monotone.map_min,
          ← EReal.coe_strictMono.monotone.map_max, ← EReal.coe_neg, log1p_exp, ← EReal.coe_sub]
      rw [hl, ← EReal.coe_mul, ← Real.exp_nat_mul]
      rfl

/-- The order a direction takes a block's rows in. -/
def ord (d : Fin 2) : Equiv.Perm (Fin 256) := if d = 0 then Equiv.refl _ else Fin.revPerm

theorem ord_zero (r : Fin 256) : (ord 0 r : ℕ) = r := rfl

theorem ord_one (r : Fin 256) : (ord 1 r : ℕ) = 255 - r := by
  show (Fin.rev r : ℕ) = _
  rw [Fin.val_rev]; omega

/-- The block a direction works on at its `n`-th step. -/
def blk (d : Fin 2) (n : ℕ) : ℕ := if d = 0 ∨ n = 0 then n else 33 - n

/-- Row `r` of the block of a direction's `n`-th step is the token met at time `256 n` and the row's place in the order. -/
theorem tok_blk (d : Fin 2) (n : ℕ) (hn : n < 33) (r : Fin 256) :
    (tok d (256 * n + ord d r) : ℕ) = 256 * blk d n + r := by
  have hr := r.isLt
  match d with
  | 0 => simp only [tok, blk, ord_zero, ↓reduceIte, true_or]; omega
  | 1 =>
    simp only [tok, blk, ord_one, Fin.isValue, one_ne_zero, ↓reduceIte, false_or]
    rcases Nat.eq_zero_or_pos n with rfl | h
    · simp only [↓reduceIte]; rw [if_pos (by omega)]; omega
    · rw [if_neg (by omega), if_neg (by omega)]; omega

/-- A direction meets the token of time `t` at time `t` of the tokens: the order undoes itself. -/
theorem tok_tok (d : Fin 2) (n : ℕ) (hn : n < 33) (r : Fin 256) :
    (tok d (256 * blk d n + r) : ℕ) = 256 * n + ord d r := by
  have hr := r.isLt
  match d with
  | 0 => simp only [tok, blk, ord_zero, ↓reduceIte, true_or]; omega
  | 1 =>
    simp only [tok, blk, ord_one, Fin.isValue, one_ne_zero, ↓reduceIte, false_or]
    rcases Nat.eq_zero_or_pos n with rfl | h
    · simp only [↓reduceIte]; rw [if_pos (by omega)]; omega
    · simp only [if_neg (by omega : ¬ n = 0)]; rw [if_neg (by omega)]; omega

/-- Column `4096 + j` of the projection: column `j` of the values. -/
def pcol (j : Fin 1024) : Fin 14336 := ⟨4096 + j, by omega⟩

/-- Finite arguments: the queries, the keys and the values are real numbers, and so is each decay. -/
structure Data (A0 : Fin 2 → Fin 8448 → Fin 512 → EReal) (A1 : Fin 2 → Fin 4 → Fin 128 → Fin 8448 → EReal)
    (A2 : Fin 2 → Fin 8448 → Fin 1024 → EReal) (A3 : Fin 2 → Fin 4 → EReal) where
  q : Fin 2 → Fin 8448 → Fin 512 → ℝ
  k : Fin 2 → Fin 4 → Fin 128 → Fin 8448 → ℝ
  v : Fin 2 → Fin 8448 → Fin 1024 → ℝ
  g : Fin 2 → Fin 4 → ℝ
  hq : ∀ b t j, A0 b t j = (q b t j : EReal)
  hk : ∀ b h i t, A1 b h i t = (k b h i t : EReal)
  hv : ∀ b t j, A2 b t j = (v b t j : EReal)
  hg : ∀ d h, gam (A3 d h) = (g d h : EReal)
  hl : ∀ d h (n : ℕ), Ideal.exp (((n : ℝ) : EReal) * lam (A3 d h)) = ((g d h ^ n : ℝ) : EReal)

namespace Data

variable {A0 : Fin 2 → Fin 8448 → Fin 512 → EReal} {A1 : Fin 2 → Fin 4 → Fin 128 → Fin 8448 → EReal}
    {A2 : Fin 2 → Fin 8448 → Fin 1024 → EReal} {A3 : Fin 2 → Fin 4 → EReal} (D : Data A0 A1 A2 A3)

/-- The query of a head at a time of a direction. -/
def Q (d b : Fin 2) (h : Fin 4) (t : ℕ) (i : Fin 128) : ℝ := D.q b (tok d t) ⟨h * 128 + i, by omega⟩

/-- The key of a head at a time of a direction. -/
def K (d b : Fin 2) (h : Fin 4) (t : ℕ) (i : Fin 128) : ℝ := D.k b h i (tok d t)

/-- The value of a head at a time of a direction. -/
def V (d b : Fin 2) (h : Fin 4) (t : ℕ) (e : Fin 256) : ℝ := D.v b (tok d t) ⟨h * 256 + e, by omega⟩

/-- The state of a head after `t` tokens of a direction. -/
def S (d b : Fin 2) (h : Fin 4) : ℕ → Fin 128 → Fin 256 → ℝ := st (D.g d h) (D.K d b h) (D.V d b h)

/-- The readout of a head at a time of a direction. -/
def out (d b : Fin 2) (h : Fin 4) (t : ℕ) (e : Fin 256) : ℝ := ∑ i, D.Q d b h t i * D.S d b h (t + 1) i e

/-- The entry of a direction's results at a token and a column: the readout of the column's head at the time the direction
    meets the token. -/
def outAt (d b : Fin 2) (t : Fin 8448) (j : Fin 1024) : ℝ :=
  D.out d b ⟨(j : ℕ) / 256, by omega⟩ (tok d t) ⟨(j : ℕ) % 256, by omega⟩

end Data

end Cert.Ret

end
-- ==== Proof.RetReads.lean ====
module

public import proofs.«01_k».proof.Proof.RetBlock
public import proofs.«01_k».proof.Proof.RetMath
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.Ret Cert.KernelIdeal Cert.KernelIdeal.Gen

variable (m : (ℓ : Loc nD τ sig) → Buf (Elt Ideal) ℓ)

/-- The queries a launch finds. -/
def A0 (c : Dev nD) (b : Fin 2) (t : Fin 8448) (j : Fin 512) : EReal :=
  (m ((c : Thread nD τ).loc main_arg0) : FVec Ideal S2x8448x512 .bf16) (ix3 b t j)

/-- The keys a launch finds. -/
def A1 (c : Dev nD) (b : Fin 2) (h : Fin 4) (i : Fin 128) (t : Fin 8448) : EReal :=
  (m ((c : Thread nD τ).loc main_arg1) : FVec Ideal S2x4x128x8448 .bf16) (ix4 b h i t)

/-- The values a launch finds, in their columns of the projection. -/
def A2 (c : Dev nD) (b : Fin 2) (t : Fin 8448) (j : Fin 1024) : EReal :=
  (m ((c : Thread nD τ).loc main_arg2) : FVec Ideal S2x8448x14336 .bf16) (ix3 b t (pcol j))

/-- The weights of the decays a launch finds. -/
def A3 (c : Dev nD) (d : Fin 2) (h : Fin 4) : EReal :=
  (m ((c : Thread nD τ).loc main_arg3) : FVec Ideal S2x4 .f32) (ix2 d h)

/-- Where the windows stand at each grid point. -/
theorem idx : ∀ t : Fin cfg0.N,
    win0_0.index t = ![t.val / 33, blk 0 (t.val % 33), 0]
    ∧ win0_1.index t = ![t.val / 33, 0, 0, blk 0 (t.val % 33)]
    ∧ win0_2.index t = ![t.val / 33, blk 0 (t.val % 33), 4]
    ∧ win0_3.index t = ![t.val / 33, blk 1 (t.val % 33), 0]
    ∧ win0_4.index t = ![t.val / 33, 0, 0, blk 1 (t.val % 33)]
    ∧ win0_5.index t = ![t.val / 33, blk 1 (t.val % 33), 4]
    ∧ win0_6.index t = ![0, 0]
    ∧ win0_7.index t = ![t.val / 33, blk 0 (t.val % 33), 0]
    ∧ win0_8.index t = ![t.val / 33, blk 1 (t.val % 33), 0]
    ∧ t.val / 33 < 2 ∧ blk 0 (t.val % 33) < 33 ∧ blk 1 (t.val % 33) < 33 :=
  (by decide +kernel : ∀ t : Fin grid0.N, _)

/-- The sequence of a grid point. -/
def bOf (t : Fin cfg0.N) : Fin 2 := ⟨t.val / 33, (idx t).2.2.2.2.2.2.2.2.2.1⟩

/-- The queries' block of direction `d` at a grid point. -/
def qblk (c : Dev nD) (d : Fin 2) (t : Fin cfg0.N) : FVec Ideal S1x256x512 .bf16 :=
  if d = 0 then iblk m c 0 t else iblk m c 3 t

/-- A row of the queries' block is the token met at the row's place. -/
theorem q_at (c : Dev nD) (t : Fin cfg0.N) (d : Fin 2) (r : Fin 256) (j : Fin 512) :
    qblk m c d t (ix3 0 r j) = A0 m c (bOf t) (tok d (256 * (t.val % 33) + ord d r)) j := by
  have hk := tok_blk d (t.val % 33) (Nat.mod_lt _ (by decide)) r
  generalize tok d (256 * (t.val % 33) + ord d r) = T at hk
  match d with
  | 0 =>
    show (iblk m c 0 t : FVec Ideal S1x256x512 .bf16) (ix3 0 r j) = _
    unfold A0 bOf
    blk_ext [iblk, V, idx t]
  | 1 =>
    show (iblk m c 3 t : FVec Ideal S1x256x512 .bf16) (ix3 0 r j) = _
    unfold A0 bOf
    blk_ext [iblk, V, idx t]

/-- A row of the keys' block is the token met at the row's place. -/
theorem k_at (c : Dev nD) (t : Fin cfg0.N) (d : Fin 2) (h : Fin 4) (i : Fin 128) (r : Fin 256) :
    kblk m c d t (ix4 0 h i r) = A1 m c (bOf t) h i (tok d (256 * (t.val % 33) + ord d r)) := by
  have hk := tok_blk d (t.val % 33) (Nat.mod_lt _ (by decide)) r
  generalize tok d (256 * (t.val % 33) + ord d r) = T at hk
  match d with
  | 0 =>
    show (iblk m c 1 t : FVec Ideal S1x4x128x256 .bf16) (ix4 0 h i r) = _
    unfold A1 bOf
    blk_ext [iblk, V, idx t]
  | 1 =>
    show (iblk m c 4 t : FVec Ideal S1x4x128x256 .bf16) (ix4 0 h i r) = _
    unfold A1 bOf
    blk_ext [iblk, V, idx t]

/-- A row of the values' block is the token met at the row's place. -/
theorem v_at (c : Dev nD) (t : Fin cfg0.N) (d : Fin 2) (r : Fin 256) (j : Fin 1024) :
    vblk m c d t (ix3 0 r j) = A2 m c (bOf t) (tok d (256 * (t.val % 33) + ord d r)) j := by
  have hk := tok_blk d (t.val % 33) (Nat.mod_lt _ (by decide)) r
  generalize tok d (256 * (t.val % 33) + ord d r) = T at hk
  match d with
  | 0 =>
    show (iblk m c 2 t : FVec Ideal S1x256x1024 .bf16) (ix3 0 r j) = _
    unfold A2 bOf pcol
    blk_ext [iblk, V, idx t]
  | 1 =>
    show (iblk m c 5 t : FVec Ideal S1x256x1024 .bf16) (ix3 0 r j) = _
    unfold A2 bOf pcol
    blk_ext [iblk, V, idx t]

/-- The weight a grid point reads for a direction and a head. -/
theorem wt_eq (c : Dev nD) (t : Fin cfg0.N) (d : Fin 2) (h : Fin 4) : wt m c t d h = A3 m c d h := by
  unfold wt A3
  have hd := d.isLt
  have hh := h.isLt
  have hV : (V m c main_v1 : FVec Ideal S1x128 .f32) (ix2 0 ⟨4 * d + h, by omega⟩)
      = (m ((c : Thread nD τ).loc main_arg3) : FVec Ideal S2x4 .f32) (ix2 d h) := by
    unfold V
    simp only [List.flatten_cons, List.flatten_nil, List.append_nil, StableHlo.after_append]
    after_reads_simp
    simp -implicitDefEqProofs only [StableHlo.TRef.toBuf, StableHlo.TRef.ofBuf, cast_cast, cast_eq]
    pointwise [id]
    rw [dif_pos (by omega)]
    refine congrArg (m ((c : Thread nD τ).loc main_arg3)) ?_
    blk_ext
  rw [← hV]
  show (iblk m c 6 t : FVec Ideal S1x128 .f32) (ix2 0 ⟨4 * d + h, by omega⟩) = _
  unfold iblk
  generalize V m c main_v1 = w
  blk_ext [idx t]

end Cert.KernelIdeal.Ret

end
-- ==== Proof.RetTabVal.lean ====
module

public import proofs.«01_k».proof.Proof.RetBlock
public import proofs.«01_k».proof.Proof.RetMath
public import Idealize.ShloMosaic.PureOps.IdealRules

@[expose] public section

noncomputable section

open Idealize.ShloMosaic

namespace Cert.KernelIdeal.Ret

open Cert.Ret Cert.KernelIdeal

theorem toInt_nat (a : ℕ) (ha : a ≤ 256) : (BitVec.ofNat 32 a).toInt = a := by
  have h1 : (BitVec.ofNat 32 a).toNat = a := by
    rw [BitVec.toNat_ofNat]; exact Nat.mod_eq_of_lt (by omega)
  rw [BitVec.toInt_eq_toNat_of_lt (by omega), h1]

/-- A difference of two places, as an integer. -/
theorem toInt_sub (a b : ℕ) (ha : a ≤ 256) (hb : b ≤ 256) :
    (IntOp.subi (BitVec.ofNat 32 a) (BitVec.ofNat 32 b)).toInt = (a : ℤ) - b := by
  show (BitVec.ofNat 32 a - BitVec.ofNat 32 b).toInt = _
  rw [BitVec.toInt_sub, toInt_nat a ha, toInt_nat b hb]
  simp only [Int.bmod]
  omega

/-- A place and one more, as an integer. -/
theorem toInt_add (a : ℕ) (ha : a < 256) : (IntOp.addi (BitVec.ofNat 32 a) 1#32).toInt = (a : ℤ) + 1 := by
  show (BitVec.ofNat 32 a + BitVec.ofNat 32 1).toInt = _
  rw [BitVec.toInt_add, toInt_nat a ha.le, toInt_nat 1 (by omega)]
  simp only [Int.bmod]
  omega

/-- An integer that is a natural number, as the float it is converted to. -/
theorem sitofp_nat (b : BitVec 32) (n : ℕ) (h : b.toInt = n) :
    FloatOps.sitofp (F := Ideal) FTy.f32 b = ((n : ℝ) : EReal) := by
  show ((b.toInt : ℝ) : EReal) = _
  rw [h]; norm_cast

/-- The kernel's spelling of the log-sigmoid is the least of the weight and nought, less the logarithm. -/
theorem lamk_eq (x : EReal) : lamk x = lam x := by
  show min x 0 - Ideal.log (1 + Ideal.exp (0 - max x (-x))) = min x 0 - Ideal.log (1 + Ideal.exp (-(max x (-x))))
  rw [sub_eq_add_neg 0 (max x (-x)), zero_add]

theorem mask_eq : Named.named (F := Ideal) (φ := .f32) κ "mask" 4048155338#32 = (⊥ : EReal) :=
  IdealRules.named_const.ideal_named_scalar _ _ _ ⊥ rfl

variable {x : EReal} {g : ℝ} (hl : ∀ n : ℕ, Ideal.exp (((n : ℝ) : EReal) * lam x) = ((g ^ n : ℝ) : EReal))

include hl

/-- The decay between two places of a block: the power of their distance, or nought. -/
theorem decR_val (a b : ℕ) (ha : a < 256) (hb : b < 256) :
    decR x a b = (((if b ≤ a then g ^ (a - b) else 0 : ℝ)) : EReal) := by
  unfold decR
  by_cases h : b ≤ a
  · have hc : IntOp.cmpi CmpIPredicate.sge (IntOp.subi (BitVec.ofNat 32 a) (BitVec.ofNat 32 b)) 0#32 = 1 := by
      show BitVec.ofBool (decide ((0#32).toInt ≤ (IntOp.subi (BitVec.ofNat 32 a) (BitVec.ofNat 32 b)).toInt)) = _
      rw [toInt_sub a b ha.le hb.le, decide_eq_true (by show (0 : ℤ) ≤ _; omega)]
      rfl
    rw [hc, if_pos h, sitofp_nat _ (a - b) (by rw [toInt_sub a b ha.le hb.le]; omega), lamk_eq]
    exact hl _
  · have hc : IntOp.cmpi CmpIPredicate.sge (IntOp.subi (BitVec.ofNat 32 a) (BitVec.ofNat 32 b)) 0#32 = 0 := by
      show BitVec.ofBool (decide ((0#32).toInt ≤ (IntOp.subi (BitVec.ofNat 32 a) (BitVec.ofNat 32 b)).toInt)) = _
      rw [toInt_sub a b ha.le hb.le, decide_eq_false (by show ¬ ((0 : ℤ) ≤ _); omega)]
      rfl
    rw [hc, if_neg h, mask_eq]
    rfl

theorem decT_val (d : Fin 2) (r c : Fin 256) :
    decT d x r c = (((if (ord d c : ℕ) ≤ ord d r then g ^ ((ord d r : ℕ) - ord d c) else 0 : ℝ)) : EReal) := by
  have hr := r.isLt
  have hc := c.isLt
  match d with
  | 0 => exact decR_val hl r c hr hc
  | 1 =>
    refine (decR_val hl c r hc hr).trans ?_
    rw [ord_one, ord_one]
    by_cases h : (r : ℕ) ≤ c
    · rw [if_pos h, if_pos (by omega)]
      exact congrArg (fun n => ((g ^ n : ℝ) : EReal)) (by omega)
    · rw [if_neg h, if_neg (by omega)]

theorem eqT_val (d : Fin 2) (r : Fin 256) : eqT d x r = ((g ^ ((ord d r : ℕ) + 1) : ℝ) : EReal) := by
  have hr := r.isLt
  match d with
  | 0 =>
    show Ideal.exp (FloatOps.sitofp (F := Ideal) FTy.f32 (IntOp.addi (BitVec.ofNat 32 r) 1#32) * lamk x) = _
    rw [sitofp_nat _ (r + 1) (by rw [toInt_add _ hr]; push_cast; rfl), lamk_eq]
    exact hl _
  | 1 =>
    show Ideal.exp (FloatOps.sitofp (F := Ideal) FTy.f32 (IntOp.subi (BitVec.ofNat 32 256) (BitVec.ofNat 32 r)) * lamk x) = _
    rw [ord_one, sitofp_nat _ (255 - r + 1) (by rw [toInt_sub _ _ le_rfl hr.le]; omega), lamk_eq]
    exact hl _

theorem ekT_val (d : Fin 2) (r : Fin 256) : ekT d x r = ((g ^ (255 - (ord d r : ℕ)) : ℝ) : EReal) := by
  have hr := r.isLt
  match d with
  | 0 =>
    show Ideal.exp (FloatOps.sitofp (F := Ideal) FTy.f32 (IntOp.subi (BitVec.ofNat 32 255) (BitVec.ofNat 32 r)) * lamk x) = _
    rw [sitofp_nat _ (255 - r) (by rw [toInt_sub _ _ (by omega) hr.le]; omega), lamk_eq]
    exact hl _
  | 1 =>
    show Ideal.exp (FloatOps.sitofp (F := Ideal) FTy.f32 (BitVec.ofNat 32 r) * lamk x) = _
    rw [ord_one, sitofp_nat _ (255 - (255 - r)) (by rw [toInt_nat _ hr.le]; omega), lamk_eq]
    exact hl _

theorem eglT_val : eglT x = ((g ^ 256 : ℝ) : EReal) := by
  have h : Ideal.ofBits FTy.f32 1132462080#32 = (((256 : ℕ) : ℝ) : EReal) := by
    simp [Ideal.ofBits, Ideal.ieee]
    rw [← EReal.coe_mul]
    norm_num
  unfold eglT
  rw [h, lamk_eq, mul_comm]
  exact hl _

end Cert.KernelIdeal.Ret

end
-- ==== Proof.RetTab.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

/-- A sequence's first point fills the table of the decays. -/
theorem dec_A (c : Dev nD) (t : Fin cfg0.N) (h0 : t.val % 33 = 0) (d : Fin 2) (h : Fin 4) (r : Fin 256) (e : Fin 256)
    (y : S2x4x256x256.Idx) (hy0 : (y 0 : ℕ) = d) (hy1 : (y 1 : ℕ) = h) (hy2 : (y 2 : ℕ) = r) (hy3 : (y 3 : ℕ) = e) :
    (outsAt0 m c t.val t.isLt).2.2.2.1 y = decT d (wt m c t d h) r e := by
  rw [outsAt0_A m c t h0]
  unfold wt
  frame_out
  canon_tiles x hx
  case piece0 =>
    obtain rfl : d = 1 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece1 =>
    obtain rfl : d = 1 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece2 =>
    obtain rfl : d = 1 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece3 =>
    obtain rfl : d = 1 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece4 =>
    obtain rfl : d = 0 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece5 =>
    obtain rfl : d = 0 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece6 =>
    obtain rfl : d = 0 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece7 =>
    obtain rfl : d = 0 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl

/-- A sequence's first point fills the table of the queries' factors. -/
theorem eq_A (c : Dev nD) (t : Fin cfg0.N) (h0 : t.val % 33 = 0) (d : Fin 2) (h : Fin 4) (r : Fin 256) (e : Fin 128)
    (y : S2x4x256x128.Idx) (hy0 : (y 0 : ℕ) = d) (hy1 : (y 1 : ℕ) = h) (hy2 : (y 2 : ℕ) = r) (hy3 : (y 3 : ℕ) = e) :
    (outsAt0 m c t.val t.isLt).2.2.2.2.1 y = eqT d (wt m c t d h) r := by
  rw [outsAt0_A m c t h0]
  unfold wt
  frame_out
  canon_tiles x hx
  case piece0 =>
    obtain rfl : d = 1 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece1 =>
    obtain rfl : d = 1 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece2 =>
    obtain rfl : d = 1 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece3 =>
    obtain rfl : d = 1 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece4 =>
    obtain rfl : d = 0 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece5 =>
    obtain rfl : d = 0 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece6 =>
    obtain rfl : d = 0 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece7 =>
    obtain rfl : d = 0 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl

/-- A sequence's first point fills the table of the keys' factors. -/
theorem ek_A (c : Dev nD) (t : Fin cfg0.N) (h0 : t.val % 33 = 0) (d : Fin 2) (h : Fin 4) (r : Fin 128) (e : Fin 256)
    (y : S2x4x128x256.Idx) (hy0 : (y 0 : ℕ) = d) (hy1 : (y 1 : ℕ) = h) (hy2 : (y 2 : ℕ) = r) (hy3 : (y 3 : ℕ) = e) :
    (outsAt0 m c t.val t.isLt).2.2.2.2.2.1 y = ekT d (wt m c t d h) e := by
  rw [outsAt0_A m c t h0]
  unfold wt
  frame_out
  canon_tiles x hx
  case piece0 =>
    obtain rfl : d = 1 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece1 =>
    obtain rfl : d = 1 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece2 =>
    obtain rfl : d = 1 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece3 =>
    obtain rfl : d = 1 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece4 =>
    obtain rfl : d = 0 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece5 =>
    obtain rfl : d = 0 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece6 =>
    obtain rfl : d = 0 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece7 =>
    obtain rfl : d = 0 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl

/-- A sequence's first point fills the table of the block's decay. -/
theorem egl_A (c : Dev nD) (t : Fin cfg0.N) (h0 : t.val % 33 = 0) (d : Fin 2) (h : Fin 4) (r : Fin 8) (e : Fin 128)
    (y : S2x4x8x128.Idx) (hy0 : (y 0 : ℕ) = d) (hy1 : (y 1 : ℕ) = h) (hy2 : (y 2 : ℕ) = r) (hy3 : (y 3 : ℕ) = e) :
    (outsAt0 m c t.val t.isLt).2.2.2.2.2.2 y = eglT (wt m c t d h) := by
  rw [outsAt0_A m c t h0]
  unfold wt
  frame_out
  canon_tiles x hx
  case piece0 =>
    obtain rfl : d = 1 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece1 =>
    obtain rfl : d = 1 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece2 =>
    obtain rfl : d = 1 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece3 =>
    obtain rfl : d = 1 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece4 =>
    obtain rfl : d = 0 := Fin.ext (by omega)
    obtain rfl : h = 3 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece5 =>
    obtain rfl : d = 0 := Fin.ext (by omega)
    obtain rfl : h = 2 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece6 =>
    obtain rfl : d = 0 := Fin.ext (by omega)
    obtain rfl : h = 1 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl
  case piece7 =>
    obtain rfl : d = 0 := Fin.ext (by omega)
    obtain rfl : h = 0 := Fin.ext (by omega)
    obtain rfl : x = ix4 0 0 r e := by blk_ext
    pointwise [k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 6 t = w
    rfl

end Cert.KernelIdeal.Ret

end
-- ==== Proof.RetTabB.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

/-- A later point keeps the tables. -/
theorem tables_B (c : Dev nD) (t : Fin cfg0.N) (h0 : ¬t.val % 33 = 0) (P)
    (hP : P = outsAt0 m c (t.val - 1) (Nat.lt_of_le_of_lt (Nat.sub_le _ _) t.isLt)) :
    (outsAt0 m c t.val t.isLt).2.2.2 = P.2.2.2 := by
  rw [outsAt0_B m c t h0]
  rw [← hP]
  refine Prod.ext ?_ (Prod.ext ?_ (Prod.ext ?_ ?_)) <;> rfl

end Cert.KernelIdeal.Ret

end
-- ==== Proof.RetState.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

set_option maxHeartbeats 2000000 in
/-- The state a later grid point leaves, from the state and the tables it found. -/
theorem state_B (c : Dev nD) (t : Fin cfg0.N) (h0 : ¬t.val % 33 = 0) (d : Fin 2) (h : Fin 4) (i : Fin 128) (e : Fin 256)
    (y : S2x4x128x256.Idx) (hy0 : (y 0 : ℕ) = d) (hy1 : (y 1 : ℕ) = h) (hy2 : (y 2 : ℕ) = i) (hy3 : (y 3 : ℕ) = e) (P)
    (hP : P = outsAt0 m c (t.val - 1) (Nat.lt_of_le_of_lt (Nat.sub_le _ _) t.isLt)) :
    (outsAt0 m c t.val t.isLt).2.2.1 y
      = sBlk (kblk m c d t) (vblk m c d t) (fun i e => P.2.2.1 (ix4 d h i e))
          (fun i c => P.2.2.2.2.2.1 (ix4 d h i c)) (P.2.2.2.2.2.2 (ix4 d h 0 0)) h i e := by
  rw [outsAt0_B m c t h0]
  rw [← hP]
  frame_out
  simp only [read_unread_whole]
  canon_tiles x hx
  case piece0 =>
    obtain rfl : d = 1 := Fin.ext (by omega)
    obtain rfl : h = 3 := Fin.ext (by omega)
    obtain rfl : x = ix4 0 0 i e := by blk_ext
    rw [show kblk m c 1 t = iblk m c 4 t from rfl, show vblk m c 1 t = iblk m c 5 t from rfl]
    pointwise [sBlk, k0_pay72, k0_pay94, k0_pay1]
    generalize iblk m c 4 t = k
    generalize iblk m c 5 t = v
    rfl
  case piece1 =>
    obtain rfl : d = 1 := Fin.ext (by omega)
    obtain rfl : h = 2 := Fin.ext (by omega)
    obtain rfl : x = ix4 0 0 i e := by blk_ext
    rw [show kblk m c 1 t = iblk m c 4 t from rfl, show vblk m c 1 t = iblk m c 5 t from rfl]
    pointwise [sBlk, k0_pay71, k0_pay92, k0_pay93, k0_pay131]
    generalize iblk m c 4 t = k
    generalize iblk m c 5 t = v
    rfl
  case piece2 =>
    obtain rfl : d = 1 := Fin.ext (by omega)
    obtain rfl : h = 1 := Fin.ext (by omega)
    obtain rfl : x = ix4 0 0 i e := by blk_ext
    rw [show kblk m c 1 t = iblk m c 4 t from rfl, show vblk m c 1 t = iblk m c 5 t from rfl]
    pointwise [sBlk, k0_pay70, k0_pay91, k0_pay129]
    generalize iblk m c 4 t = k
    generalize iblk m c 5 t = v
    rfl
  case piece3 =>
    obtain rfl : d = 1 := Fin.ext (by omega)
    obtain rfl : h = 0 := Fin.ext (by omega)
    obtain rfl : x = ix4 0 0 i e := by blk_ext
    rw [show kblk m c 1 t = iblk m c 4 t from rfl, show vblk m c 1 t = iblk m c 5 t from rfl]
    pointwise [sBlk, k0_pay69, k0_pay90, k0_pay126]
    generalize iblk m c 4 t = k
    generalize iblk m c 5 t = v
    simp only [vcol_zero]
  case piece4 =>
    obtain rfl : d = 0 := Fin.ext (by omega)
    obtain rfl : h = 3 := Fin.ext (by omega)
    obtain rfl : x = ix4 0 0 i e := by blk_ext
    rw [show kblk m c 0 t = iblk m c 1 t from rfl, show vblk m c 0 t = iblk m c 2 t from rfl]
    pointwise [sBlk, k0_pay68, k0_pay88, k0_pay89, k0_pay124]
    generalize iblk m c 1 t = k
    generalize iblk m c 2 t = v
    rfl
  case piece5 =>
    obtain rfl : d = 0 := Fin.ext (by omega)
    obtain rfl : h = 2 := Fin.ext (by omega)
    obtain rfl : x = ix4 0 0 i e := by blk_ext
    rw [show kblk m c 0 t = iblk m c 1 t from rfl, show vblk m c 0 t = iblk m c 2 t from rfl]
    pointwise [sBlk, k0_pay67, k0_pay87, k0_pay121, k0_pay122]
    generalize iblk m c 1 t = k
    generalize iblk m c 2 t = v
    rfl
  case piece6 =>
    obtain rfl : d = 0 := Fin.ext (by omega)
    obtain rfl : h = 1 := Fin.ext (by omega)
    obtain rfl : x = ix4 0 0 i e := by blk_ext
    rw [show kblk m c 0 t = iblk m c 1 t from rfl, show vblk m c 0 t = iblk m c 2 t from rfl]
    pointwise [sBlk, k0_pay66, k0_pay86, k0_pay119]
    generalize iblk m c 1 t = k
    generalize iblk m c 2 t = v
    rfl
  case piece7 =>
    obtain rfl : d = 0 := Fin.ext (by omega)
    obtain rfl : h = 0 := Fin.ext (by omega)
    obtain rfl : x = ix4 0 0 i e := by blk_ext
    rw [show kblk m c 0 t = iblk m c 1 t from rfl, show vblk m c 0 t = iblk m c 2 t from rfl]
    pointwise [sBlk, k0_pay65, k0_pay83, k0_pay84, k0_pay85, k0_pay116, k0_pay117]
    generalize iblk m c 1 t = k
    generalize iblk m c 2 t = v
    simp only [vcol_zero]

end Cert.KernelIdeal.Ret

end
-- ==== Proof.RetStateA.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

/-- Eight pieces that cover hide whatever lies under them. -/
theorem canon_eight {S : Shape} {e : EltTy} (p0 p1 p2 p3 p4 p5 p6 p7 : View.Piece (Elt Ideal) S e)
    (L : List (View.Piece (Elt Ideal) S e)) (y : S.Idx)
    (h : ∃ q ∈ [p0, p1, p2, p3, p4, p5, p6, p7], y ∈ q.1.set) :
    View.canon (p0 :: p1 :: p2 :: p3 :: p4 :: p5 :: p6 :: p7 :: L) y = View.canon [p0, p1, p2, p3, p4, p5, p6, p7] y := by
  have key : ∀ (A : List (View.Piece (Elt Ideal) S e)), (∃ q ∈ A, y ∈ q.1.set) →
      View.canon (A ++ L) y = View.canon A y := by
    intro A
    induction A with
    | nil => rintro ⟨q, hq, _⟩; exact absurd hq List.not_mem_nil
    | cons p A ih =>
      rintro ⟨q, hq, hy⟩
      by_cases hp : y ∈ p.1.set
      · obtain ⟨p, w⟩ := p
        rw [← Rect.map_emb_univ] at hp
        obtain ⟨x, _, rfl⟩ := Finset.mem_map.1 hp
        rw [List.cons_append, View.canon_cons_emb p w, View.canon_cons_emb p w]
      · rw [List.cons_append, View.canon_cons_of_not_mem _ _ hp, View.canon_cons_of_not_mem _ _ hp]
        refine ih ⟨q, ?_, hy⟩
        rcases List.mem_cons.1 hq with rfl | h
        · exact absurd hy hp
        · exact h
  exact key _ h

set_option maxHeartbeats 4000000 in
/-- The state a sequence's first point leaves: from noughts and the tables of its weights. -/
theorem state_A (c : Dev nD) (t : Fin cfg0.N) (h0 : t.val % 33 = 0) (d : Fin 2) (h : Fin 4) (i : Fin 128) (e : Fin 256)
    (y : S2x4x128x256.Idx) (hy0 : (y 0 : ℕ) = d) (hy1 : (y 1 : ℕ) = h) (hy2 : (y 2 : ℕ) = i) (hy3 : (y 3 : ℕ) = e) :
    (outsAt0 m c t.val t.isLt).2.2.1 y
      = sBlk (kblk m c d t) (vblk m c d t) (fun _ _ => 0) (fun _ j => ekT d (wt m c t d h) j) (eglT (wt m c t d h)) h i e := by
  rw [outsAt0_A m c t h0]
  unfold wt
  frame_open
  simp (disch := decide) only [↓ View.readCov_skip, ↓ View.readCov_cons_toLoadRect, ↓ View.readCov_fill]
  frame_out
  refine (canon_eight _ _ _ _ _ _ _ _ _ y (View.cover_of_tiled_head _ _ _ rfl y)).trans ?_
  canon_tiles x hx
  case piece0 =>
    obtain rfl : d = 1 := Fin.ext (by omega)
    obtain rfl : h = 3 := Fin.ext (by omega)
    obtain rfl : x = ix4 0 0 i e := by blk_ext
    rw [show kblk m c 1 t = iblk m c 4 t from rfl, show vblk m c 1 t = iblk m c 5 t from rfl]
    pointwise [sBlk, k0_pay72, k0_pay94, k0_pay1,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 4 t = k
    generalize iblk m c 5 t = v
    generalize iblk m c 6 t = w
    rfl
  case piece1 =>
    obtain rfl : d = 1 := Fin.ext (by omega)
    obtain rfl : h = 2 := Fin.ext (by omega)
    obtain rfl : x = ix4 0 0 i e := by blk_ext
    rw [show kblk m c 1 t = iblk m c 4 t from rfl, show vblk m c 1 t = iblk m c 5 t from rfl]
    pointwise [sBlk, k0_pay71, k0_pay92, k0_pay93, k0_pay131,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 4 t = k
    generalize iblk m c 5 t = v
    generalize iblk m c 6 t = w
    rfl
  case piece2 =>
    obtain rfl : d = 1 := Fin.ext (by omega)
    obtain rfl : h = 1 := Fin.ext (by omega)
    obtain rfl : x = ix4 0 0 i e := by blk_ext
    rw [show kblk m c 1 t = iblk m c 4 t from rfl, show vblk m c 1 t = iblk m c 5 t from rfl]
    pointwise [sBlk, k0_pay70, k0_pay91, k0_pay129,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 4 t = k
    generalize iblk m c 5 t = v
    generalize iblk m c 6 t = w
    rfl
  case piece3 =>
    obtain rfl : d = 1 := Fin.ext (by omega)
    obtain rfl : h = 0 := Fin.ext (by omega)
    obtain rfl : x = ix4 0 0 i e := by blk_ext
    rw [show kblk m c 1 t = iblk m c 4 t from rfl, show vblk m c 1 t = iblk m c 5 t from rfl]
    pointwise [sBlk, k0_pay69, k0_pay90, k0_pay126,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 4 t = k
    generalize iblk m c 5 t = v
    generalize iblk m c 6 t = w
    simp only [vcol_zero]
    rfl
  case piece4 =>
    obtain rfl : d = 0 := Fin.ext (by omega)
    obtain rfl : h = 3 := Fin.ext (by omega)
    obtain rfl : x = ix4 0 0 i e := by blk_ext
    rw [show kblk m c 0 t = iblk m c 1 t from rfl, show vblk m c 0 t = iblk m c 2 t from rfl]
    pointwise [sBlk, k0_pay68, k0_pay88, k0_pay89, k0_pay124,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 1 t = k
    generalize iblk m c 2 t = v
    generalize iblk m c 6 t = w
    rfl
  case piece5 =>
    obtain rfl : d = 0 := Fin.ext (by omega)
    obtain rfl : h = 2 := Fin.ext (by omega)
    obtain rfl : x = ix4 0 0 i e := by blk_ext
    rw [show kblk m c 0 t = iblk m c 1 t from rfl, show vblk m c 0 t = iblk m c 2 t from rfl]
    pointwise [sBlk, k0_pay67, k0_pay87, k0_pay121, k0_pay122,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 1 t = k
    generalize iblk m c 2 t = v
    generalize iblk m c 6 t = w
    rfl
  case piece6 =>
    obtain rfl : d = 0 := Fin.ext (by omega)
    obtain rfl : h = 1 := Fin.ext (by omega)
    obtain rfl : x = ix4 0 0 i e := by blk_ext
    rw [show kblk m c 0 t = iblk m c 1 t from rfl, show vblk m c 0 t = iblk m c 2 t from rfl]
    pointwise [sBlk, k0_pay66, k0_pay86, k0_pay119,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 1 t = k
    generalize iblk m c 2 t = v
    generalize iblk m c 6 t = w
    rfl
  case piece7 =>
    obtain rfl : d = 0 := Fin.ext (by omega)
    obtain rfl : h = 0 := Fin.ext (by omega)
    obtain rfl : x = ix4 0 0 i e := by blk_ext
    rw [show kblk m c 0 t = iblk m c 1 t from rfl, show vblk m c 0 t = iblk m c 2 t from rfl]
    pointwise [sBlk, k0_pay65, k0_pay83, k0_pay84, k0_pay85, k0_pay116, k0_pay117,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 1 t = k
    generalize iblk m c 2 t = v
    generalize iblk m c 6 t = w
    simp only [vcol_zero]
    rfl

end Cert.KernelIdeal.Ret

end
-- ==== Proof.RetOutF.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

set_option maxHeartbeats 2000000 in
/-- A later grid point's readouts of direction 0, from the state and the tables it found. -/
theorem out7_B (c : Dev nD) (t : Fin cfg0.N) (h0 : ¬t.val % 33 = 0) (h : Fin 4) (r e : Fin 256) (y : S1x256x1024.Idx)
    (hy1 : (y 1 : ℕ) = r) (hy2 : (y 2 : ℕ) = h * 256 + e) (P)
    (hP : P = outsAt0 m c (t.val - 1) (Nat.lt_of_le_of_lt (Nat.sub_le _ _) t.isLt)) :
    (outsAt0 m c t.val t.isLt).1 y = oBlk (iblk m c 0 t) (iblk m c 1 t) (iblk m c 2 t)
      (fun i e => P.2.2.1 (ix4 0 h i e)) (fun r c => P.2.2.2.1 (ix4 0 h r c)) (fun r i => P.2.2.2.2.1 (ix4 0 h r i)) h r e := by
  rw [outsAt0_B m c t h0]
  rw [← hP]
  frame_out
  simp only [read_unread_whole]
  canon_tiles x hx
  case piece0 =>
    obtain rfl : h = 3 := Fin.ext (by omega)
    obtain rfl : x = ix3 0 r e := by blk_ext
    pointwise [oBlk, k0_pay68, k0_pay76, k0_pay99, k0_pay110, k0_pay125]
    generalize iblk m c 0 t = q
    generalize iblk m c 1 t = k
    generalize iblk m c 2 t = v
    rfl
  case piece1 =>
    obtain rfl : h = 2 := Fin.ext (by omega)
    obtain rfl : x = ix3 0 r e := by blk_ext
    pointwise [oBlk, k0_pay67, k0_pay75, k0_pay98, k0_pay109, k0_pay123]
    generalize iblk m c 0 t = q
    generalize iblk m c 1 t = k
    generalize iblk m c 2 t = v
    rfl
  case piece2 =>
    obtain rfl : h = 1 := Fin.ext (by omega)
    obtain rfl : x = ix3 0 r e := by blk_ext
    pointwise [oBlk, k0_pay66, k0_pay74, k0_pay96, k0_pay97, k0_pay108, k0_pay120]
    generalize iblk m c 0 t = q
    generalize iblk m c 1 t = k
    generalize iblk m c 2 t = v
    rfl
  case piece3 =>
    obtain rfl : h = 0 := Fin.ext (by omega)
    obtain rfl : x = ix3 0 r e := by blk_ext
    pointwise [oBlk, k0_pay65, k0_pay73, k0_pay95, k0_pay106, k0_pay107, k0_pay118]
    generalize iblk m c 0 t = q
    generalize iblk m c 1 t = k
    generalize iblk m c 2 t = v
    simp only [qcol_zero, vcol_zero]

end Cert.KernelIdeal.Ret

end
-- ==== Proof.RetOutFA.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

set_option maxHeartbeats 4000000 in
/-- A sequence's first point's readouts of direction 0: from a state of noughts and the tables of its weights. -/
theorem out7_A (c : Dev nD) (t : Fin cfg0.N) (h0 : t.val % 33 = 0) (h : Fin 4) (r e : Fin 256) (y : S1x256x1024.Idx)
    (hy1 : (y 1 : ℕ) = r) (hy2 : (y 2 : ℕ) = h * 256 + e) :
    (outsAt0 m c t.val t.isLt).1 y = oBlk (iblk m c 0 t) (iblk m c 1 t) (iblk m c 2 t)
      (fun _ _ => 0) (decT 0 (wt m c t 0 h)) (fun r _ => eqT 0 (wt m c t 0 h) r) h r e := by
  rw [outsAt0_A m c t h0]
  unfold wt
  frame_open
  simp (disch := decide) only [↓ View.readCov_skip, ↓ View.readCov_cons_toLoadRect, ↓ View.readCov_fill]
  frame_out
  canon_tiles x hx
  case piece0 =>
    obtain rfl : h = 3 := Fin.ext (by omega)
    obtain rfl : x = ix3 0 r e := by blk_ext
    pointwise [oBlk, k0_pay68, k0_pay76, k0_pay99, k0_pay110, k0_pay125,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 0 t = q
    generalize iblk m c 1 t = k
    generalize iblk m c 2 t = v
    generalize iblk m c 6 t = w
    rfl
  case piece1 =>
    obtain rfl : h = 2 := Fin.ext (by omega)
    obtain rfl : x = ix3 0 r e := by blk_ext
    pointwise [oBlk, k0_pay67, k0_pay75, k0_pay98, k0_pay109, k0_pay123,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 0 t = q
    generalize iblk m c 1 t = k
    generalize iblk m c 2 t = v
    generalize iblk m c 6 t = w
    rfl
  case piece2 =>
    obtain rfl : h = 1 := Fin.ext (by omega)
    obtain rfl : x = ix3 0 r e := by blk_ext
    pointwise [oBlk, k0_pay66, k0_pay74, k0_pay96, k0_pay97, k0_pay108, k0_pay120,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 0 t = q
    generalize iblk m c 1 t = k
    generalize iblk m c 2 t = v
    generalize iblk m c 6 t = w
    rfl
  case piece3 =>
    obtain rfl : h = 0 := Fin.ext (by omega)
    obtain rfl : x = ix3 0 r e := by blk_ext
    pointwise [oBlk, k0_pay65, k0_pay73, k0_pay95, k0_pay106, k0_pay107, k0_pay118,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 0 t = q
    generalize iblk m c 1 t = k
    generalize iblk m c 2 t = v
    generalize iblk m c 6 t = w
    simp only [qcol_zero, vcol_zero]
    rfl

end Cert.KernelIdeal.Ret

end
-- ==== Proof.RetOutB.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

set_option maxHeartbeats 2000000 in
/-- A later grid point's readouts of direction 1, from the state and the tables it found. -/
theorem out8_B (c : Dev nD) (t : Fin cfg0.N) (h0 : ¬t.val % 33 = 0) (h : Fin 4) (r e : Fin 256) (y : S1x256x1024.Idx)
    (hy1 : (y 1 : ℕ) = r) (hy2 : (y 2 : ℕ) = h * 256 + e) (P)
    (hP : P = outsAt0 m c (t.val - 1) (Nat.lt_of_le_of_lt (Nat.sub_le _ _) t.isLt)) :
    (outsAt0 m c t.val t.isLt).2.1 y = oBlk (iblk m c 3 t) (iblk m c 4 t) (iblk m c 5 t)
      (fun i e => P.2.2.1 (ix4 1 h i e)) (fun r c => P.2.2.2.1 (ix4 1 h r c)) (fun r i => P.2.2.2.2.1 (ix4 1 h r i)) h r e := by
  rw [outsAt0_B m c t h0]
  rw [← hP]
  frame_out
  simp only [read_unread_whole]
  canon_tiles x hx
  case piece0 =>
    obtain rfl : h = 3 := Fin.ext (by omega)
    obtain rfl : x = ix3 0 r e := by blk_ext
    pointwise [oBlk, k0_pay72, k0_pay82, k0_pay105, k0_pay115, k0_pay2]
    generalize iblk m c 3 t = q
    generalize iblk m c 4 t = k
    generalize iblk m c 5 t = v
    rfl
  case piece1 =>
    obtain rfl : h = 2 := Fin.ext (by omega)
    obtain rfl : x = ix3 0 r e := by blk_ext
    pointwise [oBlk, k0_pay71, k0_pay81, k0_pay104, k0_pay114, k0_pay132]
    generalize iblk m c 3 t = q
    generalize iblk m c 4 t = k
    generalize iblk m c 5 t = v
    rfl
  case piece2 =>
    obtain rfl : h = 1 := Fin.ext (by omega)
    obtain rfl : x = ix3 0 r e := by blk_ext
    pointwise [oBlk, k0_pay70, k0_pay80, k0_pay103, k0_pay113, k0_pay130]
    generalize iblk m c 3 t = q
    generalize iblk m c 4 t = k
    generalize iblk m c 5 t = v
    rfl
  case piece3 =>
    obtain rfl : h = 0 := Fin.ext (by omega)
    obtain rfl : x = ix3 0 r e := by blk_ext
    pointwise [oBlk, k0_pay69, k0_pay77, k0_pay78, k0_pay79, k0_pay100, k0_pay101, k0_pay102, k0_pay111, k0_pay112, k0_pay127, k0_pay128]
    generalize iblk m c 3 t = q
    generalize iblk m c 4 t = k
    generalize iblk m c 5 t = v
    simp only [qcol_zero, vcol_zero]

end Cert.KernelIdeal.Ret

end
-- ==== Proof.RetOutBA.lean ====
module

public import proofs.«01_k».proof.Proof.RetBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

set_option maxHeartbeats 4000000 in
/-- A sequence's first point's readouts of direction 1: from a state of noughts and the tables of its weights. -/
theorem out8_A (c : Dev nD) (t : Fin cfg0.N) (h0 : t.val % 33 = 0) (h : Fin 4) (r e : Fin 256) (y : S1x256x1024.Idx)
    (hy1 : (y 1 : ℕ) = r) (hy2 : (y 2 : ℕ) = h * 256 + e) :
    (outsAt0 m c t.val t.isLt).2.1 y = oBlk (iblk m c 3 t) (iblk m c 4 t) (iblk m c 5 t)
      (fun _ _ => 0) (decT 1 (wt m c t 1 h)) (fun r _ => eqT 1 (wt m c t 1 h) r) h r e := by
  rw [outsAt0_A m c t h0]
  unfold wt
  frame_open
  simp (disch := decide) only [↓ View.readCov_skip, ↓ View.readCov_cons_toLoadRect, ↓ View.readCov_fill]
  frame_out
  canon_tiles x hx
  case piece0 =>
    obtain rfl : h = 3 := Fin.ext (by omega)
    obtain rfl : x = ix3 0 r e := by blk_ext
    pointwise [oBlk, k0_pay72, k0_pay82, k0_pay105, k0_pay115, k0_pay2,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 3 t = q
    generalize iblk m c 4 t = k
    generalize iblk m c 5 t = v
    generalize iblk m c 6 t = w
    rfl
  case piece1 =>
    obtain rfl : h = 2 := Fin.ext (by omega)
    obtain rfl : x = ix3 0 r e := by blk_ext
    pointwise [oBlk, k0_pay71, k0_pay81, k0_pay104, k0_pay114, k0_pay132,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 3 t = q
    generalize iblk m c 4 t = k
    generalize iblk m c 5 t = v
    generalize iblk m c 6 t = w
    rfl
  case piece2 =>
    obtain rfl : h = 1 := Fin.ext (by omega)
    obtain rfl : x = ix3 0 r e := by blk_ext
    pointwise [oBlk, k0_pay70, k0_pay80, k0_pay103, k0_pay113, k0_pay130,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 3 t = q
    generalize iblk m c 4 t = k
    generalize iblk m c 5 t = v
    generalize iblk m c 6 t = w
    rfl
  case piece3 =>
    obtain rfl : h = 0 := Fin.ext (by omega)
    obtain rfl : x = ix3 0 r e := by blk_ext
    pointwise [oBlk, k0_pay69, k0_pay77, k0_pay78, k0_pay79, k0_pay100, k0_pay101, k0_pay102, k0_pay111, k0_pay112, k0_pay127, k0_pay128,
      k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53,
      k0_pay54, k0_pay55, k0_pay56, k0_pay57, k0_pay58, k0_pay59, k0_pay60, k0_pay61, k0_pay62, k0_pay63, k0_pay64]
    generalize iblk m c 3 t = q
    generalize iblk m c 4 t = k
    generalize iblk m c 5 t = v
    generalize iblk m c 6 t = w
    simp only [qcol_zero, vcol_zero]
    rfl

end Cert.KernelIdeal.Ret

end
-- ==== Proof.RetScan.lean ====
module

public import proofs.«01_k».proof.Proof.RetReads
public import proofs.«01_k».proof.Proof.RetTabVal
public import proofs.«01_k».proof.Proof.RetTab
public import proofs.«01_k».proof.Proof.RetTabB
public import proofs.«01_k».proof.Proof.RetState
public import proofs.«01_k».proof.Proof.RetStateA
public import proofs.«01_k».proof.Proof.RetOutF
public import proofs.«01_k».proof.Proof.RetOutFA
public import proofs.«01_k».proof.Proof.RetOutB
public import proofs.«01_k».proof.Proof.RetOutBA

@[expose] public section

set_option maxRecDepth 16384

noncomputable section

open Idealize.ShloMosaic Idealize.ShloMosaic.TcCoe Idealize.SL.Sem
open Idealize.ShloMosaic.Pipeline (Dat)

namespace Cert.KernelIdeal.Ret

open Cert.Ret Cert.KernelIdeal Cert.KernelIdeal.Gen

variable (m : (ℓ : Loc nD τ sig) → Buf (Elt Ideal) ℓ) {c : Dev nD}
    (D : Data (A0 m c) (A1 m c) (A2 m c) (A3 m c))

/-- A block's readout from the state before the block and the tables is the recurrence's readout at the row's time. -/
theorem oBlk_val (t : Fin cfg0.N) (d : Fin 2) (h : Fin 4) (r e : Fin 256) (s : Fin 128 → Fin 256 → EReal)
    (dec : Fin 256 → Fin 256 → EReal) (eq : Fin 256 → Fin 128 → EReal)
    (hs : ∀ i e, s i e = (D.S d (bOf t) h (256 * (t.val % 33)) i e : EReal))
    (hdec : ∀ r c', dec r c' = decT d (A3 m c d h) r c') (heq : ∀ r i, eq r i = eqT d (A3 m c d h) r) :
    oBlk (qblk m c d t) (kblk m c d t) (vblk m c d t) s dec eq h r e
      = (D.out d (bOf t) h (256 * (t.val % 33) + ord d r) e : EReal) := by
  unfold oBlk
  simp only [hs, hdec, heq, q_at, k_at, v_at, decT_val (D.hl d h), eqT_val (D.hl d h), D.hq, D.hk, D.hv,
    ← EReal.coe_mul, ← coe_sum, ← EReal.coe_add]
  exact congrArg _ (readout_block (D.g d h) (D.K d (bOf t) h) (D.V d (bOf t) h)
    (D.Q d (bOf t) h (256 * (t.val % 33) + ord d r)) (256 * (t.val % 33)) (ord d) r e).symm

/-- A block's new state from the state before the block and the tables is the recurrence's state after the block. -/
theorem sBlk_val (t : Fin cfg0.N) (d : Fin 2) (h : Fin 4) (i : Fin 128) (e : Fin 256) (s : Fin 128 → Fin 256 → EReal)
    (ek : Fin 128 → Fin 256 → EReal) (egl : EReal)
    (hs : ∀ i e, s i e = (D.S d (bOf t) h (256 * (t.val % 33)) i e : EReal))
    (hek : ∀ i c', ek i c' = ekT d (A3 m c d h) c') (hegl : egl = eglT (A3 m c d h)) :
    sBlk (kblk m c d t) (vblk m c d t) s ek egl h i e
      = (D.S d (bOf t) h (256 * (t.val % 33) + 256) i e : EReal) := by
  unfold sBlk
  simp only [hs, hek, hegl, k_at, v_at, ekT_val (D.hl d h), eglT_val (D.hl d h), D.hk, D.hv,
    ← EReal.coe_mul, ← coe_sum, ← EReal.coe_add]
  exact congrArg _ (st_block (D.g d h) (D.K d (bOf t) h) (D.V d (bOf t) h) (256 * (t.val % 33)) (ord d) i e).symm

/-- What a grid point leaves behind: the recurrence's states after its block, and the four tables of the weights. -/
structure Inv (t : Fin cfg0.N) : Prop where
  s : ∀ d h i e, (outsAt0 m c t.val t.isLt).2.2.1 (ix4 d h i e) = (D.S d (bOf t) h (256 * (t.val % 33) + 256) i e : EReal)
  dec : ∀ d h r c', (outsAt0 m c t.val t.isLt).2.2.2.1 (ix4 d h r c') = decT d (A3 m c d h) r c'
  eq : ∀ d h r i, (outsAt0 m c t.val t.isLt).2.2.2.2.1 (ix4 d h r i) = eqT d (A3 m c d h) r
  ek : ∀ d h i c', (outsAt0 m c t.val t.isLt).2.2.2.2.2.1 (ix4 d h i c') = ekT d (A3 m c d h) c'
  egl : ∀ d h, (outsAt0 m c t.val t.isLt).2.2.2.2.2.2 (ix4 d h 0 0) = eglT (A3 m c d h)

/-- A sequence's first point leaves the states after its first block. -/
theorem inv_A (t : Fin cfg0.N) (h0 : t.val % 33 = 0) : Inv m D t where
  s d h i e := by
    rw [state_A m c t h0 d h i e _ rfl rfl rfl rfl, wt_eq]
    exact sBlk_val m D t d h i e _ _ _ (fun i e => by rw [h0]; rfl) (fun _ _ => rfl) rfl
  dec d h r c' := by rw [dec_A m c t h0 d h r c' _ rfl rfl rfl rfl, wt_eq]
  eq d h r i := by rw [eq_A m c t h0 d h r i _ rfl rfl rfl rfl, wt_eq]
  ek d h i c' := by rw [ek_A m c t h0 d h i c' _ rfl rfl rfl rfl, wt_eq]
  egl d h := by rw [egl_A m c t h0 d h 0 0 _ rfl rfl rfl rfl, wt_eq]

/-- A later point is in the sequence of the point before it, one block on. -/
theorem step_B (n : ℕ) (hn : n + 1 < cfg0.N) (h0 : ¬ (n + 1) % 33 = 0) :
    bOf ⟨n + 1, hn⟩ = bOf ⟨n, Nat.lt_of_succ_lt hn⟩ ∧ 256 * ((n + 1) % 33) = 256 * (n % 33) + 256 := by
  constructor
  · refine Fin.ext ?_
    show (n + 1) / 33 = n / 33
    omega
  · omega

/-- A later point leaves the states after its block, the point before having left those before it. -/
theorem inv_B (n : ℕ) (hn : n + 1 < cfg0.N) (h0 : ¬ (n + 1) % 33 = 0) (I : Inv m D ⟨n, Nat.lt_of_succ_lt hn⟩) :
    Inv m D ⟨n + 1, hn⟩ := by
  obtain ⟨hb, hk⟩ := step_B n hn h0
  have hT := tables_B m c ⟨n + 1, hn⟩ h0 _ rfl
  refine ⟨fun d h i e => ?_, fun d h r c' => ?_, fun d h r i => ?_, fun d h i c' => ?_, fun d h => ?_⟩
  · rw [state_B m c ⟨n + 1, hn⟩ h0 d h i e _ rfl rfl rfl rfl _ rfl]
    refine sBlk_val m D ⟨n + 1, hn⟩ d h i e _ _ _ (fun i e => ?_) (fun i c' => I.ek d h i c') (I.egl d h)
    rw [hb, hk]
    exact I.s d h i e
  · rw [hT]; exact I.dec d h r c'
  · rw [hT]; exact I.eq d h r i
  · rw [hT]; exact I.ek d h i c'
  · rw [hT]; exact I.egl d h

/-- Every grid point leaves the recurrence's states after its block. -/
theorem inv : ∀ (n : ℕ) (hn : n < cfg0.N), Inv m D ⟨n, hn⟩
  | 0, hn => inv_A m D ⟨0, hn⟩ rfl
  | n + 1, hn => by
    by_cases h0 : (n + 1) % 33 = 0
    · exact inv_A m D ⟨n + 1, hn⟩ h0
    · exact inv_B m D n hn h0 (inv n (Nat.lt_of_succ_lt hn))

/-- The first direction's block at a grid point: the recurrence's readouts at the rows' times. -/
theorem out7_val (t : Fin cfg0.N) (h : Fin 4) (r e : Fin 256) (y : S1x256x1024.Idx) (hy1 : (y 1 : ℕ) = r)
    (hy2 : (y 2 : ℕ) = h * 256 + e) :
    (outsAt0 m c t.val t.isLt).1 y = (D.out 0 (bOf t) h (256 * (t.val % 33) + ord 0 r) e : EReal) := by
  by_cases h0 : t.val % 33 = 0
  · rw [out7_A m c t h0 h r e y hy1 hy2, wt_eq]
    exact oBlk_val m D t 0 h r e _ _ _ (fun i e => by rw [h0]; rfl) (fun _ _ => rfl) (fun _ _ => rfl)
  · rw [out7_B m c t h0 h r e y hy1 hy2 _ rfl]
    obtain ⟨_ | n, hn⟩ := t
    · exact absurd rfl h0
    obtain ⟨hb, hk⟩ := step_B n hn h0
    have I := inv m D n (Nat.lt_of_succ_lt hn)
    refine oBlk_val m D ⟨n + 1, hn⟩ 0 h r e _ _ _ (fun i e => ?_) (fun r c' => I.dec 0 h r c') (fun r i => I.eq 0 h r i)
    rw [hb, hk]
    exact I.s 0 h i e

/-- The second direction's block at a grid point: the recurrence's readouts at the rows' times. -/
theorem out8_val (t : Fin cfg0.N) (h : Fin 4) (r e : Fin 256) (y : S1x256x1024.Idx) (hy1 : (y 1 : ℕ) = r)
    (hy2 : (y 2 : ℕ) = h * 256 + e) :
    (outsAt0 m c t.val t.isLt).2.1 y = (D.out 1 (bOf t) h (256 * (t.val % 33) + ord 1 r) e : EReal) := by
  by_cases h0 : t.val % 33 = 0
  · rw [out8_A m c t h0 h r e y hy1 hy2, wt_eq]
    exact oBlk_val m D t 1 h r e _ _ _ (fun i e => by rw [h0]; rfl) (fun _ _ => rfl) (fun _ _ => rfl)
  · rw [out8_B m c t h0 h r e y hy1 hy2 _ rfl]
    obtain ⟨_ | n, hn⟩ := t
    · exact absurd rfl h0
    obtain ⟨hb, hk⟩ := step_B n hn h0
    have I := inv m D n (Nat.lt_of_succ_lt hn)
    refine oBlk_val m D ⟨n + 1, hn⟩ 1 h r e _ _ _ (fun i e => ?_) (fun r c' => I.dec 1 h r c') (fun r i => I.eq 1 h r i)
    rw [hb, hk]
    exact I.s 1 h i e

/-- A direction's results as an array: at each token, the readout at the time the direction meets it. -/
def res (d : Fin 2) : FVec Ideal S2x8448x1024 .bf16 := fun y =>
  (D.outAt d (y 0) (y 1) (y 2) : EReal)

/-- The readout at a token of a block is the results' entry there. -/
theorem res_at (t : Fin cfg0.N) (d : Fin 2) (h : Fin 4) (r e : Fin 256) (y : S2x8448x1024.Idx) (hy0 : (y 0 : ℕ) = t.val / 33)
    (hy1 : (y 1 : ℕ) = 256 * blk d (t.val % 33) + r) (hy2 : (y 2 : ℕ) = h * 256 + e) :
    (D.out d (bOf t) h (256 * (t.val % 33) + ord d r) e : EReal) = res m D d y := by
  unfold res Data.outAt
  rw [← tok_tok d (t.val % 33) (Nat.mod_lt _ (by decide)) r, ← hy1]
  have e0 : bOf t = y 0 := Fin.ext hy0.symm
  have e1 : h = ⟨(y 2 : ℕ) / 256, by omega⟩ := Fin.ext (by show (h : ℕ) = (y 2 : ℕ) / 256; omega)
  have e2 : e = ⟨(y 2 : ℕ) % 256, by omega⟩ := Fin.ext (by show (e : ℕ) = (y 2 : ℕ) % 256; omega)
  rw [← e1, ← e2, e0]

/-- The first direction's array after the run. -/
theorem final7 : (dats m 0 c).arrAt 7 cfg0.N = res m D 0 := by
  refine (dats m 0 c).arrAt_eq_of_covers 7 _ (by decide +kernel) fun t hf y => ?_
  blk_simp
  rw [after0_7]
  have hy2 : (y 2 : ℕ) < 1024 := (y 2).isLt
  have hy1 : (y 1 : ℕ) < 256 := (y 1).isLt
  have hy0 : (y 0 : ℕ) < 1 := (y 0).isLt
  rw [out7_val m D t ⟨(y 2 : ℕ) / 256, by omega⟩ ⟨(y 1 : ℕ), hy1⟩ ⟨(y 2 : ℕ) % 256, by omega⟩ y rfl
    (by show (y 2 : ℕ) = (y 2 : ℕ) / 256 * 256 + (y 2 : ℕ) % 256; omega)]
  refine res_at m D t 0 _ _ _ _ ?_ ?_ ?_
  all_goals blk_simp [idx t]
  · exact congrArg (· + (y 1 : ℕ)) (Nat.mul_comm _ _)
  · exact (Nat.div_add_mod' _ _).symm

/-- The second direction's array after the run. -/
theorem final8 : (dats m 0 c).arrAt 8 cfg0.N = res m D 1 := by
  refine (dats m 0 c).arrAt_eq_of_covers 8 _ (by decide +kernel) fun t hf y => ?_
  blk_simp
  rw [after0_8]
  have hy2 : (y 2 : ℕ) < 1024 := (y 2).isLt
  have hy1 : (y 1 : ℕ) < 256 := (y 1).isLt
  have hy0 : (y 0 : ℕ) < 1 := (y 0).isLt
  rw [out8_val m D t ⟨(y 2 : ℕ) / 256, by omega⟩ ⟨(y 1 : ℕ), hy1⟩ ⟨(y 2 : ℕ) % 256, by omega⟩ y rfl
    (by show (y 2 : ℕ) = (y 2 : ℕ) / 256 * 256 + (y 2 : ℕ) % 256; omega)]
  refine res_at m D t 1 _ _ _ _ ?_ ?_ ?_
  all_goals blk_simp [idx t]
  · exact congrArg (· + (y 1 : ℕ)) (Nat.mul_comm _ _)
  · exact (Nat.div_add_mod' _ _).symm

end Cert.KernelIdeal.Ret

end
-- ==== Proof.RetRef.lean ====
module

public import proofs.«01_k».proof.Proof.Gen.ReferenceIdeal.Run
public import proofs.«01_k».proof.Proof.RetMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.ReferenceIdeal.Ret

open Cert.Ret Cert.ReferenceIdeal Cert.ReferenceIdeal.Gen Cert.ReferenceIdeal.Value

variable (m : (ℓ : Loc nD τ sig) → Buf (Elt Ideal) ℓ)

/-- The loop's valuation before trip `j`: the trip's number, the stacked queries, keys and values, the decay, the state and
    the readouts. -/
structure At (V : Valuation τ sig (Elt Ideal)) (j : ℕ) (Q K : FVec Ideal S8448x2x2x4x128 .f32)
    (X : FVec Ideal S8448x2x2x4x256 .f32) (G : FVec Ideal S2x4 .f32) (S : FVec Ideal S2x2x4x128x256 .f32)
    (O : FVec Ideal S8448x2x2x4x256 .f32) : Prop where
  n : V (Proc.devRef .tc main_v41_4) = constantI S_ 32 (BitVec.ofNat 32 j)
  q : V (Proc.devRef .tc main_v41_0) = Q
  k : V (Proc.devRef .tc main_v41_1) = K
  v : V (Proc.devRef .tc main_v41_2) = X
  g : V (Proc.devRef .tc main_v41_3) = G
  s : V (Proc.devRef .tc main_v41_5) = S
  o : V (Proc.devRef .tc main_v41_6) = O

variable {V : Valuation τ sig (Elt Ideal)} {j : ℕ} {Q K : FVec Ideal S8448x2x2x4x128 .f32}
    {X : FVec Ideal S8448x2x2x4x256 .f32} {G : FVec Ideal S2x4 .f32} {S : FVec Ideal S2x2x4x128x256 .f32}
    {O : FVec Ideal S8448x2x2x4x256 .f32}

theorem start_toInt (hj : j < 8448) : (BitVec.ofNat 32 j).toInt = j := by
  have h1 : (BitVec.ofNat 32 j).toNat = j := by
    rw [BitVec.toNat_ofNat]; exact Nat.mod_eq_of_lt (by omega)
  rw [BitVec.toInt_eq_toNat_of_lt (by omega), h1]

/-- A slab of the queries or keys at trip `j`, read entry by entry. -/
theorem slab_q (Q : FVec Ideal S8448x2x2x4x128 .f32) (st : Fin 5 → Int) (h0 : st 0 = j) (h1 : st 1 = 0) (h2 : st 2 = 0)
    (h3 : st 3 = 0) (h4 : st 4 = 0) (hj : j < 8448) (d b : Fin 2) (h : Fin 4) (i : Fin 128) :
    Host.dynamicSlice S1x2x2x4x128 Q st sliceFits_S8448x2x2x4x128_S1x2x2x4x128 (ix5 0 d b h i)
      = Q (ix5 ⟨j, hj⟩ d b h i) := by
  pointwise [id]
  have c0 : Host.clampedStart S8448x2x2x4x128 S1x2x2x4x128 rfl st 0 = j :=
    Host.clampedStart_of_le _ _ _ j h0 (by show j + 1 ≤ 8448; omega)
  have c1 : Host.clampedStart S8448x2x2x4x128 S1x2x2x4x128 rfl st 1 = 0 := Host.clampedStart_of_le _ _ _ 0 h1 (by decide)
  have c2 : Host.clampedStart S8448x2x2x4x128 S1x2x2x4x128 rfl st 2 = 0 := Host.clampedStart_of_le _ _ _ 0 h2 (by decide)
  have c3 : Host.clampedStart S8448x2x2x4x128 S1x2x2x4x128 rfl st 3 = 0 := Host.clampedStart_of_le _ _ _ 0 h3 (by decide)
  have c4 : Host.clampedStart S8448x2x2x4x128 S1x2x2x4x128 rfl st 4 = 0 := Host.clampedStart_of_le _ _ _ 0 h4 (by decide)
  simp only [c0, c1, c2, c3, c4]
  refine congrArg Q ?_
  blk_ext

/-- A slab of the values at trip `j`, read entry by entry. -/
theorem slab_v (Q : FVec Ideal S8448x2x2x4x256 .f32) (st : Fin 5 → Int) (h0 : st 0 = j) (h1 : st 1 = 0) (h2 : st 2 = 0)
    (h3 : st 3 = 0) (h4 : st 4 = 0) (hj : j < 8448) (d b : Fin 2) (h : Fin 4) (i : Fin 256) :
    Host.dynamicSlice S1x2x2x4x256 Q st sliceFits_S8448x2x2x4x256_S1x2x2x4x256 (ix5 0 d b h i)
      = Q (ix5 ⟨j, hj⟩ d b h i) := by
  pointwise [id]
  have c0 : Host.clampedStart S8448x2x2x4x256 S1x2x2x4x256 rfl st 0 = j :=
    Host.clampedStart_of_le _ _ _ j h0 (by show j + 1 ≤ 8448; omega)
  have c1 : Host.clampedStart S8448x2x2x4x256 S1x2x2x4x256 rfl st 1 = 0 := Host.clampedStart_of_le _ _ _ 0 h1 (by decide)
  have c2 : Host.clampedStart S8448x2x2x4x256 S1x2x2x4x256 rfl st 2 = 0 := Host.clampedStart_of_le _ _ _ 0 h2 (by decide)
  have c3 : Host.clampedStart S8448x2x2x4x256 S1x2x2x4x256 rfl st 3 = 0 := Host.clampedStart_of_le _ _ _ 0 h3 (by decide)
  have c4 : Host.clampedStart S8448x2x2x4x256 S1x2x2x4x256 rfl st 4 = 0 := Host.clampedStart_of_le _ _ _ 0 h4 (by decide)
  simp only [c0, c1, c2, c3, c4]
  refine congrArg Q ?_
  blk_ext

/-- A trip's new state, entry by entry. -/
theorem state_at (hV : At V j Q K X G S O) (hj : j < 8448) (d b : Fin 2) (h : Fin 4) (i : Fin 128) (e : Fin 256) :
    (res_main_while0b_v66 V : FVec Ideal S2x2x4x128x256 .f32) (ix5 d b h i e)
      = G (ix2 d h) * S (ix5 d b h i e) + K (ix5 ⟨j, hj⟩ d b h i) * X (ix5 ⟨j, hj⟩ d b h e) := by
  unfold res_main_while0b_v66
  rw [hV.n, hV.k, hV.v, hV.g, hV.s]
  generalize hK : Host.dynamicSlice S1x2x2x4x128 K _ _ = K'
  generalize hX : Host.dynamicSlice S1x2x2x4x256 X _ _ = X'
  pointwise [id]
  subst hK hX
  exact congrArg₂ (· + ·) rfl (congrArg₂ (· * ·) (slab_q K _ (start_toInt hj) rfl rfl rfl rfl hj d b h i)
    (slab_v X _ (start_toInt hj) rfl rfl rfl rfl hj d b h e))

/-- The readouts with one trip's row put in, read entry by entry. -/
theorem put_o (O : FVec Ideal S8448x2x2x4x256 .f32) (U : FVec Ideal S1x2x2x4x256 .f32) (st : Fin 5 → Int) (h0 : st 0 = j)
    (h1 : st 1 = 0) (h2 : st 2 = 0) (h3 : st 3 = 0) (h4 : st 4 = 0) (hj : j < 8448) (t : Fin 8448) (d b : Fin 2)
    (h : Fin 4) (e : Fin 256) :
    Host.dynamicUpdateSlice O U st updateFits_S8448x2x2x4x256_S1x2x2x4x256 (ix5 t d b h e)
      = if (t : ℕ) = j then U (ix5 0 d b h e) else O (ix5 t d b h e) := by
  pointwise [id]
  have c0 : Host.clampedStart S8448x2x2x4x256 S1x2x2x4x256 rfl st 0 = j :=
    Host.clampedStart_of_le _ _ _ j h0 (by show j + 1 ≤ 8448; omega)
  have c1 : Host.clampedStart S8448x2x2x4x256 S1x2x2x4x256 rfl st 1 = 0 := Host.clampedStart_of_le _ _ _ 0 h1 (by decide)
  have c2 : Host.clampedStart S8448x2x2x4x256 S1x2x2x4x256 rfl st 2 = 0 := Host.clampedStart_of_le _ _ _ 0 h2 (by decide)
  have c3 : Host.clampedStart S8448x2x2x4x256 S1x2x2x4x256 rfl st 3 = 0 := Host.clampedStart_of_le _ _ _ 0 h3 (by decide)
  have c4 : Host.clampedStart S8448x2x2x4x256 S1x2x2x4x256 rfl st 4 = 0 := Host.clampedStart_of_le _ _ _ 0 h4 (by decide)
  simp only [c0, c1, c2, c3, c4]
  by_cases ht : (t : ℕ) = j
  · rw [if_pos ht, dif_pos (by omega)]
    refine congrArg U ?_
    blk_ext
  · rw [if_neg ht, dif_neg (by omega)]

/-- A trip's readouts, entry by entry: the trip's own row is the queries against its new state, the others are kept. -/
theorem step6_at (hV : At V j Q K X G S O) (hj : j < 8448) (t : Fin 8448) (d b : Fin 2) (h : Fin 4) (e : Fin 256) :
    (step_main_v41_6 V : FVec Ideal S8448x2x2x4x256 .f32) (ix5 t d b h e)
      = if (t : ℕ) = j then ∑ i : Fin 128, Q (ix5 ⟨j, hj⟩ d b h i)
            * (res_main_while0b_v66 V : FVec Ideal S2x2x4x128x256 .f32) (ix5 d b h i e)
          else O (ix5 t d b h e) := by
  unfold step_main_v41_6
  generalize res_main_while0b_v66 V = S'
  rw [hV.n, hV.q, hV.o]
  refine (put_o O _ _ (start_toInt hj) rfl rfl rfl rfl hj t d b h e).trans ?_
  split
  · generalize hQ : Host.dynamicSlice S1x2x2x4x128 Q _ _ = Q'
    pointwise [id]
    subst hQ
    refine Finset.sum_congr rfl fun i _ => congrArg (· * _) ?_
    exact slab_q Q _ (start_toInt hj) rfl rfl rfl rfl hj d b h i
  · rfl

/-- The first direction's results, entry by entry. -/
theorem out46_at (h : V (Proc.devRef .tc main_v41_6) = O) (b : Fin 2) (t : Fin 8448) (j : Fin 1024) :
    (out_main_v46 V : FVec Ideal S2x8448x1024 .bf16) (ix3 b t j)
      = O (ix5 t 0 b ⟨j / 256, by omega⟩ ⟨j % 256, by omega⟩) := by
  unfold out_main_v46
  rw [h]
  pointwise [id]

/-- The second direction's results, entry by entry: those of the time the token is met at. -/
theorem out54_at (h : V (Proc.devRef .tc main_v41_6) = O) (b : Fin 2) (t : Fin 8448) (j : Fin 1024) (u : Fin 8448)
    (hu : u = tok 1 t) :
    (out_main_v54 V : FVec Ideal S2x8448x1024 .bf16) (ix3 b t j)
      = O (ix5 u 1 b ⟨j / 256, by omega⟩ ⟨j % 256, by omega⟩) := by
  unfold out_main_v54
  rw [h]
  pointwise [id]
  have hu : (u : ℕ) = if (t : ℕ) < 256 then 255 - (t : ℕ) else 8703 - t := by
    rw [hu]; simp [tok]; split <;> omega
  split at hu
  · rw [dif_pos (by assumption)]
    refine congrArg (fun u => O (ix5 u 1 b _ _)) (Fin.ext ?_)
    simp [Fin.val_rev]
    omega
  · rw [dif_neg (by assumption)]
    refine congrArg (fun u => O (ix5 u 1 b _ _)) (Fin.ext ?_)
    simp [Fin.val_rev]
    omega

/-- The state starts at nought. -/
theorem entry_v5 (c : Dev nD) : entryContents preI m c (Proc.devRef .tc main_v41_5) = (fun _ => (0 : EReal)) := by
  simp only [entryContents, afterL_cons, afterL_nil]
  after_reads_simp
  funext y
  exact (by simp [Ideal.ofBits, Ideal.ieee] : (Ideal.ofBits .f32 0x00000000#32) = 0)

/-- The trip counter starts at nought. -/
theorem entry_v4 (c : Dev nD) : entryContents preI m c (Proc.devRef .tc main_v41_4) = constantI S_ 32 0#32 := by
  simp only [entryContents, afterL_cons, afterL_nil]
  after_reads_simp
  funext y
  rfl

/-- The decay: the exponential of the log-sigmoid of the weights. -/
theorem entry_v3 (c : Dev nD) (d : Fin 2) (h : Fin 4) :
    (entryContents preI m c (Proc.devRef .tc main_v41_3) : FVec Ideal S2x4 .f32) (ix2 d h)
      = gam ((launchContents m c (Proc.devRef .tc main_arg3) : FVec Ideal S2x4 .f32) (ix2 d h)) := by
  simp only [entryContents, afterL_cons, afterL_nil]
  after_reads_simp
  pointwise [id, gam]
  try rfl

/-- The stacked queries at a time: those of the token the direction meets then. -/
theorem entry_v0 (c : Dev nD) (t : Fin 8448) (d b : Fin 2) (h : Fin 4) (i : Fin 128) :
    (entryContents preI m c (Proc.devRef .tc main_v41_0) : FVec Ideal S8448x2x2x4x128 .f32) (ix5 t d b h i)
      = (launchContents m c (Proc.devRef .tc main_arg0) : FVec Ideal S2x8448x512 .bf16) (ix3 b (tok d t) ⟨h * 128 + i, by omega⟩) := by
  simp only [entryContents, afterL_cons, afterL_nil]
  after_reads_simp
  pointwise [id]
  split <;> after_reads_simp <;> pointwise [id]
  · obtain rfl : d = 0 := Fin.ext (by omega)
    refine congrArg (launchContents m c (Proc.devRef .tc main_arg0)) ?_
    simp only [tok, ↓reduceIte]
    blk_ext
  · obtain rfl : d = 1 := Fin.ext (by omega)
    split <;> after_reads_simp
    · simp -implicitDefEqProofs only [StableHlo.TRef.toBuf, StableHlo.TRef.ofBuf, cast_cast, cast_eq]
      pointwise [id]
      refine congrArg (launchContents m c (Proc.devRef .tc main_arg0)) ?_
      simp only [List.mem_singleton, Fin.isValue, Fin.reduceEq, tok]
      blk_ext
      all_goals simp only [↓reduceIte, Fin.val_rev]
      all_goals try (split <;> omega)
    · simp -implicitDefEqProofs only [StableHlo.TRef.toBuf, StableHlo.TRef.ofBuf, cast_cast, cast_eq]
      pointwise [id]
      refine congrArg (launchContents m c (Proc.devRef .tc main_arg0)) ?_
      simp only [List.mem_singleton, Fin.isValue, Fin.reduceEq, tok]
      blk_ext
      all_goals simp only [↓reduceIte, Fin.val_rev]
      all_goals try (split <;> omega)

/-- The stacked keys at a time: those of the token the direction meets then. -/
theorem entry_v1 (c : Dev nD) (t : Fin 8448) (d b : Fin 2) (h : Fin 4) (i : Fin 128) :
    (entryContents preI m c (Proc.devRef .tc main_v41_1) : FVec Ideal S8448x2x2x4x128 .f32) (ix5 t d b h i)
      = (launchContents m c (Proc.devRef .tc main_arg1) : FVec Ideal S2x4x128x8448 .bf16) (ix4 b h i (tok d t)) := by
  simp only [entryContents, afterL_cons, afterL_nil]
  after_reads_simp
  pointwise [id]
  split <;> after_reads_simp <;> pointwise [id]
  · obtain rfl : d = 0 := Fin.ext (by omega)
    refine congrArg (launchContents m c (Proc.devRef .tc main_arg1)) ?_
    simp only [tok, ↓reduceIte]
    blk_ext
  · obtain rfl : d = 1 := Fin.ext (by omega)
    split <;> after_reads_simp
    · simp -implicitDefEqProofs only [StableHlo.TRef.toBuf, StableHlo.TRef.ofBuf, cast_cast, cast_eq]
      pointwise [id]
      refine congrArg (launchContents m c (Proc.devRef .tc main_arg1)) ?_
      simp only [List.mem_singleton, Fin.isValue, Fin.reduceEq, tok]
      blk_ext
      all_goals simp only [↓reduceIte, Fin.val_rev]
      all_goals try (split <;> omega)
    · simp -implicitDefEqProofs only [StableHlo.TRef.toBuf, StableHlo.TRef.ofBuf, cast_cast, cast_eq]
      pointwise [id]
      refine congrArg (launchContents m c (Proc.devRef .tc main_arg1)) ?_
      simp only [List.mem_singleton, Fin.isValue, Fin.reduceEq, tok]
      blk_ext
      all_goals simp only [↓reduceIte, Fin.val_rev]
      all_goals try (split <;> omega)

/-- The stacked values at a time: those of the token the direction meets then. -/
theorem entry_v2 (c : Dev nD) (t : Fin 8448) (d b : Fin 2) (h : Fin 4) (i : Fin 256) :
    (entryContents preI m c (Proc.devRef .tc main_v41_2) : FVec Ideal S8448x2x2x4x256 .f32) (ix5 t d b h i)
      = (launchContents m c (Proc.devRef .tc main_arg2) : FVec Ideal S2x8448x14336 .bf16) (ix3 b (tok d t) ⟨4096 + (h * 256 + i), by omega⟩) := by
  simp only [entryContents, afterL_cons, afterL_nil]
  after_reads_simp
  pointwise [id]
  split <;> after_reads_simp <;> pointwise [id]
  · obtain rfl : d = 0 := Fin.ext (by omega)
    refine congrArg (launchContents m c (Proc.devRef .tc main_arg2)) ?_
    simp only [tok, ↓reduceIte]
    blk_ext
  · obtain rfl : d = 1 := Fin.ext (by omega)
    split <;> after_reads_simp
    · simp -implicitDefEqProofs only [StableHlo.TRef.toBuf, StableHlo.TRef.ofBuf, cast_cast, cast_eq]
      pointwise [id]
      refine congrArg (launchContents m c (Proc.devRef .tc main_arg2)) ?_
      simp only [List.mem_singleton, Fin.isValue, Fin.reduceEq, tok]
      blk_ext
      all_goals simp only [↓reduceIte, Fin.val_rev]
      all_goals try (split <;> omega)
    · simp -implicitDefEqProofs only [StableHlo.TRef.toBuf, StableHlo.TRef.ofBuf, cast_cast, cast_eq]
      pointwise [id]
      refine congrArg (launchContents m c (Proc.devRef .tc main_arg2)) ?_
      simp only [List.mem_singleton, Fin.isValue, Fin.reduceEq, tok]
      blk_ext
      all_goals simp only [↓reduceIte, Fin.val_rev]
      all_goals try (split <;> omega)

end Cert.ReferenceIdeal.Ret

end
-- ==== Proof.RetIter.lean ====
module

public import proofs.«01_k».proof.Proof.RetRef

@[expose] public section

set_option maxRecDepth 16384

noncomputable section

open Idealize.ShloMosaic Idealize.ShloMosaic.TcCoe Idealize.SL.Sem Idealize.ShloMosaic.StableHlo

namespace Cert.ReferenceIdeal.Ret

open Cert.Ret Cert.ReferenceIdeal Cert.ReferenceIdeal.Gen Cert.ReferenceIdeal.Value

variable {V : Valuation τ sig (Elt Ideal)} {j : ℕ} {Q K : FVec Ideal S8448x2x2x4x128 .f32}
    {X : FVec Ideal S8448x2x2x4x256 .f32} {G : FVec Ideal S2x4 .f32} {S : FVec Ideal S2x2x4x128x256 .f32}
    {O : FVec Ideal S8448x2x2x4x256 .f32}

/-- A trip moves to the next trip's number, the new state and the new readouts, and keeps the rest. -/
theorem At.succ (hV : At V j Q K X G S O) :
    At (STEP V) (j + 1) Q K X G (res_main_while0b_v66 V : FVec Ideal S2x2x4x128x256 .f32)
      (step_main_v41_6 V : FVec Ideal S8448x2x2x4x256 .f32) where
  n := by
    rw [STEP_main_v41_4]
    unfold step_main_v41_4
    rw [hV.n]
    funext i
    show BitVec.ofNat 32 j + 1#32 = BitVec.ofNat 32 (j + 1)
    simp only [BitVec.ofNat_add]
  q := (STEP_main_v41_0 V).trans hV.q
  k := (STEP_main_v41_1 V).trans hV.k
  v := (STEP_main_v41_2 V).trans hV.v
  g := (STEP_main_v41_3 V).trans hV.g
  s := STEP_main_v41_5 V
  o := STEP_main_v41_6 V

variable {A0 : Fin 2 → Fin 8448 → Fin 512 → EReal} {A1 : Fin 2 → Fin 4 → Fin 128 → Fin 8448 → EReal}
    {A2 : Fin 2 → Fin 8448 → Fin 1024 → EReal} {A3 : Fin 2 → Fin 4 → EReal} (D : Data A0 A1 A2 A3)

/-- Before trip `j` the valuation holds the recurrence's states after `j` tokens and the readouts of the times before `j`. -/
structure Good (V : Valuation τ sig (Elt Ideal)) (j : ℕ) (Q K : FVec Ideal S8448x2x2x4x128 .f32)
    (X : FVec Ideal S8448x2x2x4x256 .f32) (G : FVec Ideal S2x4 .f32) : Prop where
  ex : ∃ (S : FVec Ideal S2x2x4x128x256 .f32) (O : FVec Ideal S8448x2x2x4x256 .f32), At V j Q K X G S O
    ∧ (∀ d b h i e, S (ix5 d b h i e) = (D.S d b h j i e : EReal))
    ∧ ∀ (t : Fin 8448) d b h e, (t : ℕ) < j → O (ix5 t d b h e) = (D.out d b h t e : EReal)

variable (hQ : ∀ (t : Fin 8448) d b h i, Q (ix5 t d b h i) = (D.Q d b h t i : EReal))
    (hK : ∀ (t : Fin 8448) d b h i, K (ix5 t d b h i) = (D.K d b h t i : EReal))
    (hX : ∀ (t : Fin 8448) d b h e, X (ix5 t d b h e) = (D.V d b h t e : EReal))
    (hG : ∀ d h, G (ix2 d h) = (D.g d h : EReal))

include hQ hK hX hG

/-- A trip does one token of the recurrence. -/
theorem Good.succ (hj : j < 8448) (h : Good D V j Q K X G) : Good D (STEP V) (j + 1) Q K X G := by
  obtain ⟨S, O, hA, hS, hO⟩ := h
  have hS' : ∀ d b h i e, (res_main_while0b_v66 V : FVec Ideal S2x2x4x128x256 .f32) (ix5 d b h i e)
      = (D.S d b h (j + 1) i e : EReal) := by
    intro d b h i e
    rw [state_at hA hj, hG, hS, hK, hX, ← EReal.coe_mul, ← EReal.coe_mul, ← EReal.coe_add]
    rfl
  refine ⟨_, _, hA.succ, hS', fun t d b h e ht => ?_⟩
  rw [step6_at hA hj]
  by_cases he : (t : ℕ) = j
  · rw [if_pos he]
    simp only [hS', hQ, ← EReal.coe_mul, ← coe_sum]
    rw [he]
    rfl
  · rw [if_neg he]
    exact hO t d b h e (by omega)

/-- After `n` trips from the start the valuation is that of trip `n`. -/
theorem Good.iter (h : Good D V 0 Q K X G) : ∀ n, n ≤ 8448 → Good D (STEP^[n] V) n Q K X G
  | 0, _ => h
  | n + 1, hn => by
    rw [Function.iterate_succ_apply']
    exact Good.succ D hQ hK hX hG (by omega) (Good.iter h n (by omega))

omit hQ hK hX hG

variable (m : (ℓ : Loc nD τ sig) → Buf (Elt Ideal) ℓ) (c : Dev nD)

/-- The results a direction's readouts make: at each token, the readout at the time the direction meets it. -/
def res (d : Fin 2) : FVec Ideal S2x8448x1024 .bf16 := fun y =>
  (D.outAt d (y 0) (y 1) (y 2) : EReal)

variable (h0 : ∀ b t j, A0 b t j = (launchContents m c (Proc.devRef .tc main_arg0) : FVec Ideal S2x8448x512 .bf16) (ix3 b t j))
    (h1 : ∀ b h i t, A1 b h i t = (launchContents m c (Proc.devRef .tc main_arg1) : FVec Ideal S2x4x128x8448 .bf16) (ix4 b h i t))
    (h2 : ∀ b t (j : Fin 1024), A2 b t j
      = (launchContents m c (Proc.devRef .tc main_arg2) : FVec Ideal S2x8448x14336 .bf16) (ix3 b t (pcol j)))
    (h3 : ∀ d h, A3 d h = (launchContents m c (Proc.devRef .tc main_arg3) : FVec Ideal S2x4 .f32) (ix2 d h))

include h0 h1 h2 h3

/-- After all trips the readouts are the recurrence's. -/
theorem loop_end : ∃ O : FVec Ideal S8448x2x2x4x256 .f32,
    STEP^[8448] (entryContents preI m c) (Proc.devRef .tc main_v41_6) = O
    ∧ ∀ (t : Fin 8448) d b h e, O (ix5 t d b h e) = (D.out d b h t e : EReal) := by
  have H : Good D (entryContents preI m c) 0 (entryContents preI m c (Proc.devRef .tc main_v41_0))
      (entryContents preI m c (Proc.devRef .tc main_v41_1)) (entryContents preI m c (Proc.devRef .tc main_v41_2))
      (entryContents preI m c (Proc.devRef .tc main_v41_3)) :=
    ⟨fun _ => 0, entryContents preI m c (Proc.devRef .tc main_v41_6),
      ⟨entry_v4 m c, rfl, rfl, rfl, rfl, entry_v5 m c, rfl⟩, fun _ _ _ _ _ => rfl, fun _ _ _ _ _ h => absurd h (Nat.not_lt_zero _)⟩
  obtain ⟨S, O, hA, _, hO⟩ := Good.iter D
    (fun t d b h i => (entry_v0 m c t d b h i).trans ((h0 _ _ _).symm.trans (D.hq _ _ _)))
    (fun t d b h i => (entry_v1 m c t d b h i).trans ((h1 _ _ _ _).symm.trans (D.hk _ _ _ _)))
    (fun t d b h e => (entry_v2 m c t d b h e).trans ((h2 b (tok d t) ⟨h * 256 + e, by omega⟩).symm.trans (D.hv _ _ _)))
    (fun d h => (entry_v3 m c d h).trans ((congrArg gam (h3 d h).symm).trans (D.hg d h))) H 8448 le_rfl
  exact ⟨O, hA.o, fun t d b h e => hO t d b h e t.isLt⟩

/-- The reference's first result. -/
theorem final46 : (out_main_v46 (STEP^[8448] (entryContents preI m c)) : FVec Ideal S2x8448x1024 .bf16) = res D 0 := by
  obtain ⟨O, hO, hv⟩ := loop_end D m c h0 h1 h2 h3
  funext y
  obtain ⟨b, t, j, rfl⟩ : ∃ (b : Fin 2) (t : Fin 8448) (j : Fin 1024), y = ix3 b t j := ⟨y 0, y 1, y 2, by blk_ext⟩
  rw [out46_at hO b t j, hv]
  have ht : (t : ℕ) = tok 0 t := by simp [tok]; omega
  exact congrArg (fun s : ℕ => (D.out 0 b _ s _ : EReal)) ht

/-- The reference's second result. -/
theorem final54 : (out_main_v54 (STEP^[8448] (entryContents preI m c)) : FVec Ideal S2x8448x1024 .bf16) = res D 1 := by
  obtain ⟨O, hO, hv⟩ := loop_end D m c h0 h1 h2 h3
  funext y
  obtain ⟨b, t, j, rfl⟩ : ∃ (b : Fin 2) (t : Fin 8448) (j : Fin 1024), y = ix3 b t j := ⟨y 0, y 1, y 2, by blk_ext⟩
  rw [out54_at hO b t j _ rfl, hv]
  rfl

end Cert.ReferenceIdeal.Ret

end
-- ==== Proof.RetFinite.lean ====
module

public import proofs.«01_k».proof.Defs
public import proofs.«01_k».proof.Proof.RetReads

@[expose] public section

noncomputable section

open Idealize.ShloMosaic Idealize.ShloMosaic.TcCoe Idealize.SL.Sem

namespace Cert.Pre_finite

/-- The side conditions of the precondition's operations. -/
theorem facts : Facts where
  slices_S2x8448x14336_S2x8448x1024_0_0_4096 := by decide
  bitsLt_bf16_f32 := by decide
  bcast_S_S2x8448x512 := by decide
  bcast_S_S2x4x128x8448 := by decide
  bcast_S_S2x8448x1024 := by decide

end Cert.Pre_finite

namespace Cert.KernelIdeal.Ret

open Cert.Ret Cert.KernelIdeal Cert.KernelIdeal.Gen

/-- An extended real whose size is below infinity is a real number. -/
theorem real_of_abs (x : EReal)
    (h : FloatOps.cmpf (F := Ideal) (φ := .f32) CmpFPredicate.olt (FloatOps.absf (F := Ideal) (φ := .f32) x)
      (Ideal.ofBits .f32 0x7F800000#32) = 1#1) : ∃ r : ℝ, x = r := by
  have h2 : Ideal.ofBits .f32 0x7F800000#32 = ⊤ := by simp [Ideal.ofBits, Ideal.ieee]
  rw [h2] at h
  induction x using EReal.rec with
  | bot =>
    change BitVec.ofBool (decide (max (⊥ : EReal) (-⊥) < ⊤)) = 1#1 at h
    simp at h
  | top =>
    change BitVec.ofBool (decide (max (⊤ : EReal) (-⊤) < ⊤)) = 1#1 at h
    simp at h
  | coe r => exact ⟨r, rfl⟩

variable (m : (ℓ : Loc nD τ sig) → Buf (Elt Ideal) ℓ)

/-- Where the arguments are finite, they are real numbers. -/
theorem data [hPre : Cert.Pre_finite.Facts] (h : Cert.Pre_KernelIdeal_finite m) (c : Dev nD) :
    Nonempty (Data (A0 m c) (A1 m c) (A2 m c) (A3 m c)) := by
  obtain ⟨hq, hk, hv⟩ := h c
  have hq : ∀ b t j, ∃ r : ℝ, A0 m c b t j = r := fun b t j => real_of_abs _ (congrFun hq (ix3 b t j))
  have hk : ∀ b h i t, ∃ r : ℝ, A1 m c b h i t = r := fun b h i t => real_of_abs _ (congrFun hk (ix4 b h i t))
  have hv : ∀ b t j, ∃ r : ℝ, A2 m c b t j = r := fun b t j => real_of_abs _ (by
    have := congrFun hv (ix3 b t j)
    revert this
    unfold A2 pcol
    pointwise [Cert.Pre_finite.fn]
    exact id)
  choose q hq using hq
  choose k hk using hk
  choose v hv using hv
  choose g hg using fun d h => gam_lam (A3 m c d h)
  exact ⟨⟨q, k, v, g, hq, hk, hv, fun d h => (hg d h).1, fun d h => (hg d h).2⟩⟩

end Cert.KernelIdeal.Ret

end
-- ==== Proof.ProjRun.lean ====
/- The input projection's body, one point of its grid at a time.

   The grid is batch × row tile × column block, the column block innermost. At the first column block the body normalizes
   and modulates the tile's rows, keeps them in a scratch buffer and writes the narrow result; at every column block it
   multiplies the kept rows into seven stretches of 512 columns, gated or not as the layer asks of that block. So there
   are four ways through the body, one per column block; each is run here on any whole buffers. -/
module

public import proofs.«01_k».proof.Proof.Gen.Kernel2Ideal.Skeleton
public import proofs.«01_k».proof.Proof.Gen.Kernel2Ideal.Frame

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Which way the body goes, from the point's number -/

/-- The rows are normalized and kept at the first column block. -/
theorem cond1_iff (t : Fin cfg0.N) : k0_cond1 (grid0.coords t) = 1#1 ↔ t.val % 4 = 0 := by
  have ht : t.val < 64 := Nat.lt_of_lt_of_eq t.isLt N_0
  have e2 : (grid0.coords t 2).val = t.val / 1 % 4 := Pipeline.Grid.coords_val t 2 (by decide) rfl
  simp only [k0_cond1, e2]
  word_cmp

/-- The third column block: four gated stretches, two plain, one gated by the logistic alone. -/
theorem cond2_iff (t : Fin cfg0.N) : k0_cond2 (grid0.coords t) = 1#1 ↔ t.val % 4 = 2 := by
  have ht : t.val < 64 := Nat.lt_of_lt_of_eq t.isLt N_0
  have e2 : (grid0.coords t 2).val = t.val / 1 % 4 := Pipeline.Grid.coords_val t 2 (by decide) rfl
  simp only [k0_cond2, e2]
  word_cmp

/-- The first column block: plain stretches but one. -/
theorem cond3_iff (t : Fin cfg0.N) : k0_cond3 (grid0.coords t) = 1#1 ↔ t.val % 4 = 0 := by
  have ht : t.val < 64 := Nat.lt_of_lt_of_eq t.isLt N_0
  have e2 : (grid0.coords t 2).val = t.val / 1 % 4 := Pipeline.Grid.coords_val t 2 (by decide) rfl
  simp only [k0_cond3, e2]
  word_cmp

/-- The second column block. -/
theorem cond4_iff (t : Fin cfg0.N) : k0_cond4 (grid0.coords t) = 1#1 ↔ t.val % 4 = 1 := by
  have ht : t.val < 64 := Nat.lt_of_lt_of_eq t.isLt N_0
  have e2 : (grid0.coords t 2).val = t.val / 1 % 4 := Pipeline.Grid.coords_val t 2 (by decide) rfl
  simp only [k0_cond4, e2]
  word_cmp

/-- The last column block. -/
theorem cond5_iff (t : Fin cfg0.N) : k0_cond5 (grid0.coords t) = 1#1 ↔ t.val % 4 = 3 := by
  have ht : t.val < 64 := Nat.lt_of_lt_of_eq t.isLt N_0
  have e2 : (grid0.coords t 2).val = t.val / 1 % 4 := Pipeline.Grid.coords_val t 2 (by decide) rfl
  simp only [k0_cond5, e2]
  word_cmp

set_option maxHeartbeats 1600000 in
/-- The first column block: what the stores leave, last first — in the wide block, in the narrow block and in the kept
    rows — with the run that leaves it. -/
def runA (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3584 .bf16) (harg6 : arg6.IsWhole) (arg7 : Memref sig .tc .vmem S1024x128 .bf16) (harg7 : arg7.IsWhole) (arg8 : Memref sig .tc .vmem S1x1056x3584 .bf16) (harg8 : arg8.IsWhole) (arg9 : Memref sig .tc .vmem S1x1056x128 .f32) (harg9 : arg9.IsWhole) (arg10 : Memref sig .tc .vmem S1056x1024 .bf16) (harg10 : arg10.IsWhole) (hc1 : k0_cond1 i = 1#1) (hc2 : ¬k0_cond2 i = 1#1) (hc3 : k0_cond3 i = 1#1) (hc4 : ¬k0_cond4 i = 1#1) (hc5 : ¬k0_cond5 i = 1#1)
    (x0 : Vec F S1x1056x1024 .f32) (x1 : Vec F S8x3072 .f32) (x2 : Vec F S1x1024 .f32) (x3 : Vec F S1024x3584 .bf16) (x4 : Vec F S1024x128 .bf16) :
    Σ' (L5 : List (View.Piece (Elt F) S1x1056x3584 .bf16)), Σ' (L6 : List (View.Piece (Elt F) S1x1056x128 .f32)), { LS : List (View.Piece (Elt F) S1056x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, ?_, ?_, fun E K => ?run⟩
  case run =>
    simp only [cc0_in_proj_eq_skeleton]; unfold cc0_in_proj_skel
    simp only [k0_part1_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS

set_option maxHeartbeats 1600000 in
/-- The second column block, over kept rows `xs` and a narrow block `y` it leaves alone: what the stores leave in the wide
    block, last first, with the run that leaves it. -/
def runB (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3584 .bf16) (harg6 : arg6.IsWhole) (arg7 : Memref sig .tc .vmem S1024x128 .bf16) (harg7 : arg7.IsWhole) (arg8 : Memref sig .tc .vmem S1x1056x3584 .bf16) (harg8 : arg8.IsWhole) (arg9 : Memref sig .tc .vmem S1x1056x128 .f32) (harg9 : arg9.IsWhole) (arg10 : Memref sig .tc .vmem S1056x1024 .bf16) (harg10 : arg10.IsWhole) (hc1 : ¬k0_cond1 i = 1#1) (hc2 : ¬k0_cond2 i = 1#1) (hc3 : ¬k0_cond3 i = 1#1) (hc4 : k0_cond4 i = 1#1) (hc5 : ¬k0_cond5 i = 1#1)
    (x0 : Vec F S1x1056x1024 .f32) (x1 : Vec F S8x3072 .f32) (x2 : Vec F S1x1024 .f32) (x3 : Vec F S1024x3584 .bf16) (x4 : Vec F S1024x128 .bf16) (xs : Vec F S1056x1024 .bf16) :
    { L5 : List (View.Piece (Elt F) S1x1056x3584 .bf16) //
      ∀ (y : Vec F S1x1056x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare y ∗ owns (c : Thread nD τ) arg10 fullShare xs) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, fun y E K => ?run⟩
  case run =>
    simp only [cc0_in_proj_eq_skeleton]; unfold cc0_in_proj_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; isplitr; · ipureintro; exact harg10.read_unread _
    iexact HS

set_option maxHeartbeats 1600000 in
/-- The third column block, over kept rows `xs` and a narrow block `y` it leaves alone: what the stores leave in the wide
    block, last first, with the run that leaves it. -/
def runC (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3584 .bf16) (harg6 : arg6.IsWhole) (arg7 : Memref sig .tc .vmem S1024x128 .bf16) (harg7 : arg7.IsWhole) (arg8 : Memref sig .tc .vmem S1x1056x3584 .bf16) (harg8 : arg8.IsWhole) (arg9 : Memref sig .tc .vmem S1x1056x128 .f32) (harg9 : arg9.IsWhole) (arg10 : Memref sig .tc .vmem S1056x1024 .bf16) (harg10 : arg10.IsWhole) (hc1 : ¬k0_cond1 i = 1#1) (hc2 : k0_cond2 i = 1#1) (hc3 : ¬k0_cond3 i = 1#1) (hc4 : ¬k0_cond4 i = 1#1) (hc5 : ¬k0_cond5 i = 1#1)
    (x0 : Vec F S1x1056x1024 .f32) (x1 : Vec F S8x3072 .f32) (x2 : Vec F S1x1024 .f32) (x3 : Vec F S1024x3584 .bf16) (x4 : Vec F S1024x128 .bf16) (xs : Vec F S1056x1024 .bf16) :
    { L5 : List (View.Piece (Elt F) S1x1056x3584 .bf16) //
      ∀ (y : Vec F S1x1056x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare y ∗ owns (c : Thread nD τ) arg10 fullShare xs) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, fun y E K => ?run⟩
  case run =>
    simp only [cc0_in_proj_eq_skeleton]; unfold cc0_in_proj_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; isplitr; · ipureintro; exact harg10.read_unread _
    iexact HS

set_option maxHeartbeats 1600000 in
/-- The last column block, over kept rows `xs` and a narrow block `y` it leaves alone: what the stores leave in the wide
    block, last first, with the run that leaves it. -/
def runD (c : Dev nD) (i : grid0.Coords) (arg3 : Memref sig .tc .vmem S1x1056x1024 .f32) (harg3 : arg3.IsWhole) (arg4 : Memref sig .tc .vmem S8x3072 .f32) (harg4 : arg4.IsWhole) (arg5 : Memref sig .tc .vmem S1x1024 .f32) (harg5 : arg5.IsWhole) (arg6 : Memref sig .tc .vmem S1024x3584 .bf16) (harg6 : arg6.IsWhole) (arg7 : Memref sig .tc .vmem S1024x128 .bf16) (harg7 : arg7.IsWhole) (arg8 : Memref sig .tc .vmem S1x1056x3584 .bf16) (harg8 : arg8.IsWhole) (arg9 : Memref sig .tc .vmem S1x1056x128 .f32) (harg9 : arg9.IsWhole) (arg10 : Memref sig .tc .vmem S1056x1024 .bf16) (harg10 : arg10.IsWhole) (hc1 : ¬k0_cond1 i = 1#1) (hc2 : ¬k0_cond2 i = 1#1) (hc3 : ¬k0_cond3 i = 1#1) (hc4 : ¬k0_cond4 i = 1#1) (hc5 : k0_cond5 i = 1#1)
    (x0 : Vec F S1x1056x1024 .f32) (x1 : Vec F S8x3072 .f32) (x2 : Vec F S1x1024 .f32) (x3 : Vec F S1024x3584 .bf16) (x4 : Vec F S1024x128 .bf16) (xs : Vec F S1056x1024 .bf16) :
    { L5 : List (View.Piece (Elt F) S1x1056x3584 .bf16) //
      ∀ (y : Vec F S1x1056x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare y ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare y ∗ owns (c : Thread nD τ) arg10 fullShare xs) -∗ K ⟨⟩))
          ⊢ wp frame (wpE (defs₀ (F := F)) Variants.none c none) E (cc0_in_proj i arg3 harg3 arg4 harg4 arg5 harg5 arg6 harg6 arg7 harg7 arg8 harg8 arg9 harg9 arg10 harg10) K } := by
  refine ⟨?_, fun y E K => ?run⟩
  case run =>
    simp only [cc0_in_proj_eq_skeleton]; unfold cc0_in_proj_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; isplitr; · ipureintro; exact harg10.read_unread _
    iexact HS

end Cert.Kernel2Ideal.Proj

end
-- ==== Proof.ProjFrame.lean ====
/- The input projection's run: what the buffers hold after each point of its grid, that the body does leave that, and
   so that the whole program runs, its operands unharmed. Points come four to a row tile, the first of the four keeping
   the tile's rows, which the other three read. -/
module

public import proofs.«01_k».proof.Proof.ProjRun
public import Idealize.ShloMosaic.Lib.Claim

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer the rows are kept in. -/
abbrev kp : Memref sig .tc .vmem S1056x1024 .bf16 := Memref.whole cc0_scratch0

/-- A buffer whose stores cover it holds what the stores say, whatever was there before. -/
theorem owns_of_pieces {s : Shape} {e : EltTy} (r : Memref sig .tc .vmem s e) (c : Dev nD) (L : List (View.Piece (Elt F) s e))
    (h : ∀ y, ∃ q ∈ L, y ∈ q.1.set) :
    (iprop(∃ f, r.view.loc (c : Thread nD τ) ↦[r.view.set]{fullShare} r.view.writes (Elt F) f L) : sProp 𝕄)
      ⊢ owns (c : Thread nD τ) r fullShare (View.canon L) := by
  iintro ⟨%f, H⟩
  unfold owns
  iexists _; isplitr
  swap; · iexact H
  ipureintro; exact View.read_writes_eq_canon _ _ _ h

/-! ## The four ways at a point's own buffers and blocks -/

/-- The first column block's run at point `t`. -/
abbrev atA (c : Dev nD) (t : Fin cfg0.N) (h : t.val % 4 = 0) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) kp (Memref.isWhole_whole _) ((cond1_iff t).mpr h) (fun q => absurd ((cond2_iff t).mp q) (by omega)) ((cond3_iff t).mpr h) (fun q => absurd ((cond4_iff t).mp q) (by omega)) (fun q => absurd ((cond5_iff t).mp q) (by omega)) (iblk m c 0 t) (iblk m c 1 t) (iblk m c 2 t) (iblk m c 3 t) (iblk m c 4 t)

/-- Its stretches fill the wide block. -/
theorem coverA (c : Dev nD) (t : Fin cfg0.N) (h : t.val % 4 = 0) (y : S1x1056x3584.Idx) :
    ∃ q ∈ (atA m c t h).1, y ∈ q.1.set :=
  View.cover_of_tiledL (atA m c t h).1 S1x1056x512.size (by sl_kernel_rfl) y

/-- The second column block's run at point `t`. -/
abbrev atB (c : Dev nD) (t : Fin cfg0.N) (h : t.val % 4 = 1) (xs : Vec F S1056x1024 .bf16) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) kp (Memref.isWhole_whole _) (fun q => absurd ((cond1_iff t).mp q) (by omega)) (fun q => absurd ((cond2_iff t).mp q) (by omega)) (fun q => absurd ((cond3_iff t).mp q) (by omega)) ((cond4_iff t).mpr h) (fun q => absurd ((cond5_iff t).mp q) (by omega)) (iblk m c 0 t) (iblk m c 1 t) (iblk m c 2 t) (iblk m c 3 t) (iblk m c 4 t) xs

/-- Its stretches fill the wide block. -/
theorem coverB (c : Dev nD) (t : Fin cfg0.N) (h : t.val % 4 = 1) (xs : Vec F S1056x1024 .bf16) (y : S1x1056x3584.Idx) :
    ∃ q ∈ (atB m c t h xs).1, y ∈ q.1.set :=
  View.cover_of_tiledL (atB m c t h xs).1 S1x1056x512.size (by sl_kernel_rfl) y

/-- The third column block's run at point `t`. -/
abbrev atC (c : Dev nD) (t : Fin cfg0.N) (h : t.val % 4 = 2) (xs : Vec F S1056x1024 .bf16) :=
  runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) kp (Memref.isWhole_whole _) (fun q => absurd ((cond1_iff t).mp q) (by omega)) ((cond2_iff t).mpr h) (fun q => absurd ((cond3_iff t).mp q) (by omega)) (fun q => absurd ((cond4_iff t).mp q) (by omega)) (fun q => absurd ((cond5_iff t).mp q) (by omega)) (iblk m c 0 t) (iblk m c 1 t) (iblk m c 2 t) (iblk m c 3 t) (iblk m c 4 t) xs

/-- Its stretches fill the wide block. -/
theorem coverC (c : Dev nD) (t : Fin cfg0.N) (h : t.val % 4 = 2) (xs : Vec F S1056x1024 .bf16) (y : S1x1056x3584.Idx) :
    ∃ q ∈ (atC m c t h xs).1, y ∈ q.1.set :=
  View.cover_of_tiledL (atC m c t h xs).1 S1x1056x512.size (by sl_kernel_rfl) y

/-- The last column block's run at point `t`. -/
abbrev atD (c : Dev nD) (t : Fin cfg0.N) (h : t.val % 4 = 3) (xs : Vec F S1056x1024 .bf16) :=
  runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) kp (Memref.isWhole_whole _) (fun q => absurd ((cond1_iff t).mp q) (by omega)) (fun q => absurd ((cond2_iff t).mp q) (by omega)) (fun q => absurd ((cond3_iff t).mp q) (by omega)) (fun q => absurd ((cond4_iff t).mp q) (by omega)) ((cond5_iff t).mpr h) (iblk m c 0 t) (iblk m c 1 t) (iblk m c 2 t) (iblk m c 3 t) (iblk m c 4 t) xs

/-- Its stretches fill the wide block. -/
theorem coverD (c : Dev nD) (t : Fin cfg0.N) (h : t.val % 4 = 3) (xs : Vec F S1056x1024 .bf16) (y : S1x1056x3584.Idx) :
    ∃ q ∈ (atD m c t h xs).1, y ∈ q.1.set :=
  View.cover_of_tiledL (atD m c t h xs).1 S1x1056x512.size (by sl_kernel_rfl) y

theorem coverNarrow (c : Dev nD) (t : Fin cfg0.N) (h : t.val % 4 = 0) (y : S1x1056x128.Idx) :
    ∃ q ∈ (atA m c t h).2.1, y ∈ q.1.set :=
  View.cover_of_wholeMem (atA m c t h).2.1 (by sl_whole_mem) y

theorem coverKept (c : Dev nD) (t : Fin cfg0.N) (h : t.val % 4 = 0) (y : S1056x1024.Idx) :
    ∃ q ∈ (atA m c t h).2.2.1, y ∈ q.1.set :=
  View.cover_of_wholeMem (atA m c t h).2.2.1 (by sl_whole_mem) y

/-! ## What the buffers hold after a point -/

/-- The first of a point's four. -/
def start (t : Fin cfg0.N) : Fin cfg0.N := ⟨t.val - t.val % 4, Nat.lt_of_le_of_lt (Nat.sub_le _ _) t.isLt⟩

/-- The point before. -/
def prev (t : Fin cfg0.N) : Fin cfg0.N := ⟨t.val - 1, Nat.lt_of_le_of_lt (Nat.sub_le _ _) t.isLt⟩

theorem start_mod (t : Fin cfg0.N) : (start t).val % 4 = 0 := by unfold start; dsimp only; omega

theorem start_of (t : Fin cfg0.N) (h : t.val % 4 = 0) : start t = t := Fin.ext (by unfold start; dsimp only; omega)

theorem start_prev (t : Fin cfg0.N) (h : ¬t.val % 4 = 0) : start (prev t) = start t :=
  Fin.ext (by unfold start prev; dsimp only; omega)

theorem mod_last (n : ℕ) (h0 : ¬n % 4 = 0) (h1 : ¬n % 4 = 1) (h2 : ¬n % 4 = 2) : n % 4 = 3 := by omega

/-- The kept rows. -/
def kept (c : Dev nD) (t : Fin cfg0.N) : Vec F S1056x1024 .bf16 := View.canon (atA m c (start t) (start_mod t)).2.2.1

/-- The narrow block. -/
def narrow (c : Dev nD) (t : Fin cfg0.N) : Vec F S1x1056x128 .f32 := View.canon (atA m c (start t) (start_mod t)).2.1

/-- The wide block. -/
def wide (c : Dev nD) (t : Fin cfg0.N) : Vec F S1x1056x3584 .bf16 :=
  if h0 : t.val % 4 = 0 then View.canon (atA m c t h0).1
  else if h1 : t.val % 4 = 1 then View.canon (atB m c t h1 (kept m c t)).1
  else if h2 : t.val % 4 = 2 then View.canon (atC m c t h2 (kept m c t)).1
  else View.canon (atD m c t (mod_last _ h0 h1 h2) (kept m c t)).1

theorem kept_congr (c : Dev nD) (t u : Fin cfg0.N) (e : t = u) (ht : t.val % 4 = 0) (hu : u.val % 4 = 0) :
    View.canon (atA m c t ht).2.2.1 = View.canon (atA m c u hu).2.2.1 := by subst e; rfl

theorem narrow_congr (c : Dev nD) (t u : Fin cfg0.N) (e : t = u) (ht : t.val % 4 = 0) (hu : u.val % 4 = 0) :
    View.canon (atA m c t ht).2.1 = View.canon (atA m c u hu).2.1 := by subst e; rfl

theorem kept_first (c : Dev nD) (t : Fin cfg0.N) (h : t.val % 4 = 0) : kept m c t = View.canon (atA m c t h).2.2.1 :=
  kept_congr m c _ _ (start_of t h) _ _

theorem narrow_first (c : Dev nD) (t : Fin cfg0.N) (h : t.val % 4 = 0) : narrow m c t = View.canon (atA m c t h).2.1 :=
  narrow_congr m c _ _ (start_of t h) _ _

theorem kept_prev (c : Dev nD) (t : Fin cfg0.N) (h : ¬t.val % 4 = 0) : kept m c (prev t) = kept m c t :=
  kept_congr m c _ _ (start_prev t h) _ _

theorem narrow_prev (c : Dev nD) (t : Fin cfg0.N) (h : ¬t.val % 4 = 0) : narrow m c (prev t) = narrow m c t :=
  narrow_congr m c _ _ (start_prev t h) _ _

theorem wide_A (c : Dev nD) (t : Fin cfg0.N) (h : t.val % 4 = 0) : wide m c t = View.canon (atA m c t h).1 := dif_pos h
theorem wide_B (c : Dev nD) (t : Fin cfg0.N) (h : t.val % 4 = 1) : wide m c t = View.canon (atB m c t h (kept m c t)).1 :=
  (dif_neg (by omega)).trans (dif_pos h)
theorem wide_C (c : Dev nD) (t : Fin cfg0.N) (h : t.val % 4 = 2) : wide m c t = View.canon (atC m c t h (kept m c t)).1 :=
  (dif_neg (by omega)).trans ((dif_neg (by omega)).trans (dif_pos h))
theorem wide_D (c : Dev nD) (t : Fin cfg0.N) (h : t.val % 4 = 3) : wide m c t = View.canon (atD m c t h (kept m c t)).1 :=
  (dif_neg (by omega)).trans ((dif_neg (by omega)).trans (dif_neg (by omega)))

/-! ## The launch's data -/

/-- What the body may use besides the staged blocks, before point `n`: the buffer of kept rows, at the rows of the point
    before once there is one. -/
def inv (c : Dev nD) : (n : ℕ) → n ≤ cfg0.N → sProp 𝕄
  | 0, _ => Pipeline.ΦA spec0 c
  | n + 1, hn => iprop(owns (c : Thread nD τ) kp fullShare (kept m c ⟨n, hn⟩) ∗ (∃ r, prngReg c r))

theorem inv_pos (c : Dev nD) (t : Fin cfg0.N) (hz : t.val ≠ 0) :
    inv m c t.val (Nat.le_of_lt t.isLt) = iprop(owns (c : Thread nD τ) kp fullShare (kept m c (prev t)) ∗ (∃ r, prngReg c r)) := by
  obtain ⟨n, hn⟩ := t
  cases n with
  | zero => exact absurd rfl hz
  | succ n => rfl

theorem start_inv (c : Dev nD) :
    (Pipeline.ΦA spec0 c : sProp 𝕄) = iprop((∃ d, owns (c : Thread nD τ) kp fullShare d) ∗ (∃ r, prngReg c r)) := by
  unfold Pipeline.ΦA; rw [scopedRest0_eq]; simp only [kp, owns_whole]; try rfl

/-- Whatever the rows, the buffer is there. -/
theorem inv_any (c : Dev nD) (n : ℕ) (h : n ≤ cfg0.N) :
    inv m c n h ⊢ iprop((∃ d, owns (c : Thread nD τ) kp fullShare d) ∗ (∃ r, prngReg c r)) := by
  cases n with
  | zero => rw [show inv m c 0 h = Pipeline.ΦA spec0 c from rfl, start_inv]
  | succ n =>
    rw [show inv m c (n + 1) h = iprop(owns (c : Thread nD τ) kp fullShare (kept m c ⟨n, h⟩) ∗ (∃ r, prngReg c r)) from rfl]
    iintro ⟨HS, Hg⟩
    isplitl [HS]
    · iexists _; iexact HS
    iexact Hg

/-- The launch's data: the arrays as the host leaves them, each operand's block unchanged by the body, the two results'
    blocks as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wide m c t
    | ⟨6, _⟩ => narrow m c t
  Φ t := inv m c t.val (Nat.le_of_lt_succ t.isLt)
  q _ := fullShare
  owed _ := 0

theorem arrays_eq (c : Dev nD) (w : Fin cfg0.W) : (dats m 0 c).A w = V m c (Pipeline.arrRef spec0 w) := by
  dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

theorem after5 (c : Dev nD) (t : Fin cfg0.N) : (dats m 0 c).after 5 t = wide m c t := by dsimp only [dats]
theorem after6 (c : Dev nD) (t : Fin cfg0.N) : (dats m 0 c).after 6 t = narrow m c t := by dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (arrays_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (arrays_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (arrays_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (arrays_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (arrays_eq m c 4) (after4 m c) t d

/-- The narrow block is left alone but at the first of the four. -/
theorem idle6 (t : Fin cfg0.N) : cfg0.idle 6 (cfg0.grid.coords t) = true ↔ ¬t.val % 4 = 0 := by
  rw [← cond1_iff t]
  show (!(k0_cond1 (grid0.coords t) == 1#1)) = true ↔ _
  simp only [Bool.not_eq_true', beq_eq_false_iff_ne, ne_eq]

/-- Between two writings out the narrow block stays. -/
theorem before6 (c : Dev nD) (d) : ∀ (n : ℕ) (hn : n < cfg0.N), ¬n % 4 = 0 →
    (dats m 0 c).before 6 ⟨n, hn⟩ d = narrow m c ⟨n, hn⟩ := by
  intro n
  induction n with
  | zero => intro _ h; exact absurd rfl h
  | succ n ih =>
    intro hn h
    have hf : (cfg0.win 6).flush ⟨n, Nat.lt_of_succ_lt hn⟩ = false := by
      rw [Bool.eq_false_iff]; intro q
      have := (flush0_6 ⟨n, Nat.lt_of_succ_lt hn⟩).mp q
      dsimp only at this; omega
    have hp := narrow_prev m c ⟨n + 1, hn⟩ h
    have hb := (dats m 0 c).before_of_pos 6 ⟨n + 1, hn⟩ (Nat.succ_ne_zero n) ((cfg0.win 6).fetch_out rfl _) d
    have hs : (⟨(⟨n + 1, hn⟩ : Fin cfg0.N).val - 1, Nat.lt_of_le_of_lt (Nat.sub_le _ _) hn⟩ : Fin cfg0.N) = ⟨n, Nat.lt_of_succ_lt hn⟩ :=
      Fin.ext (Nat.add_sub_cancel n 1)
    have hq : prev (⟨n + 1, hn⟩ : Fin cfg0.N) = ⟨n, Nat.lt_of_succ_lt hn⟩ := Fin.ext (Nat.add_sub_cancel n 1)
    rw [hq] at hp
    rw [hb, hs, hf, if_neg Bool.false_ne_true, ← hp]
    unfold Dat.left
    by_cases h0 : n % 4 = 0
    · rw [show cfg0.idle 6 (cfg0.grid.coords ⟨n, Nat.lt_of_succ_lt hn⟩) = false from by
        rw [Bool.eq_false_iff]; intro q; exact (idle6 ⟨n, Nat.lt_of_succ_lt hn⟩).mp q h0]
      show (dats m 0 c).kept 6 ⟨n, Nat.lt_of_succ_lt hn⟩ d = _
      unfold Dat.kept
      rw [Pipeline.fill_of_clip_none 6 _ (fun _ => rfl) d ((dats m 0 c).after 6 _), Window.fill_cut]
      exact after6 m c _
    · rw [(idle6 ⟨n, Nat.lt_of_succ_lt hn⟩).mpr h0]
      exact ih (Nat.lt_of_succ_lt hn) h0

/-- What the body is given at point `t`, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it gives back. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 3200000 in
/-- The body at any point does what the data say. -/
theorem body_ok (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl,
    after0, after1, after2, after3, after4, after5, after6]
  rw [show (dats m 0 c).Φ t.succ = iprop(owns (c : Thread nD τ) kp fullShare (kept m c t) ∗ (∃ r, prngReg c r)) from rfl, inv_at]
  obtain h | h | h | h : t.val % 4 = 0 ∨ t.val % 4 = 1 ∨ t.val % 4 = 2 ∨ t.val % 4 = 3 := by omega
  · rw [wide_A m c t h, kept_first m c t h, narrow_first m c t h]
    iintro ⟨HI, Ho, ⟨%d0, H0⟩, ⟨%d1, H1⟩, ⟨%d2, H2⟩, ⟨%d3, H3⟩, ⟨%d4, H4⟩, ⟨%d5, H5⟩, ⟨%d6, H6⟩⟩
    ihave HI := inv_any m c _ _ $$ HI
    icases HI with ⟨HS, Hg⟩
    iapply (atA m c t h).2.2.2 Set.univ _
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iapply (owns_of_pieces kp c _ (coverKept m c t h)); iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (owns_of_pieces _ c _ (coverA m c t h)); iexact H5
    iapply (owns_of_pieces _ c _ (coverNarrow m c t h)); iexact H6
  · rw [inv_pos m c t (by omega), kept_prev m c t (by omega), wide_B m c t h]
    simp only [fun d => before6 m c d t.val t.isLt (by omega : ¬t.val % 4 = 0)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (atB m c t h (kept m c t)).2 (narrow m c t) Set.univ _
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (owns_of_pieces _ c _ (coverB m c t h (kept m c t))); iexact H5
    iexact H6
  · rw [inv_pos m c t (by omega), kept_prev m c t (by omega), wide_C m c t h]
    simp only [fun d => before6 m c d t.val t.isLt (by omega : ¬t.val % 4 = 0)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (atC m c t h (kept m c t)).2 (narrow m c t) Set.univ _
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (owns_of_pieces _ c _ (coverC m c t h (kept m c t))); iexact H5
    iexact H6
  · rw [inv_pos m c t (by omega), kept_prev m c t (by omega), wide_D m c t h]
    simp only [fun d => before6 m c d t.val t.isLt (by omega : ¬t.val % 4 = 0)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (atD m c t h (kept m c t)).2 (narrow m c t) Set.univ _
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (owns_of_pieces _ c _ (coverD m c t h (kept m c t))); iexact H5
    iexact H6

/-- The launch's own row of the table of bodies is the body. -/
theorem row (t : Fin cfg0.N) : defs₀ (F := F) .tc cfg0.body (cfg0.bodyArgs t (cfg0.slots t)) = bodyAt0 t := by
  unfold defs₀; rw [Defs.onTc_tc]

/-- A result's buffer as the body leaves it is the buffer as the launch wants it, where what it holds is unchanged
    when the body leaves it alone. -/
theorem hands (c : Dev nD) (w : Fin cfg0.W) (t : Fin cfg0.N)
    (h : cfg0.idle w (cfg0.grid.coords t) = true → (cfg0.win w).flush t = false →
      ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t)
  · exact .rfl
  · cases hf : (cfg0.win w).flush t
    · iintro H
      iexists ((dats m 0 c).after w t)
      rw [h hi hf]
      iexact H
    · exact .rfl

theorem hands_all (c : Dev nD) (t : Fin cfg0.N) : post m c t ⊢ iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t) := by
  unfold post
  refine BIClass.sep_mono .rfl (BIClass.sep_mono .rfl ?_)
  refine BIClass.sep_mono (hands m c 0 t fun _ _ d => (before0 m c t d).trans (after0 m c t).symm) ?_
  refine BIClass.sep_mono (hands m c 1 t fun _ _ d => (before1 m c t d).trans (after1 m c t).symm) ?_
  refine BIClass.sep_mono (hands m c 2 t fun _ _ d => (before2 m c t d).trans (after2 m c t).symm) ?_
  refine BIClass.sep_mono (hands m c 3 t fun _ _ d => (before3 m c t d).trans (after3 m c t).symm) ?_
  refine BIClass.sep_mono (hands m c 4 t fun _ _ d => (before4 m c t d).trans (after4 m c t).symm) ?_
  refine BIClass.sep_mono (hands m c 5 t fun _ q => absurd ((flush0_5 t).symm.trans q) (by decide)) ?_
  exact hands m c 6 t fun q _ d => (before6 m c d t.val t.isLt ((idle6 t).mp q)).trans (after6 m c t).symm

set_option maxHeartbeats 3200000 in
theorem obligation (c : Dev nD) : BodyObligation (dats (F := F) m 0 c) (defs₀ (F := F)) Variants.none () Set.univ := fun t => by
  rw [bigSep_W0, bigSep_W0, row]
  exact triple_restated (body_ok m c t) rfl .rfl fun _ => hands_all m c t

theorem enters (c : Dev nD) : Pipeline.ΦA spec0 c ⊢ (dats m 0 c).Φ 0 := by
  rw [show (dats m 0 c).Φ 0 = Pipeline.ΦA spec0 c from rfl]

theorem leaves (c : Dev nD) : (dats m 0 c).Φ (Fin.last cfg0.N) ⊢ Pipeline.ΦA spec0 c := by
  rw [start_inv]
  exact inv_any m c cfg0.N (Nat.le_refl _)

set_option backward.isDefEq.respectTransparency.types false in
/-- The program runs to an end; the arrays are then what the data say, and every counter is back at zero. -/
theorem run_all : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hin := enters m) (hout := leaves m)

/-- The operands end as they began and the counters at zero. -/
theorem frame_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays_eq m) ((θ_run defs _ _).mono (fun _ h => h.1) (run_all m ρ)))
    ((θ_run defs _ _).mono (fun _ h => h.2) (run_all m ρ))

end Cert.Kernel2Ideal.Proj

end
-- ==== Proof.ProjMath.lean ====
/- The arithmetic of the input projection over the extended reals: a row of the modulated norm, the two activations in the
   kernel's spelling and in the reference's, and that the spellings agree where the product is a real number. -/
module

public import proofs.«01_k».proof.Proof.RetMath
public import Idealize.ShloMosaic.Lib.Pointwise
public import Mathlib.Tactic.LinearCombination
public import Mathlib.Tactic.FieldSimp

@[expose] public section

noncomputable section

open Idealize.ShloMosaic

namespace Cert.Proj

theorem half_eq : Ideal.ofBits .f32 0x3F000000#32 = ((1 / 2 : ℝ) : EReal) := by
  simp [Ideal.ofBits, Ideal.ieee]; norm_num; rw [← EReal.coe_mul]; norm_num

theorem one_eq : Ideal.ofBits .f32 0x3F800000#32 = 1 := by
  simp [Ideal.ofBits, Ideal.ieee]; norm_num; rw [← EReal.coe_mul]; norm_num

theorem zero_eq : Ideal.ofBits .f32 0x00000000#32 = 0 := by
  simp [Ideal.ofBits, Ideal.ieee]

theorem width_eq : Ideal.ofBits .f32 0x44800000#32 = ((1024 : ℝ) : EReal) := by
  simp [Ideal.ofBits, Ideal.ieee]; norm_num; rw [← EReal.coe_mul]; norm_num

theorem eps_eq : ∃ e : ℝ, 0 < e ∧ Ideal.ofBits .f32 0x358637BD#32 = (e : EReal) := by
  refine ⟨_, ?_, by simp [Ideal.ofBits, Ideal.ieee]; rfl⟩
  norm_num

/-- The sigmoid as the kernel computes it. -/
def gateK (x : EReal) : EReal :=
  Ideal.ofBits .f32 0x3F000000#32 * Ideal.tanh (Ideal.ofBits .f32 0x3F000000#32 * x) + Ideal.ofBits .f32 0x3F000000#32

/-- The sigmoid-weighted unit as the kernel computes it. -/
def siluK (x : EReal) : EReal :=
  Ideal.ofBits .f32 0x3F000000#32 * x
    + Ideal.ofBits .f32 0x3F000000#32 * x * Ideal.tanh (Ideal.ofBits .f32 0x3F000000#32 * x)

/-- The sigmoid as the reference computes it. -/
def gateR (x : EReal) : EReal :=
  Ideal.div (Ideal.ofBits .f32 0x3F800000#32) (Ideal.ofBits .f32 0x3F800000#32 + Ideal.exp (-x))

/-- The sigmoid-weighted unit as the reference computes it. -/
def siluR (x : EReal) : EReal := x * gateR x

/-- Half the hyperbolic tangent of half a number, and a half, is the sigmoid of the number. -/
theorem tanh_half (x : ℝ) : 1 / 2 * Real.tanh (1 / 2 * x) + 1 / 2 = 1 / (1 + Real.exp (-x)) := by
  have hp : Real.exp (-x) = Real.exp (-(1 / 2 * x)) ^ 2 := by rw [← Real.exp_nat_mul]; congr 1; push_cast; ring
  have hm : Real.exp (1 / 2 * x) * Real.exp (-(1 / 2 * x)) = 1 := by rw [← Real.exp_add, add_neg_cancel, Real.exp_zero]
  rw [Real.tanh_eq_sinh_div_cosh, Real.sinh_eq, Real.cosh_eq, hp]
  have ha := Real.exp_pos (1 / 2 * x)
  have hb := Real.exp_pos (-(1 / 2 * x))
  generalize Real.exp (1 / 2 * x) = a at *
  generalize Real.exp (-(1 / 2 * x)) = b at *
  have h1 : a + b ≠ 0 := by positivity
  have h2 : 1 + b ^ 2 ≠ 0 := by positivity
  have e : 1 / 2 * ((a - b) / 2 / ((a + b) / 2)) + 1 / 2 = a / (a + b) := by field_simp; ring
  rw [e, div_eq_div_iff h1 h2]
  linear_combination b * hm

theorem gateR_real (x : ℝ) : gateR (x : EReal) = ((1 / (1 + Real.exp (-x)) : ℝ) : EReal) := by
  have h : 1 + Real.exp (-x) ≠ 0 := by have := Real.exp_pos (-x); positivity
  unfold gateR
  rw [one_eq, ← EReal.coe_neg, Ideal.exp_coe, ← EReal.coe_one, ← EReal.coe_add, Ideal.div_coe h, ← EReal.coe_mul, one_mul]

/-- The sigmoids agree on a real number. -/
theorem gate_eq (x : ℝ) : gateK (x : EReal) = gateR (x : EReal) := by
  rw [gateR_real, ← tanh_half]
  unfold gateK
  rw [half_eq, ← EReal.coe_mul, Ideal.tanh_coe, ← EReal.coe_mul, ← EReal.coe_add]

/-- The sigmoid-weighted units agree on a real number. -/
theorem silu_eq (x : ℝ) : siluK (x : EReal) = siluR (x : EReal) := by
  unfold siluR
  rw [gateR_real, ← tanh_half]
  unfold siluK
  rw [half_eq, ← EReal.coe_mul, Ideal.tanh_coe, ← EReal.coe_mul, ← EReal.coe_add, ← EReal.coe_mul]
  congr 1; ring

/-- The activation of a stretch of 512 columns of the wide result, in the kernel's spelling. -/
def act (n : ℕ) (x : EReal) : EReal :=
  if n < 4 then x else if n < 6 then siluK x else if n < 10 then x else if n < 14 then siluK x
  else if n < 18 then gateK x else if n < 20 then x else if n < 22 then siluK x else gateK x

/-- The same in the reference's spelling. -/
def actR (n : ℕ) (x : EReal) : EReal :=
  if n < 4 then x else if n < 6 then siluR x else if n < 10 then x else if n < 14 then siluR x
  else if n < 18 then gateR x else if n < 20 then x else if n < 22 then siluR x else gateR x

theorem act_eq (n : ℕ) (x : ℝ) : act n (x : EReal) = actR n (x : EReal) := by
  unfold act actR; rw [silu_eq, gate_eq]

theorem act_N (n : ℕ) (x : EReal) (h : n < 4 ∨ (6 ≤ n ∧ n < 10) ∨ (18 ≤ n ∧ n < 20)) : act n x = x := by
  unfold act; split_ifs <;> first | rfl | omega

theorem act_S (n : ℕ) (x : EReal) (h : (4 ≤ n ∧ n < 6) ∨ (10 ≤ n ∧ n < 14) ∨ (20 ≤ n ∧ n < 22)) : act n x = siluK x := by
  unfold act; split_ifs <;> first | rfl | omega

theorem act_G (n : ℕ) (x : EReal) (h : (14 ≤ n ∧ n < 18) ∨ 22 ≤ n) : act n x = gateK x := by
  unfold act; split_ifs <;> first | rfl | omega

theorem actR_N (n : ℕ) (x : EReal) (h : n < 4 ∨ (6 ≤ n ∧ n < 10) ∨ (18 ≤ n ∧ n < 20)) : actR n x = x := by
  unfold actR; split_ifs <;> first | rfl | omega

theorem actR_S (n : ℕ) (x : EReal) (h : (4 ≤ n ∧ n < 6) ∨ (10 ≤ n ∧ n < 14) ∨ (20 ≤ n ∧ n < 22)) : actR n x = siluR x := by
  unfold actR; split_ifs <;> first | rfl | omega

theorem actR_G (n : ℕ) (x : EReal) (h : (14 ≤ n ∧ n < 18) ∨ 22 ≤ n) : actR n x = gateR x := by
  unfold actR; split_ifs <;> first | rfl | omega

/-- An entry of a modulated row: the row over its root mean square, weighted, scaled and shifted. -/
def hrow (x n s h : Fin 1024 → EReal) (d : Fin 1024) : EReal :=
  x d * Ideal.rsqrt (Ideal.div (∑ k : Fin 1024, x k * x k) (Ideal.ofBits .f32 0x44800000#32) + Ideal.ofBits .f32 0x358637BD#32)
    * n d * (Ideal.ofBits .f32 0x3F800000#32 + s d) + h d

theorem sum_real {α : Type} (S : Finset α) (f : α → EReal) (hf : ∀ a, ∃ r : ℝ, f a = r) :
    ∃ r : ℝ, ∑ a ∈ S, f a = r := by
  choose g hg using hf
  exact ⟨∑ a ∈ S, g a, by rw [Cert.Ret.coe_sum]; exact Finset.sum_congr rfl fun a _ => hg a⟩

/-- Where an entry of a row is infinite, so is the sum of its squares. -/
theorem squares_top (x : Fin 1024 → EReal) (d : Fin 1024) (hd : x d * x d = ⊤) : ∑ k : Fin 1024, x k * x k = ⊤ := by
  have hq : ∀ k, 0 ≤ x k * x k := fun k => by
    rcases le_total 0 (x k) with h | h
    · exact mul_nonneg h h
    · rw [← neg_mul_neg]
      have : 0 ≤ -x k := EReal.neg_nonneg.mpr h
      exact mul_nonneg this this
  refine top_le_iff.mp (hd ▸ ?_)
  exact Finset.single_le_sum (f := fun k => x k * x k) (fun k _ => hq k) (Finset.mem_univ d)

/-- Where the weight, the scale and the shift are real numbers, so is the entry: an infinite row is normalized to zeros. -/
theorem hrow_real (x n s h : Fin 1024 → EReal) (hn : ∀ d, ∃ r : ℝ, n d = r)
    (hs : ∀ d, ∃ r : ℝ, s d = r) (hh : ∀ d, ∃ r : ℝ, h d = r) (d : Fin 1024) : ∃ r : ℝ, hrow x n s h d = r := by
  choose n' hn using hn
  choose s' hs using hs
  choose h' hh using hh
  obtain ⟨e, he, hq⟩ := eps_eq
  by_cases hx : ∀ d, ∃ r : ℝ, x d = r
  swap
  · obtain ⟨k, hk⟩ := not_forall.mp hx
    have hk : x k * x k = ⊤ := by
      induction hk' : x k with
      | bot => exact EReal.bot_mul_bot
      | top => exact EReal.top_mul_top
      | coe r => exact absurd ⟨r, hk'⟩ hk
    unfold hrow
    rw [squares_top x k hk, width_eq, hq, Ideal.div_coe (by norm_num), EReal.top_mul_coe_of_pos (by norm_num), EReal.top_add_coe,
      Ideal.rsqrt_top, mul_zero, zero_mul, zero_mul, zero_add, hh]
    exact ⟨_, rfl⟩
  choose x' hx using hx
  have hS : ∑ k : Fin 1024, x k * x k = ((∑ k : Fin 1024, x' k * x' k : ℝ) : EReal) := by
    rw [Cert.Ret.coe_sum]
    exact Finset.sum_congr rfl fun k _ => by rw [hx, EReal.coe_mul]
  have hp : 0 < (∑ k : Fin 1024, x' k * x' k) * (1 / 1024) + e := by
    have := Finset.sum_nonneg fun (k : Fin 1024) (_ : k ∈ Finset.univ) => mul_self_nonneg (x' k)
    positivity
  unfold hrow
  rw [hS, width_eq, hq, one_eq, Ideal.div_coe (by norm_num), ← EReal.coe_mul, ← EReal.coe_add, Ideal.rsqrt_coe,
    if_neg (not_lt.mpr hp.le), if_neg hp.ne', hx, hn, hs, hh]
  exact ⟨_, by rw [← EReal.coe_one, ← EReal.coe_add, ← EReal.coe_mul, ← EReal.coe_mul, ← EReal.coe_mul, ← EReal.coe_add]⟩

/-- The product of a real row and a real column is a real number. -/
theorem dot_real (a b : Fin 1024 → EReal) (ha : ∀ d, ∃ r : ℝ, a d = r) (hb : ∀ d, ∃ r : ℝ, b d = r) :
    ∃ r : ℝ, ∑ d, a d * b d = r := by
  refine sum_real _ _ fun d => ?_
  obtain ⟨p, hp⟩ := ha d
  obtain ⟨q, hq⟩ := hb d
  exact ⟨p * q, by rw [hp, hq, EReal.coe_mul]⟩

/-- The column of the weights that a column of the wide result is made with. -/
def pcol (e : Fin 14336) : Fin 14352 := ⟨if (e : ℕ) < 3072 then e else e + 16, by split <;> omega⟩

/-- The row of the modulation that a token takes: the third for the context, else its own sequence's. -/
def mrow (b : Fin 2) (t : Fin 8448) : Fin 8 := if (t : ℕ) < 256 then 2 else ⟨b, by omega⟩

/-- The modulated tokens. -/
def hid (x : Fin 2 → Fin 8448 → Fin 1024 → EReal) (mo : Fin 8 → Fin 3072 → EReal) (n : Fin 1024 → EReal)
    (b : Fin 2) (t : Fin 8448) : Fin 1024 → EReal :=
  hrow (x b t) n (fun d => mo (mrow b t) ⟨1024 + d, by omega⟩) (fun d => mo (mrow b t) ⟨d, by omega⟩)

end Cert.Proj

end
-- ==== Proof.ProjReads.lean ====
/- What the projection's windows read of the arguments, over the extended reals. -/
module

public import proofs.«01_k».proof.Proof.ProjFrame
public import proofs.«01_k».proof.Proof.ProjMath
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Proj Cert.Kernel2Ideal Cert.Kernel2Ideal.Gen

variable (m : (ℓ : Loc nD τ sig) → Buf (Elt Ideal) ℓ)

/-- The tokens a launch finds. -/
def A0 (c : Dev nD) (b : Fin 2) (t : Fin 8448) (d : Fin 1024) : EReal :=
  (m ((c : Thread nD τ).loc main_arg0) : FVec Ideal S2x8448x1024 .f32) (ix3 b t d)

/-- The modulation a launch finds. -/
def A1 (c : Dev nD) (q : Fin 8) (f : Fin 3072) : EReal :=
  (m ((c : Thread nD τ).loc main_arg1) : FVec Ideal S8x3072 .f32) (ix2 q f)

/-- The norm's weights a launch finds. -/
def A2 (c : Dev nD) (d : Fin 1024) : EReal :=
  (m ((c : Thread nD τ).loc main_arg2) : FVec Ideal S1024 .f32) (ix1 d)

/-- The projection's weights a launch finds. -/
def A3 (c : Dev nD) (d : Fin 1024) (f : Fin 14352) : EReal :=
  (m ((c : Thread nD τ).loc main_arg3) : FVec Ideal S1024x14352 .f32) (ix2 d f)

/-- Where the windows stand at each grid point. -/
theorem idx : ∀ t : Fin cfg0.N,
    win0_0.index t = ![t.val / 32, t.val / 4 % 8, 0]
    ∧ win0_1.index t = ![0, 0]
    ∧ win0_2.index t = ![0, 0]
    ∧ win0_3.index t = ![0, t.val % 4]
    ∧ win0_4.index t = ![0, 0]
    ∧ win0_5.index t = ![t.val / 32, t.val / 4 % 8, t.val % 4]
    ∧ win0_6.index t = ![t.val / 32, t.val / 4 % 8, 0]
    ∧ t.val / 32 < 2 ∧ t.val / 4 % 8 < 8 ∧ t.val % 4 < 4
    ∧ (grid0.coords t 0).val = t.val / 32 ∧ (grid0.coords t 1).val = t.val / 4 % 8 :=
  (by decide +kernel : ∀ t : Fin grid0.N, _)

/-- The sequence of a grid point. -/
def bOf (t : Fin cfg0.N) : Fin 2 := ⟨t.val / 32, (idx t).2.2.2.2.2.2.2.1⟩

theorem tok_lt (t : Fin cfg0.N) (r : Fin 1056) : 1056 * (t.val / 4 % 8) + r < 8448 := by
  have := (idx t).2.2.2.2.2.2.2.2.1; omega

/-- The token of a row of a grid point's tile. -/
def tokOf (t : Fin cfg0.N) (r : Fin 1056) : Fin 8448 := ⟨1056 * (t.val / 4 % 8) + r, tok_lt t r⟩

theorem col_lt (t : Fin cfg0.N) (e : Fin 3584) : 3584 * (t.val % 4) + e < 14336 := by
  have := (idx t).2.2.2.2.2.2.2.2.2.1; omega

/-- The column of the wide result of a column of a grid point's block. -/
def colOf (t : Fin cfg0.N) (e : Fin 3584) : Fin 14336 := ⟨3584 * (t.val % 4) + e, col_lt t e⟩

/-- A row of the tokens' block. -/
theorem x_at (c : Dev nD) (t : Fin cfg0.N) (r : Fin 1056) (d : Fin 1024) :
    (iblk m c 0 t : FVec Ideal S1x1056x1024 .f32) (ix3 0 r d) = A0 m c (bOf t) (tokOf t r) d := by
  unfold A0 bOf tokOf
  blk_ext [iblk, V, idx t]

/-- The modulation's block is the modulation. -/
theorem mo_at (c : Dev nD) (t : Fin cfg0.N) (q : Fin 8) (f : Fin 3072) :
    (iblk m c 1 t : FVec Ideal S8x3072 .f32) (ix2 q f) = A1 m c q f := by
  unfold A1
  blk_ext [iblk, V, idx t]

/-- The norm's block is the norm's weights. -/
theorem nw_at (c : Dev nD) (t : Fin cfg0.N) (d : Fin 1024) :
    (iblk m c 2 t : FVec Ideal S1x1024 .f32) (ix2 0 d) = A2 m c d := by
  have hV : (V m c main_v7 : FVec Ideal S1x1024 .f32) (ix2 0 d)
      = (m ((c : Thread nD τ).loc main_arg2) : FVec Ideal S1024 .f32) (ix1 d) := by
    unfold V
    simp only [List.flatten_cons, List.flatten_nil, List.append_nil, StableHlo.after_append]
    after_reads_simp
    try simp -implicitDefEqProofs only [StableHlo.TRef.toBuf, StableHlo.TRef.ofBuf, cast_cast, cast_eq]
    pointwise [id]
  unfold A2
  rw [← hV]
  unfold iblk
  generalize V m c main_v7 = w
  blk_ext [idx t]

/-- A column of the wide weights' block. -/
theorem w_at (c : Dev nD) (t : Fin cfg0.N) (d : Fin 1024) (e : Fin 3584) :
    (iblk m c 3 t : FVec Ideal S1024x3584 .bf16) (ix2 d e) = A3 m c d (pcol (colOf t e)) := by
  have hV : ∀ f : Fin 14336, (V m c main_v3 : FVec Ideal S1024x14336 .bf16) (ix2 d f) = A3 m c d (pcol f) := by
    intro f
    unfold V A3
    simp only [List.flatten_cons, List.flatten_nil, List.append_nil, StableHlo.after_append]
    after_reads_simp
    try simp -implicitDefEqProofs only [StableHlo.TRef.toBuf, StableHlo.TRef.ofBuf, cast_cast, cast_eq]
    pointwise [id]
    after_reads_simp
    pointwise [id]
    by_cases h : (f : ℕ) < 3072
    · rw [dif_pos h]
      refine congrArg (m ((c : Thread nD τ).loc main_arg3)) (congrArg (ix2 d) (Fin.ext ?_))
      show (f : ℕ) = if (f : ℕ) < 3072 then (f : ℕ) else f + 16
      rw [if_pos h]
    · rw [dif_neg h]
      refine congrArg (m ((c : Thread nD τ).loc main_arg3)) (congrArg (ix2 d) (Fin.ext ?_))
      show 3088 + ((f : ℕ) - 3072) = if (f : ℕ) < 3072 then (f : ℕ) else f + 16
      rw [if_neg h]; omega
  rw [← hV]
  unfold iblk colOf
  generalize V m c main_v3 = w
  blk_ext [idx t]

/-- A column of the narrow weights' block: the decays' and rates' columns, and past them zeros. -/
theorem s_at (c : Dev nD) (t : Fin cfg0.N) (d : Fin 1024) (j : Fin 128) :
    (iblk m c 4 t : FVec Ideal S1024x128 .bf16) (ix2 d j)
      = if h : (j : ℕ) < 16 then A3 m c d ⟨3072 + j, by omega⟩ else 0 := by
  have hV : (V m c main_v6 : FVec Ideal S1024x128 .bf16) (ix2 d j)
      = if h : (j : ℕ) < 16 then A3 m c d ⟨3072 + j, by omega⟩ else 0 := by
    unfold V A3
    simp only [List.flatten_cons, List.flatten_nil, List.append_nil, StableHlo.after_append]
    after_reads_simp
    simp -implicitDefEqProofs only [StableHlo.TRef.toBuf, StableHlo.TRef.ofBuf, cast_cast, cast_eq]
    pointwise [id]
    split
    · rfl
    · show FloatOps.sitofp (F := Ideal) .f32 (0#32 : BitVec 32) = 0
      simp [FloatOps.sitofp]
  rw [← hV]
  unfold iblk
  generalize V m c main_v6 = w
  blk_ext [idx t]

end Cert.Kernel2Ideal.Proj

end
-- ==== Proof.ProjKept.lean ====
/- What the first of a row tile's four points leaves in the kept rows and in the narrow block, over the extended reals. -/
module

public import proofs.«01_k».proof.Proof.ProjReads

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Proj Cert.Kernel2Ideal Cert.Kernel2Ideal.Gen

variable (m : (ℓ : Loc nD τ sig) → Buf (Elt Ideal) ℓ)

/-- The normalized row, before its scale and shift. -/
theorem norm_at (x : FVec Ideal S1x1056x1024 .f32) (n : FVec Ideal S1x1024 .f32) (r : Fin 1056) (d : Fin 1024) :
    k0_pay10 (F := Ideal) x n (ix2 r d)
      = x (ix3 0 r d) * Ideal.rsqrt (Ideal.div (∑ k : Fin 1024, x (ix3 0 r k) * x (ix3 0 r k)) (Ideal.ofBits .f32 0x44800000#32)
          + Ideal.ofBits .f32 0x358637BD#32) * n (ix2 0 d) := by
  pointwise [k0_pay10]

/-- Which tokens are the context's, as the kernel's words tell it. -/
theorem ctx_word : ∀ (i : Fin 8) (r : Fin 1056),
    IntOp.cmpi .slt (IntOp.addi (Scalar.muli (BitVec.ofNat 32 i) 1056#32) (BitVec.ofNat 32 r)) 256#32
      = if 1056 * (i : ℕ) + r < 256 then 1#1 else 0#1 := by
  decide +kernel

/-- The row of the shift a token takes. -/
theorem shift_at (i : Fin 8) (x y : FVec Ideal S1x1024 .f32) (r : Fin 1056) (d : Fin 1024) :
    k0_pay12 (F := Ideal) (BitVec.ofNat 32 i) x y (ix2 r d) = if 1056 * (i : ℕ) + r < 256 then x (ix2 0 d) else y (ix2 0 d) := by
  pointwise [k0_pay12, k0_pay11]
  rw [ctx_word]
  split <;> rfl

/-- The row of the scale a token takes. -/
theorem scale_at (i : Fin 8) (x y : FVec Ideal S1x1024 .f32) (r : Fin 1056) (d : Fin 1024) :
    k0_pay13 (F := Ideal) (BitVec.ofNat 32 i) x y (ix2 r d) = if 1056 * (i : ℕ) + r < 256 then x (ix2 0 d) else y (ix2 0 d) := by
  pointwise [k0_pay13, k0_pay11]
  rw [ctx_word]
  split <;> rfl

/-- A modulated row. -/
theorem mod_at (a b c : FVec Ideal S1056x1024 .f32) (r : Fin 1056) (d : Fin 1024) :
    k0_pay2 (F := Ideal) a b c (k0_pay14 (F := Ideal)) (ix2 r d)
      = a (ix2 r d) * (Ideal.ofBits .f32 0x3F800000#32 + c (ix2 r d)) + b (ix2 r d) := by
  pointwise [k0_pay2, k0_pay1, k0_pay14]

/-- The narrow product. -/
theorem narrow_pay (a b c o : FVec Ideal S1056x1024 .f32) (w : FVec Ideal S1024x128 .bf16) (r : Fin 1056) (e : Fin 128) :
    k0_pay3 (F := Ideal) a b c o w (ix3 0 r e) = ∑ d : Fin 1024, k0_pay2 (F := Ideal) a b c o (ix2 r d) * w (ix2 d e) := by
  pointwise [k0_pay3, k0_pay2]

/-- A row of the modulation, read from a column on. -/
theorem ld_mod (w : FVec Ideal S8x3072 .f32) (o : Fin 2 → ℕ) (q : Fin 8) (k : ℕ) (hk : k + 1024 ≤ 3072)
    (inb : ∀ a, o a + S1x1024.size a ≤ S8x3072.size a) (h0 : o 0 = q) (h1 : o 1 = k) (d : Fin 1024) :
    w ((Rect.unit (s := S8x3072) o S1x1024.size inb).idx (ix2 0 d)) = w (ix2 q ⟨k + d, by omega⟩) := by
  refine congrArg w ?_
  blk_ext
  · show o 0 + 1 * 0 = q; omega
  · show o 1 + 1 * (d : ℕ) = k + d; omega

set_option maxHeartbeats 2000000 in
/-- The kept rows are the modulated tokens. -/
theorem kept_at (c : Dev nD) (t : Fin cfg0.N) (h : t.val % 4 = 0) (r : Fin 1056) (d : Fin 1024) :
    kept m c t (ix2 r d) = hid (A0 m c) (A1 m c) (A2 m c) (bOf t) (tokOf t r) d := by
  have hi : (grid0.coords t 1).val = t.val / 4 % 8 := (idx t).2.2.2.2.2.2.2.2.2.2.2
  have hb : (grid0.coords t 0).val = t.val / 32 := (idx t).2.2.2.2.2.2.2.2.2.2.1
  have hlt : t.val / 32 < 2 := (idx t).2.2.2.2.2.2.2.1
  rw [kept_first m c t h]
  unfold atA
  frame_out
  have o1 : k0_off1 (grid0.coords t) 0 = t.val / 32 := by
    show (BitVec.ofNat 32 (grid0.coords t 0).val).toNat = _
    rw [hb, BitVec.toNat_ofNat]; omega
  have o2 : k0_off2 (grid0.coords t) 0 = t.val / 32 := by
    show (BitVec.ofNat 32 (grid0.coords t 0).val).toNat = _
    rw [hb, BitVec.toNat_ofNat]; omega
  rw [mod_at]
  erw [norm_at, shift_at (grid0.coords t 1), scale_at (grid0.coords t 1)]
  unfold hid hrow
  simp only [x_at, nw_at]
  have hA : ∀ (q : Fin 8) (f : Fin 3072), A1 m c q f = (iblk m c 1 t : FVec Ideal S8x3072 .f32) (ix2 q f) := fun q f => (mo_at m c t q f).symm
  simp only [hA]
  generalize (iblk m c 1 t : FVec Ideal S8x3072 .f32) = w
  unfold mrow tokOf bOf
  dsimp only
  rw [hi]
  by_cases hc : 1056 * (t.val / 4 % 8) + (r : ℕ) < 256
  · simp only [if_pos hc]
    refine congrArg₂ (· + ·) (congrArg (_ * ·) (congrArg (_ + ·) ?_)) ?_
    · exact ld_mod w _ 2 1024 (by omega) _ rfl rfl d
    · exact (ld_mod w _ 2 0 (by omega) _ rfl rfl d).trans (congrArg w (by blk_ext))
  · simp only [if_neg hc]
    refine congrArg₂ (· + ·) (congrArg (_ * ·) (congrArg (_ + ·) ?_)) ?_
    · exact ld_mod w _ ⟨t.val / 32, by omega⟩ 1024 (by omega) _ o2 rfl d
    · exact (ld_mod w _ ⟨t.val / 32, by omega⟩ 0 (by omega) _ o1 rfl d).trans (congrArg w (by blk_ext))

set_option maxHeartbeats 2000000 in
/-- The narrow block is the kept rows against the narrow weights. -/
theorem narrow_at (c : Dev nD) (t : Fin cfg0.N) (h : t.val % 4 = 0) (r : Fin 1056) (e : Fin 128) :
    narrow m c t (ix3 0 r e)
      = ∑ d : Fin 1024, kept m c t (ix2 r d) * (iblk m c 4 t : FVec Ideal S1024x128 .bf16) (ix2 d e) := by
  rw [narrow_first m c t h, kept_first m c t h]
  unfold atA
  frame_out
  exact narrow_pay _ _ _ _ _ r e

end Cert.Kernel2Ideal.Proj

end
-- ==== Proof.ProjVal.lean ====
/- What the input projection's body leaves at each point of its grid, over the extended reals: the kept rows, the narrow
   block and the seven stretches of the wide block. -/
module

public import proofs.«01_k».proof.Proof.ProjFrame
public import proofs.«01_k».proof.Proof.ProjMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Proj Cert.Kernel2Ideal Cert.Kernel2Ideal.Gen

variable (m : (ℓ : Loc nD τ sig) → Buf (Elt Ideal) ℓ)

/-- A stretch without an activation. -/
theorem stretchN (a : FVec Ideal S1056x1024 .bf16) (w : FVec Ideal S1024x512 .bf16) (r : Fin 1056) (j : Fin 512) :
    k0_pay5 (F := Ideal) a w (ix3 0 r j) = ∑ d : Fin 1024, a (ix2 r d) * w (ix2 d j) := by
  pointwise [k0_pay5]

/-- A stretch of sigmoid-weighted units. -/
theorem stretchS (a : FVec Ideal S1056x1024 .bf16) (w : FVec Ideal S1024x512 .bf16) (r : Fin 1056) (j : Fin 512) :
    k0_pay6 (F := Ideal) a w (ix3 0 r j) = siluK (∑ d : Fin 1024, a (ix2 r d) * w (ix2 d j)) := by
  pointwise [k0_pay6, siluK]

/-- A stretch of sigmoids. -/
theorem stretchG (a : FVec Ideal S1056x1024 .bf16) (w : FVec Ideal S1024x512 .bf16) (r : Fin 1056) (j : Fin 512) :
    k0_pay15 (F := Ideal) a w (ix3 0 r j) = gateK (∑ d : Fin 1024, a (ix2 r d) * w (ix2 d j)) := by
  pointwise [k0_pay15, gateK]

/-- A stretch of the weights' block is its columns from a place on. -/
theorem ld_sum (k : FVec Ideal S1056x1024 .bf16) (w : FVec Ideal S1024x3584 .bf16) (r : Fin 1056) (o : ℕ)
    (inb : ∀ a, (![0, o] : Fin 2 → ℕ) a + (![1024, 512] : Fin 2 → ℕ) a ≤ S1024x3584.size a) (j : Fin 512) (e : Fin 3584)
    (he : (e : ℕ) = o + j) :
    ∑ d : Fin 1024, k (ix2 r d) * w ((Rect.unit (s := S1024x3584) ![0, o] ![1024, 512] inb).idx (ix2 d j)) = ∑ d : Fin 1024, k (ix2 r d) * w (ix2 d e) := by
  refine Finset.sum_congr rfl fun d _ => congrArg (k (ix2 r d) * ·) (congrArg w ?_)
  blk_ext
  · show 0 + 1 * (d : ℕ) = d; omega
  · show o + 1 * (j : ℕ) = e; omega

set_option maxHeartbeats 2000000 in
/-- The wide block of a first column block. -/
theorem wide_at_A (c : Dev nD) (t : Fin cfg0.N) (h : t.val % 4 = 0) (r : Fin 1056) (e : Fin 3584) :
    wide m c t (ix3 0 r e)
      = act (0 + (e : ℕ) / 512) (∑ d : Fin 1024, kept m c t (ix2 r d) * (iblk m c 3 t : FVec Ideal S1024x3584 .bf16) (ix2 d e)) := by
  rw [wide_A m c t h, kept_first m c t h]
  unfold atA
  frame_open
  simp (disch := decide) only [↓ View.readCov_skip, ↓ View.readCov_cons_toLoadRect, ↓ View.readCov_fill]
  frame_out
  generalize k0_pay2 (F := Ideal) _ _ _ _ = k
  generalize iblk m c 3 t = w
  canon_tiles x hx
  case piece0 =>
    have hr : (r : ℕ) = x 1 := hx1
    have he : (e : ℕ) = 3072 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 3072 _ _ e he))
  case piece1 =>
    have hr : (r : ℕ) = x 1 := hx1
    have he : (e : ℕ) = 2560 + x 2 := hx2
    obtain ⟨j, rfl⟩ : ∃ j, x = ix3 0 r j := ⟨⟨x 2, x2_lt⟩, by blk_ext⟩
    rw [act_S _ _ (by omega)]
    exact (stretchS k _ r _).trans (congrArg siluK (ld_sum k w r 2560 _ _ e he))
  case piece2 =>
    have hr : (r : ℕ) = x 1 := hx1
    have he : (e : ℕ) = 2048 + x 2 := hx2
    obtain ⟨j, rfl⟩ : ∃ j, x = ix3 0 r j := ⟨⟨x 2, x2_lt⟩, by blk_ext⟩
    rw [act_S _ _ (by omega)]
    exact (stretchS k _ r _).trans (congrArg siluK (ld_sum k w r 2048 _ _ e he))
  case piece3 =>
    have hr : (r : ℕ) = x 1 := hx1
    have he : (e : ℕ) = 1536 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 1536 _ _ e he))
  case piece4 =>
    have hr : (r : ℕ) = x 1 := hx1
    have he : (e : ℕ) = 1024 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 1024 _ _ e he))
  case piece5 =>
    have hr : (r : ℕ) = x 1 := hx1
    have he : (e : ℕ) = 512 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 512 _ _ e he))
  case piece6 =>
    have hr : (r : ℕ) = x 1 := hx1
    have he : (e : ℕ) = 0 + x 2 := hx2.trans (Nat.zero_add _).symm
    obtain ⟨j, rfl⟩ : ∃ j, x = ix3 0 r j := ⟨⟨x 2, x2_lt⟩, by blk_ext⟩
    rw [act_N _ _ (by omega)]
    exact (stretchN k _ r _).trans (congrArg id (ld_sum k w r 0 _ _ e he))

set_option maxHeartbeats 2000000 in
/-- The wide block of a second column block. -/
theorem wide_at_B (c : Dev nD) (t : Fin cfg0.N) (h : t.val % 4 = 1) (r : Fin 1056) (e : Fin 3584) :
    wide m c t (ix3 0 r e)
      = act (7 + (e : ℕ) / 512) (∑ d : Fin 1024, kept m c t (ix2 r d) * (iblk m c 3 t : FVec Ideal S1024x3584 .bf16) (ix2 d e)) := by
  rw [wide_B m c t h]
  generalize kept m c t = k
  unfold atB
  frame_out
  simp only [read_unread_whole]
  generalize iblk m c 3 t = w
  canon_tiles x hx
  case piece0 =>
    have hr : (r : ℕ) = x 1 := hx1
    have he : (e : ℕ) = 3072 + x 2 := hx2
    obtain ⟨j, rfl⟩ : ∃ j, x = ix3 0 r j := ⟨⟨x 2, x2_lt⟩, by blk_ext⟩
    rw [act_S _ _ (by omega)]
    exact (stretchS k _ r _).trans (congrArg siluK (ld_sum k w r 3072 _ _ e he))
  case piece1 =>
    have hr : (r : ℕ) = x 1 := hx1
    have he : (e : ℕ) = 2560 + x 2 := hx2
    obtain ⟨j, rfl⟩ : ∃ j, x = ix3 0 r j := ⟨⟨x 2, x2_lt⟩, by blk_ext⟩
    rw [act_S _ _ (by omega)]
    exact (stretchS k _ r _).trans (congrArg siluK (ld_sum k w r 2560 _ _ e he))
  case piece2 =>
    have hr : (r : ℕ) = x 1 := hx1
    have he : (e : ℕ) = 2048 + x 2 := hx2
    obtain ⟨j, rfl⟩ : ∃ j, x = ix3 0 r j := ⟨⟨x 2, x2_lt⟩, by blk_ext⟩
    rw [act_S _ _ (by omega)]
    exact (stretchS k _ r _).trans (congrArg siluK (ld_sum k w r 2048 _ _ e he))
  case piece3 =>
    have hr : (r : ℕ) = x 1 := hx1
    have he : (e : ℕ) = 1536 + x 2 := hx2
    obtain ⟨j, rfl⟩ : ∃ j, x = ix3 0 r j := ⟨⟨x 2, x2_lt⟩, by blk_ext⟩
    rw [act_S _ _ (by omega)]
    exact (stretchS k _ r _).trans (congrArg siluK (ld_sum k w r 1536 _ _ e he))
  case piece4 =>
    have hr : (r : ℕ) = x 1 := hx1
    have he : (e : ℕ) = 1024 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 1024 _ _ e he))
  case piece5 =>
    have hr : (r : ℕ) = x 1 := hx1
    have he : (e : ℕ) = 512 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 512 _ _ e he))
  case piece6 =>
    have hr : (r : ℕ) = x 1 := hx1
    have he : (e : ℕ) = 0 + x 2 := hx2.trans (Nat.zero_add _).symm
    obtain ⟨j, rfl⟩ : ∃ j, x = ix3 0 r j := ⟨⟨x 2, x2_lt⟩, by blk_ext⟩
    rw [act_N _ _ (by omega)]
    exact (stretchN k _ r _).trans (congrArg id (ld_sum k w r 0 _ _ e he))

set_option maxHeartbeats 2000000 in
/-- The wide block of a third column block. -/
theorem wide_at_C (c : Dev nD) (t : Fin cfg0.N) (h : t.val % 4 = 2) (r : Fin 1056) (e : Fin 3584) :
    wide m c t (ix3 0 r e)
      = act (14 + (e : ℕ) / 512) (∑ d : Fin 1024, kept m c t (ix2 r d) * (iblk m c 3 t : FVec Ideal S1024x3584 .bf16) (ix2 d e)) := by
  rw [wide_C m c t h]
  generalize kept m c t = k
  unfold atC
  frame_out
  simp only [read_unread_whole]
  generalize iblk m c 3 t = w
  canon_tiles x hx
  case piece0 =>
    have hr : (r : ℕ) = x 1 := hx1
    have he : (e : ℕ) = 3072 + x 2 := hx2
    obtain ⟨j, rfl⟩ : ∃ j, x = ix3 0 r j := ⟨⟨x 2, x2_lt⟩, by blk_ext⟩
    rw [act_S _ _ (by omega)]
    exact (stretchS k _ r _).trans (congrArg siluK (ld_sum k w r 3072 _ _ e he))
  case piece1 =>
    have hr : (r : ℕ) = x 1 := hx1
    have he : (e : ℕ) = 2560 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 2560 _ _ e he))
  case piece2 =>
    have hr : (r : ℕ) = x 1 := hx1
    have he : (e : ℕ) = 2048 + x 2 := hx2
    obtain ⟨j, rfl⟩ : ∃ j, x = ix3 0 r j := ⟨⟨x 2, x2_lt⟩, by blk_ext⟩
    rw [act_N _ _ (by omega)]
    exact (stretchN k _ r _).trans (congrArg id (ld_sum k w r 2048 _ _ e he))
  case piece3 =>
    have hr : (r : ℕ) = x 1 := hx1
    have he : (e : ℕ) = 1536 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 1536 _ _ e he))
  case piece4 =>
    have hr : (r : ℕ) = x 1 := hx1
    have he : (e : ℕ) = 1024 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 1024 _ _ e he))
  case piece5 =>
    have hr : (r : ℕ) = x 1 := hx1
    have he : (e : ℕ) = 512 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 512 _ _ e he))
  case piece6 =>
    have hr : (r : ℕ) = x 1 := hx1
    have he : (e : ℕ) = 0 + x 2 := hx2.trans (Nat.zero_add _).symm
    obtain ⟨j, rfl⟩ : ∃ j, x = ix3 0 r j := ⟨⟨x 2, x2_lt⟩, by blk_ext⟩
    rw [act_G _ _ (by omega)]
    exact (stretchG k _ r _).trans (congrArg gateK (ld_sum k w r 0 _ _ e he))

set_option maxHeartbeats 2000000 in
/-- The wide block of a last column block. -/
theorem wide_at_D (c : Dev nD) (t : Fin cfg0.N) (h : t.val % 4 = 3) (r : Fin 1056) (e : Fin 3584) :
    wide m c t (ix3 0 r e)
      = act (21 + (e : ℕ) / 512) (∑ d : Fin 1024, kept m c t (ix2 r d) * (iblk m c 3 t : FVec Ideal S1024x3584 .bf16) (ix2 d e)) := by
  rw [wide_D m c t h]
  generalize kept m c t = k
  unfold atD
  frame_out
  simp only [read_unread_whole]
  generalize iblk m c 3 t = w
  canon_tiles x hx
  case piece0 =>
    have hr : (r : ℕ) = x 1 := hx1
    have he : (e : ℕ) = 3072 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 3072 _ _ e he))
  case piece1 =>
    have hr : (r : ℕ) = x 1 := hx1
    have he : (e : ℕ) = 2560 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 2560 _ _ e he))
  case piece2 =>
    have hr : (r : ℕ) = x 1 := hx1
    have he : (e : ℕ) = 2048 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 2048 _ _ e he))
  case piece3 =>
    have hr : (r : ℕ) = x 1 := hx1
    have he : (e : ℕ) = 1536 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 1536 _ _ e he))
  case piece4 =>
    have hr : (r : ℕ) = x 1 := hx1
    have he : (e : ℕ) = 1024 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 1024 _ _ e he))
  case piece5 =>
    have hr : (r : ℕ) = x 1 := hx1
    have he : (e : ℕ) = 512 + x 2 := hx2
    obtain ⟨j, rfl⟩ : ∃ j, x = ix3 0 r j := ⟨⟨x 2, x2_lt⟩, by blk_ext⟩
    rw [act_G _ _ (by omega)]
    exact (stretchG k _ r _).trans (congrArg gateK (ld_sum k w r 512 _ _ e he))
  case piece6 =>
    have hr : (r : ℕ) = x 1 := hx1
    have he : (e : ℕ) = 0 + x 2 := hx2.trans (Nat.zero_add _).symm
    obtain ⟨j, rfl⟩ : ∃ j, x = ix3 0 r j := ⟨⟨x 2, x2_lt⟩, by blk_ext⟩
    rw [act_S _ _ (by omega)]
    exact (stretchS k _ r _).trans (congrArg siluK (ld_sum k w r 0 _ _ e he))

end Cert.Kernel2Ideal.Proj

end
-- ==== Proof.ProjOut.lean ====
/- The projection's two results after the run, as arrays of the arguments, over the extended reals. -/
module

public import proofs.«01_k».proof.Proof.ProjKept
public import proofs.«01_k».proof.Proof.ProjVal

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Proj Cert.Kernel2Ideal Cert.Kernel2Ideal.Gen

variable (m : (ℓ : Loc nD τ sig) → Buf (Elt Ideal) ℓ) (ρ : Dev nD → PrngReg)

/-- A modulated token against a column of the weights. -/
def dotOf (c : Dev nD) (b : Fin 2) (t : Fin 8448) (f : Fin 14352) : EReal :=
  ∑ d : Fin 1024, hid (A0 m c) (A1 m c) (A2 m c) b t d * A3 m c d f

/-- The wide result. -/
def res5 (c : Dev nD) : FVec Ideal S2x8448x14336 .bf16 := fun y =>
  act ((y 2 : ℕ) / 512) (dotOf m c (y 0) (y 1) (pcol (y 2)))

/-- The narrow result: the decays' and rates' columns, and past them zeros. -/
def res6 (c : Dev nD) : FVec Ideal S2x8448x128 .f32 := fun y =>
  if h : (y 2 : ℕ) < 16 then dotOf m c (y 0) (y 1) ⟨3072 + (y 2 : ℕ), by omega⟩ else 0

/-- The four points of a row tile are in one sequence and have the same tokens. -/
theorem bOf_start (t : Fin cfg0.N) : bOf (start t) = bOf t :=
  Fin.ext (by show (t.val - t.val % 4) / 32 = t.val / 32; omega)

theorem tokOf_start (t : Fin cfg0.N) (r : Fin 1056) : tokOf (start t) r = tokOf t r :=
  Fin.ext (by
    show 1056 * ((t.val - t.val % 4) / 4 % 8) + (r : ℕ) = 1056 * (t.val / 4 % 8) + r
    have : (t.val - t.val % 4) / 4 = t.val / 4 := by omega
    rw [this])

/-- The kept rows are the tile's modulated tokens at each of its points. -/
theorem kept_row (c : Dev nD) (t : Fin cfg0.N) (r : Fin 1056) (d : Fin 1024) :
    kept m c t (ix2 r d) = hid (A0 m c) (A1 m c) (A2 m c) (bOf t) (tokOf t r) d := by
  have e : kept m c t = kept m c (start t) := (kept_first m c (start t) (start_mod t)).symm
  rw [e, kept_at m c (start t) (start_mod t) r d, bOf_start, tokOf_start]

/-- The wide block at a grid point. -/
theorem wide_row (c : Dev nD) (t : Fin cfg0.N) (r : Fin 1056) (e : Fin 3584) :
    wide m c t (ix3 0 r e)
      = act ((3584 * (t.val % 4) + (e : ℕ)) / 512) (dotOf m c (bOf t) (tokOf t r) (pcol (colOf t e))) := by
  have hs : (∑ d : Fin 1024, kept m c t (ix2 r d) * (iblk m c 3 t : FVec Ideal S1024x3584 .bf16) (ix2 d e))
      = dotOf m c (bOf t) (tokOf t r) (pcol (colOf t e)) :=
    Finset.sum_congr rfl fun d _ => congrArg₂ (· * ·) (kept_row m c t r d) (w_at m c t d e)
  have h : t.val % 4 = 0 ∨ t.val % 4 = 1 ∨ t.val % 4 = 2 ∨ t.val % 4 = 3 := by omega
  rcases h with h | h | h | h
  · rw [wide_at_A m c t h r e, hs]
    exact congrArg (act · _) (by omega)
  · rw [wide_at_B m c t h r e, hs]
    exact congrArg (act · _) (by omega)
  · rw [wide_at_C m c t h r e, hs]
    exact congrArg (act · _) (by omega)
  · rw [wide_at_D m c t h r e, hs]
    exact congrArg (act · _) (by omega)

/-- The narrow block at a grid point. -/
theorem narrow_row (c : Dev nD) (t : Fin cfg0.N) (r : Fin 1056) (j : Fin 128) :
    narrow m c t (ix3 0 r j)
      = if h : (j : ℕ) < 16 then dotOf m c (bOf t) (tokOf t r) ⟨3072 + j, by omega⟩ else 0 := by
  have e : narrow m c t = narrow m c (start t) := (narrow_first m c (start t) (start_mod t)).symm
  rw [e, narrow_at m c (start t) (start_mod t) r j]
  simp only [s_at, kept_row, bOf_start, tokOf_start]
  split
  · rfl
  · simp only [mul_zero, Finset.sum_const_zero]

/-- A grid point's wide entry, where the result keeps it. -/
theorem res5_at (c : Dev nD) (t : Fin cfg0.N) (r : Fin 1056) (e : Fin 3584) (y : S2x8448x14336.Idx)
    (h0 : (y 0 : ℕ) = t.val / 32) (h1 : (y 1 : ℕ) = 1056 * (t.val / 4 % 8) + r) (h2 : (y 2 : ℕ) = 3584 * (t.val % 4) + e) :
    act ((3584 * (t.val % 4) + (e : ℕ)) / 512) (dotOf m c (bOf t) (tokOf t r) (pcol (colOf t e))) = res5 m c y := by
  unfold res5
  have e0 : bOf t = y 0 := Fin.ext h0.symm
  have e1 : tokOf t r = y 1 := Fin.ext h1.symm
  have e2 : colOf t e = y 2 := Fin.ext h2.symm
  rw [e0, e1, e2, ← h2]

/-- A grid point's narrow entry, where the result keeps it. -/
theorem res6_at (c : Dev nD) (t : Fin cfg0.N) (r : Fin 1056) (e : Fin 128) (y : S2x8448x128.Idx)
    (h0 : (y 0 : ℕ) = t.val / 32) (h1 : (y 1 : ℕ) = 1056 * (t.val / 4 % 8) + r) (h2 : (y 2 : ℕ) = e) :
    (if h : (e : ℕ) < 16 then dotOf m c (bOf t) (tokOf t r) ⟨3072 + e, by omega⟩ else 0) = res6 m c y := by
  unfold res6
  have e0 : bOf t = y 0 := Fin.ext h0.symm
  have e1 : tokOf t r = y 1 := Fin.ext h1.symm
  have e2 : e = y 2 := Fin.ext h2.symm
  subst e2
  rw [e0, e1]

/-- The wide result after the run. -/
theorem final5 (c : Dev nD) : (dats m 0 c).arrAt 5 cfg0.N = res5 m c := by
  refine (dats m 0 c).arrAt_eq_of_covers 5 _ (by decide +kernel) fun t hf y => ?_
  blk_simp
  rw [after5]
  have hy2 : (y 2 : ℕ) < 3584 := (y 2).isLt
  have hy1 : (y 1 : ℕ) < 1056 := (y 1).isLt
  obtain ⟨r, hr⟩ : ∃ r : Fin 1056, (y 1 : ℕ) = r := ⟨⟨y 1, hy1⟩, rfl⟩
  obtain ⟨e, he⟩ : ∃ e : Fin 3584, (y 2 : ℕ) = e := ⟨⟨y 2, hy2⟩, rfl⟩
  have hy : y = ix3 0 r e := by blk_ext
  subst hy
  rw [wide_row]
  refine res5_at m c t r e _ ?_ ?_ ?_
  all_goals blk_simp [idx t]
  all_goals omega

/-- The narrow result after the run. -/
theorem final6 (c : Dev nD) : (dats m 0 c).arrAt 6 cfg0.N = res6 m c := by
  refine (dats m 0 c).arrAt_eq_of_covers 6 _ (by decide +kernel) fun t hf y => ?_
  blk_simp
  rw [after6]
  have hy2 : (y 2 : ℕ) < 128 := (y 2).isLt
  have hy1 : (y 1 : ℕ) < 1056 := (y 1).isLt
  obtain ⟨r, hr⟩ : ∃ r : Fin 1056, (y 1 : ℕ) = r := ⟨⟨y 1, hy1⟩, rfl⟩
  obtain ⟨e, he⟩ : ∃ e : Fin 128, (y 2 : ℕ) = e := ⟨⟨y 2, hy2⟩, rfl⟩
  have hy : y = ix3 0 r e := by blk_ext
  subst hy
  rw [narrow_row]
  refine res6_at m c t r e _ ?_ ?_ ?_
  all_goals blk_simp [idx t]
  all_goals omega

/-- The run ends with the two results, and the arguments as they were. -/
theorem run_res : θ_run defs (onTc (τ := τ) (main (F := Ideal))) ⟨m, fun _ => 0, ρ⟩ (fun r => ∀ c : Dev nD,
      r.2.mem ((c.tc : Thread nD τ).loc main_v8_0) = res5 m c
      ∧ r.2.mem ((c.tc : Thread nD τ).loc main_v8_1) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).1 5).trans (final5 m c), ((h.1.1 c).1 6).trans (final6 m c), h.2.1 c⟩)
    (θ_run_and (run_all m ρ) (frame_ok m ρ))

end Cert.Kernel2Ideal.Proj

end
-- ==== Proof.ProjRef.lean ====
/- What the reference's projection is, entry by entry, over the extended reals. -/
module

public import proofs.«01_k».proof.Proof.Gen.Reference2Ideal.Run
public import proofs.«01_k».proof.Proof.ProjMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Reference2Ideal.Proj

open Cert.Proj Cert.Reference2Ideal Cert.Reference2Ideal.Gen Cert.Reference2Ideal.Value

/-- The modulated tokens, as the reference's program computes them. -/
def tokens (x : FVec Ideal S2x8448x1024 .f32) (mo : FVec Ideal S8x3072 .f32) (n : FVec Ideal S1024 .f32) :
    FVec Ideal S2x8448x1024 .f32 :=
    concatenate S2x8448x1024 1 [⟨S2x256x1024, (addf (mulf (mulf (mulf (extractStridedSlice S2x256x1024 ![0, 0, 0] x
     slices_S2x8448x1024_S2x256x1024_0_0_0) (broadcastInDim S2x256x1024 ![0, 1, 2] bcast_S2x256x1_S2x256x1024_0_1_2
     (Host.rsqrt (addf (Host.divf (broadcastInDim S2x256x1 ![0, 1] bcast_S2x256_S2x256x1_0_1 (Host.reduceAdd (mulf
     (extractStridedSlice S2x256x1024 ![0, 0, 0] x slices_S2x8448x1024_S2x256x1024_0_0_0) (extractStridedSlice
     S2x256x1024 ![0, 0, 0] x slices_S2x8448x1024_S2x256x1024_0_0_0)) (constant S_ .f32 0x00000000#32)
     reducesTo_S2x256x1024_S2x256_d2 h_S_)) (broadcastInDim S2x256x1 ![] bcast_S_S2x256x1 (constant S_ .f32
     0x44800000#32))) (broadcastInDim S2x256x1 ![] bcast_S_S2x256x1 (constant S_ .f32 0x358637BD#32))))))
     (broadcastInDim S2x256x1024 ![0, 1, 2] bcast_S1x1x1024_S2x256x1024_0_1_2 (broadcastInDim S1x1x1024 ![2]
     bcast_S1024_S1x1x1024_2 n))) (broadcastInDim S2x256x1024 ![0, 1, 2] bcast_S1x1x1024_S2x256x1024_0_1_2
     (broadcastInDim S1x1x1024 ![2] bcast_S1024_S1x1x1024_2 (addf (broadcastInDim S1024 ![] bcast_S_S1024 (constant S_
     .f32 0x3F800000#32)) (shapeCast _ (extractStridedSlice S1x1024 ![2, 1024] mo slices_S8x3072_S1x1024_2_1024)
     shapeCasts_S1x1024_S1024))))) (broadcastInDim S2x256x1024 ![0, 1, 2] bcast_S1x1x1024_S2x256x1024_0_1_2
     (broadcastInDim S1x1x1024 ![2] bcast_S1024_S1x1x1024_2 (shapeCast _ (extractStridedSlice S1x1024 ![2, 0] mo
     slices_S8x3072_S1x1024_2_0) shapeCasts_S1x1024_S1024))))⟩, ⟨S2x8192x1024, (addf (mulf (mulf (mulf
     (extractStridedSlice S2x8192x1024 ![0, 256, 0] x slices_S2x8448x1024_S2x8192x1024_0_256_0) (broadcastInDim
     S2x8192x1024 ![0, 1, 2] bcast_S2x8192x1_S2x8192x1024_0_1_2 (Host.rsqrt (addf (Host.divf (broadcastInDim S2x8192x1
     ![0, 1] bcast_S2x8192_S2x8192x1_0_1 (Host.reduceAdd (mulf (extractStridedSlice S2x8192x1024 ![0, 256, 0] x
     slices_S2x8448x1024_S2x8192x1024_0_256_0) (extractStridedSlice S2x8192x1024 ![0, 256, 0] x
     slices_S2x8448x1024_S2x8192x1024_0_256_0)) (constant S_ .f32 0x00000000#32) reducesTo_S2x8192x1024_S2x8192_d2
     h_S_)) (broadcastInDim S2x8192x1 ![] bcast_S_S2x8192x1 (constant S_ .f32 0x44800000#32))) (broadcastInDim
     S2x8192x1 ![] bcast_S_S2x8192x1 (constant S_ .f32 0x358637BD#32)))))) (broadcastInDim S2x8192x1024 ![0, 1, 2]
     bcast_S1x1x1024_S2x8192x1024_0_1_2 (broadcastInDim S1x1x1024 ![2] bcast_S1024_S1x1x1024_2 n))) (broadcastInDim
     S2x8192x1024 ![0, 1, 2] bcast_S2x1x1024_S2x8192x1024_0_1_2 (addf (broadcastInDim S2x1x1024 ![] bcast_S_S2x1x1024
     (constant S_ .f32 0x3F800000#32)) (broadcastInDim S2x1x1024 ![0, 2] bcast_S2x1024_S2x1x1024_0_2
     (extractStridedSlice S2x1024 ![0, 1024] mo slices_S8x3072_S2x1024_0_1024))))) (broadcastInDim S2x8192x1024 ![0, 1,
     2] bcast_S2x1x1024_S2x8192x1024_0_1_2 (broadcastInDim S2x1x1024 ![0, 2] bcast_S2x1024_S2x1x1024_0_2
     (extractStridedSlice S2x1024 ![0, 0] mo slices_S8x3072_S2x1024_0_0))))⟩]
     concatenates_S2x256x1024_S2x8192x1024_S2x8448x1024_d1

set_option maxHeartbeats 2000000 in
theorem tokens_at (x : FVec Ideal S2x8448x1024 .f32) (mo : FVec Ideal S8x3072 .f32) (n : FVec Ideal S1024 .f32) (b : Fin 2)
    (t : Fin 8448) (d : Fin 1024) :
    tokens x mo n (ix3 b t d)
      = hid (fun b t d => x (ix3 b t d)) (fun r d => mo (ix2 r d)) (fun d => n (ix1 d)) b t d := by
  unfold tokens hid hrow mrow
  pointwise [id]
  by_cases h : (t : ℕ) < 256
  · simp only [if_pos h, dif_pos h]
  · have e : ∀ p, (⟨256 + ((t : ℕ) - 256), p⟩ : Fin 8448) = t := fun p => Fin.ext (by show 256 + ((t : ℕ) - 256) = t; omega)
    simp only [if_neg h, dif_neg h, e]

theorem dot_at (H : FVec Ideal S2x8448x1024 .f32) (w : FVec Ideal S1024x14352 .f32) (b : Fin 2) (t : Fin 8448) (f : Fin 14352) :
    Host.dotGeneral dot_S2x8448x1024_S1024x14352_S2x8448x14352_2_0_01_1_n_n none H w (ix3 b t f)
      = ∑ d : Fin 1024, H (ix3 b t d) * w (ix2 d f) := by
  pointwise [id]
  try rfl

variable (m : (ℓ : Loc nD τ sig) → Buf (Elt Ideal) ℓ)

/-- The projection before its activations. -/
def D (c : Dev nD) : FVec Ideal S2x8448x14352 .f32 :=
  Host.dotGeneral (φ₁ := .f32) (φ₂ := .f32) dot_S2x8448x1024_S1024x14352_S2x8448x14352_2_0_01_1_n_n none
    (tokens (m ((c.tc : Thread nD τ).loc main_arg0)) (m ((c.tc : Thread nD τ).loc main_arg1))
      (m ((c.tc : Thread nD τ).loc main_arg2))) (m ((c.tc : Thread nD τ).loc main_arg3))

/-- A choice whose branches are one value is that value. -/
theorem dite_one {α : Type} {q : Prop} [Decidable q] {f : q → α} {g : ¬ q → α} {r : α} (hf : ∀ h, f h = r) (hg : ∀ h, g h = r) :
    dite q f g = r := by
  by_cases h : q
  · rw [dif_pos h]; exact hf h
  · rw [dif_neg h]; exact hg h

/-- A column passed on. -/
theorem col_N (E : FVec Ideal S2x8448x14352 .f32) (b : Fin 2) (t : Fin 8448) (e : Fin 14336) (v : ℕ) (p : v < 14352)
    (hv : v = if (e : ℕ) < 3072 then (e : ℕ) else e + 16)
    (h : (e : ℕ) / 512 < 4 ∨ (6 ≤ (e : ℕ) / 512 ∧ (e : ℕ) / 512 < 10) ∨ (18 ≤ (e : ℕ) / 512 ∧ (e : ℕ) / 512 < 20)) :
    E (ix3 b t ⟨v, p⟩) = actR (e / 512) (E (ix3 b t (pcol e))) := by
  rw [actR_N _ _ h]; subst hv; rfl

/-- A column through the sigmoid-weighted unit. -/
theorem col_S (E : FVec Ideal S2x8448x14352 .f32) (b : Fin 2) (t : Fin 8448) (e : Fin 14336) (v : ℕ) (p : v < 14352)
    (hv : v = if (e : ℕ) < 3072 then (e : ℕ) else e + 16)
    (h : (4 ≤ (e : ℕ) / 512 ∧ (e : ℕ) / 512 < 6) ∨ (10 ≤ (e : ℕ) / 512 ∧ (e : ℕ) / 512 < 14)
      ∨ (20 ≤ (e : ℕ) / 512 ∧ (e : ℕ) / 512 < 22)) :
    E (ix3 b t ⟨v, p⟩) * Ideal.div 1 (1 + Ideal.exp (-E (ix3 b t ⟨v, p⟩))) = actR (e / 512) (E (ix3 b t (pcol e))) := by
  rw [actR_S _ _ h]; subst hv; unfold siluR gateR; rw [one_eq]; rfl

/-- A column through the sigmoid. -/
theorem col_G (E : FVec Ideal S2x8448x14352 .f32) (b : Fin 2) (t : Fin 8448) (e : Fin 14336) (v : ℕ) (p : v < 14352)
    (hv : v = if (e : ℕ) < 3072 then (e : ℕ) else e + 16)
    (h : (14 ≤ (e : ℕ) / 512 ∧ (e : ℕ) / 512 < 18) ∨ 22 ≤ (e : ℕ) / 512) :
    Ideal.div 1 (1 + Ideal.exp (-E (ix3 b t ⟨v, p⟩))) = actR (e / 512) (E (ix3 b t (pcol e))) := by
  rw [actR_G _ _ h]; subst hv; unfold gateR; rw [one_eq]; rfl

set_option maxHeartbeats 4000000 in
theorem main_at (c : Dev nD) (b : Fin 2) (t : Fin 8448) (e : Fin 14336) :
    (res_main_v108 m c : FVec Ideal S2x8448x14336 .bf16) (ix3 b t e) = actR (e / 512) (D m c (ix3 b t (pcol e))) := by
  unfold res_main_v108
  generalize hD : Host.dotGeneral (F := Ideal) dot_S2x8448x1024_S1024x14352_S2x8448x14352_2_0_01_1_n_n none _ _ = E
  have hE : D m c = E := by unfold D tokens; exact hD
  rw [hE]
  clear hD hE
  pointwise [id]
  refine dite_one (fun h1 => col_N E b t e _ _ (by split <;> omega) (by omega)) (fun n1 => ?_)
  refine dite_one (fun h2 => col_S E b t e _ _ (by split <;> omega) (by omega)) (fun n2 => ?_)
  refine dite_one (fun h3 => col_N E b t e _ _ (by split <;> omega) (by omega)) (fun n3 => ?_)
  refine dite_one (fun h4 => col_N E b t e _ _ (by split <;> omega) (by omega)) (fun n4 => ?_)
  refine dite_one (fun h5 => col_N E b t e _ _ (by split <;> omega) (by omega)) (fun n5 => ?_)
  refine dite_one (fun h6 => col_S E b t e _ _ (by split <;> omega) (by omega)) (fun n6 => ?_)
  refine dite_one (fun h7 => col_S E b t e _ _ (by split <;> omega) (by omega)) (fun n7 => ?_)
  refine dite_one (fun h8 => col_G E b t e _ _ (by split <;> omega) (by omega)) (fun n8 => ?_)
  refine dite_one (fun h9 => col_N E b t e _ _ (by split <;> omega) (by omega)) (fun n9 => ?_)
  refine dite_one (fun h10 => col_S E b t e _ _ (by split <;> omega) (by omega)) (fun n10 => ?_)
  exact col_G E b t e _ _ (by split <;> omega) (by omega)

set_option maxHeartbeats 2000000 in
theorem small_at (c : Dev nD) (b : Fin 2) (t : Fin 8448) (e : Fin 128) :
    (res_main_v107 m c : FVec Ideal S2x8448x128 .f32) (ix3 b t e)
      = if h : (e : ℕ) < 16 then D m c (ix3 b t ⟨3072 + e, by omega⟩) else 0 := by
  unfold res_main_v107
  generalize hD : Host.dotGeneral (F := Ideal) dot_S2x8448x1024_S1024x14352_S2x8448x14352_2_0_01_1_n_n none _ _ = E
  have hE : D m c = E := by unfold D tokens; exact hD
  rw [hE]
  clear hD hE
  pointwise [id]
  by_cases h8 : (e : ℕ) < 8
  · rw [dif_pos h8, dif_pos (by omega)]
  · rw [dif_neg h8]
    by_cases h16 : (e : ℕ) < 16
    · rw [dif_pos h16, dif_pos (by omega)]
      refine congrArg E ?_
      blk_ext
    · rw [dif_neg h16, dif_neg (by omega)]

end Cert.Reference2Ideal.Proj

end
-- ==== Proof.ProjFinite.lean ====
/- The projection's results and its reference's are equal where the modulation and the weights are finite. -/
module

public import proofs.«01_k».proof.Proof.RetFinite
public import proofs.«01_k».proof.Proof.ProjOut
public import proofs.«01_k».proof.Proof.ProjRef

@[expose] public section

set_option maxRecDepth 16384

noncomputable section

open Idealize.ShloMosaic Idealize.ShloMosaic.TcCoe Idealize.SL.Sem

namespace Cert.Pre_finite2

/-- The side conditions of the precondition's operations. -/
theorem facts : Facts where
  slices_S8x3072_S3x2048_0_0 := by decide
  bcast_S_S3x2048 := by decide
  bcast_S_S1024 := by decide
  bcast_S_S1024x14352 := by decide

end Cert.Pre_finite2

namespace Cert.Kernel2Ideal.Proj

open Cert.Proj Cert.Kernel2Ideal Cert.Kernel2Ideal.Gen

variable (m : (ℓ : Loc nD τ sig) → Buf (Elt Ideal) ℓ)

/-- Where the modulation and the weights are finite, the projection before its activations is a real number. -/
theorem dot_fin [hPre : Cert.Pre_finite2.Facts] (h : Cert.Pre_Kernel2Ideal_finite2 m) (c : Dev nD) (b : Fin 2) (t : Fin 8448)
    (f : Fin 14352) : ∃ r : ℝ, dotOf m c b t f = r := by
  obtain ⟨hm, hn, hw⟩ := h c
  have hn : ∀ d, ∃ r : ℝ, A2 m c d = r := fun d => Cert.KernelIdeal.Ret.real_of_abs _ (congrFun hn (ix1 d))
  have hw : ∀ d f, ∃ r : ℝ, A3 m c d f = r := fun d f => Cert.KernelIdeal.Ret.real_of_abs _ (congrFun hw (ix2 d f))
  have hm : ∀ (q : Fin 3) (f : Fin 2048), ∃ r : ℝ, A1 m c ⟨q, by omega⟩ ⟨f, by omega⟩ = r := fun q f =>
    Cert.KernelIdeal.Ret.real_of_abs _ (by
      have := congrFun hm (ix2 q f)
      revert this
      unfold A1
      pointwise [Cert.Pre_finite2.fn]
      exact id)
  have hq : ∀ (k : ℕ) (hk : k < 2048), ∃ r : ℝ, A1 m c (mrow b t) ⟨k, by omega⟩ = r := fun k hk => by
    unfold mrow
    split
    · exact hm 2 ⟨k, hk⟩
    · exact hm ⟨b, by omega⟩ ⟨k, hk⟩
  exact dot_real _ _ (hrow_real _ _ _ _ hn (fun d => hq (1024 + d) (by omega)) (fun d => hq d (by omega)))
    (fun d => hw d f)

variable (m' : (ℓ : Loc Cert.Reference2Ideal.nD Cert.Reference2Ideal.τ Cert.Reference2Ideal.sig) → Buf (Elt Ideal) ℓ)

/-- The reference's projection before its activations, of the same arguments. -/
theorem D_eq (c : Dev nD)
    (a0 : ∀ b t d, (m' ((c.tc : Thread Cert.Reference2Ideal.nD Cert.Reference2Ideal.τ).loc Cert.Reference2Ideal.main_arg0) :
      FVec Ideal Cert.Reference2Ideal.S2x8448x1024 .f32) (ix3 b t d) = A0 m c b t d)
    (a1 : ∀ q f, (m' ((c.tc : Thread Cert.Reference2Ideal.nD Cert.Reference2Ideal.τ).loc Cert.Reference2Ideal.main_arg1) :
      FVec Ideal Cert.Reference2Ideal.S8x3072 .f32) (ix2 q f) = A1 m c q f)
    (a2 : ∀ d, (m' ((c.tc : Thread Cert.Reference2Ideal.nD Cert.Reference2Ideal.τ).loc Cert.Reference2Ideal.main_arg2) :
      FVec Ideal Cert.Reference2Ideal.S1024 .f32) (ix1 d) = A2 m c d)
    (a3 : ∀ d f, (m' ((c.tc : Thread Cert.Reference2Ideal.nD Cert.Reference2Ideal.τ).loc Cert.Reference2Ideal.main_arg3) :
      FVec Ideal Cert.Reference2Ideal.S1024x14352 .f32) (ix2 d f) = A3 m c d f)
    (b : Fin 2) (t : Fin 8448) (f : Fin 14352) : Cert.Reference2Ideal.Proj.D m' c (ix3 b t f) = dotOf m c b t f := by
  unfold Cert.Reference2Ideal.Proj.D
  rw [Cert.Reference2Ideal.Proj.dot_at]
  refine Finset.sum_congr rfl fun d _ => ?_
  rw [Cert.Reference2Ideal.Proj.tokens_at]
  simp only [a0, a1, a2, a3]

/-- The reference's wide result is the kernel's. -/
theorem wide_eq [hPre : Cert.Pre_finite2.Facts] (h : Cert.Pre_Kernel2Ideal_finite2 m) (c : Dev nD)
    (hD : ∀ b t f, Cert.Reference2Ideal.Proj.D m' c (ix3 b t f) = dotOf m c b t f) :
    Cert.Reference2Ideal.Value.res_main_v108 m' c = res5 m c := by
  funext y
  obtain ⟨b, hb⟩ : ∃ b : Fin 2, y 0 = b := ⟨_, rfl⟩
  obtain ⟨t, ht⟩ : ∃ t : Fin 8448, y 1 = t := ⟨_, rfl⟩
  obtain ⟨e, he⟩ : ∃ e : Fin 14336, y 2 = e := ⟨_, rfl⟩
  have hy : y = ix3 b t e := by subst hb ht he; blk_ext
  subst hy
  refine (Cert.Reference2Ideal.Proj.main_at m' c b t e).trans ?_
  rw [hD]
  obtain ⟨r, hr⟩ := dot_fin m h c b t (pcol e)
  show actR ((e : ℕ) / 512) (dotOf m c b t (pcol e)) = act ((e : ℕ) / 512) (dotOf m c b t (pcol e))
  rw [hr]
  exact (act_eq _ r).symm

/-- The reference's narrow result is the kernel's. -/
theorem narrow_eq (c : Dev nD) (hD : ∀ b t f, Cert.Reference2Ideal.Proj.D m' c (ix3 b t f) = dotOf m c b t f) :
    Cert.Reference2Ideal.Value.res_main_v107 m' c = res6 m c := by
  funext y
  obtain ⟨b, hb⟩ : ∃ b : Fin 2, y 0 = b := ⟨_, rfl⟩
  obtain ⟨t, ht⟩ : ∃ t : Fin 8448, y 1 = t := ⟨_, rfl⟩
  obtain ⟨e, he⟩ : ∃ e : Fin 128, y 2 = e := ⟨_, rfl⟩
  have hy : y = ix3 b t e := by subst hb ht he; blk_ext
  subst hy
  refine (Cert.Reference2Ideal.Proj.small_at m' c b t e).trans ?_
  simp only [hD]
  rfl

end Cert.Kernel2Ideal.Proj

end
-- ==== Proof.MergeMath.lean ====
/- The arithmetic of the merge over the extended reals: rows normalized by heads, the gated branches, their merge and the
   residual step. -/
module

public import Idealize.ShloMosaic.Lib.Pointwise

@[expose] public section

noncomputable section

open Idealize.ShloMosaic

namespace Cert.Merge

/-- What a mean of squares is divided into a number by: the mean's root, kept from zero. -/
def scale {w : ℕ} (n : EReal) (x : Fin w → EReal) : EReal :=
  Ideal.rsqrt (Ideal.div (∑ k, x k * x k) n + Ideal.ofBits .f32 0x358637BD#32)

theorem at256_lt (j : Fin 1024) (k : Fin 256) : 256 * ((j : ℕ) / 256) + k < 1024 := by omega

theorem at128_lt (j : Fin 1024) (k : Fin 128) : 128 * ((j : ℕ) / 128) + k < 1024 := by omega

theorem in256_lt (j : Fin 1024) : (j : ℕ) % 256 < 256 := by omega

theorem in128_lt (j : Fin 1024) : (j : ℕ) % 128 < 128 := by omega

/-- A row normalized by heads of 256. -/
def norm256 (o : Fin 1024 → EReal) (n : Fin 256 → EReal) (j : Fin 1024) : EReal :=
  o j * scale (Ideal.ofBits .f32 0x43800000#32) (fun k : Fin 256 => o ⟨256 * ((j : ℕ) / 256) + k, at256_lt j k⟩)
    * n ⟨(j : ℕ) % 256, in256_lt j⟩

/-- A row normalized by heads of 128. -/
def norm128 (o : Fin 1024 → EReal) (n : Fin 128 → EReal) (j : Fin 1024) : EReal :=
  o j * scale (Ideal.ofBits .f32 0x43000000#32) (fun k : Fin 128 => o ⟨128 * ((j : ℕ) / 128) + k, at128_lt j k⟩)
    * n ⟨(j : ℕ) % 128, in128_lt j⟩

/-- A row normalized whole. -/
def norm1024 (x n : Fin 1024 → EReal) (e : Fin 1024) : EReal :=
  x e * scale (Ideal.ofBits .f32 0x44800000#32) x * n e

/-- The part of a head of 256 that an entry is in, at any place written. -/
theorem norm256_at (o : Fin 1024 → EReal) (n : Fin 256 → EReal) (j : Fin 1024) (q : Fin 1024) (hq : (q : ℕ) = j)
    (f : Fin 256 → Fin 1024) (hf : ∀ k, (f k : ℕ) = 256 * ((j : ℕ) / 256) + k) (i : Fin 256) (hi : (i : ℕ) = (j : ℕ) % 256) :
    o q * Ideal.rsqrt (Ideal.div (∑ k, o (f k) * o (f k)) (Ideal.ofBits .f32 0x43800000#32) + Ideal.ofBits .f32 0x358637BD#32)
      * n i = norm256 o n j := by
  obtain rfl : q = j := Fin.ext hq
  obtain rfl : f = fun k => ⟨256 * ((q : ℕ) / 256) + k, at256_lt q k⟩ := funext fun k => Fin.ext (hf k)
  obtain rfl : i = ⟨(q : ℕ) % 256, in256_lt q⟩ := Fin.ext hi
  rfl

/-- The same for heads of 128. -/
theorem norm128_at (o : Fin 1024 → EReal) (n : Fin 128 → EReal) (j : Fin 1024) (q : Fin 1024) (hq : (q : ℕ) = j)
    (f : Fin 128 → Fin 1024) (hf : ∀ k, (f k : ℕ) = 128 * ((j : ℕ) / 128) + k) (i : Fin 128) (hi : (i : ℕ) = (j : ℕ) % 128) :
    o q * Ideal.rsqrt (Ideal.div (∑ k, o (f k) * o (f k)) (Ideal.ofBits .f32 0x43000000#32) + Ideal.ofBits .f32 0x358637BD#32)
      * n i = norm128 o n j := by
  obtain rfl : q = j := Fin.ext hq
  obtain rfl : f = fun k => ⟨128 * ((q : ℕ) / 128) + k, at128_lt q k⟩ := funext fun k => Fin.ext (hf k)
  obtain rfl : i = ⟨(q : ℕ) % 128, in128_lt q⟩ := Fin.ext hi
  rfl

/-- What a merge is of: the six scans' results, the projection, the tokens, the modulation, the norms' weights, the branches'
    and the projection's out. -/
structure Args where
  s0 : Fin 2 → Fin 8448 → Fin 1024 → EReal
  s1 : Fin 2 → Fin 8448 → Fin 1024 → EReal
  s2 : Fin 2 → Fin 8448 → Fin 1024 → EReal
  s3 : Fin 2 → Fin 8448 → Fin 1024 → EReal
  s4 : Fin 2 → Fin 8448 → Fin 1024 → EReal
  s5 : Fin 2 → Fin 8448 → Fin 1024 → EReal
  p : Fin 2 → Fin 8448 → Fin 14336 → EReal
  x : Fin 2 → Fin 8448 → Fin 1024 → EReal
  mo : Fin 8 → Fin 3072 → EReal
  n0 : Fin 256 → EReal
  n1 : Fin 256 → EReal
  n2 : Fin 128 → EReal
  wb : Fin 3 → Fin 1024 → Fin 1024 → EReal
  wo : Fin 1024 → Fin 1024 → EReal
  nf : Fin 1024 → EReal

/-- A column of the projection, from a place on. -/
def pcol (o : ℕ) (ho : o + 1024 ≤ 14336) (j : Fin 1024) : Fin 14336 := ⟨o + j, by omega⟩

/-- The row of the modulation that a token takes: the third for the context, else its own sequence's. -/
def mrow (b : Fin 2) (t : Fin 8448) : Fin 8 := if (t : ℕ) < 256 then 2 else ⟨b, by omega⟩

/-- A column of the modulation's gates. -/
def gcol (e : Fin 1024) : Fin 3072 := ⟨2048 + e, by omega⟩

/-- The first branch's row of a token: the two directions' sum, normalized by heads and gated. -/
def Args.b0 (a : Args) (b : Fin 2) (t : Fin 8448) (j : Fin 1024) : EReal :=
  norm256 (fun i => a.s0 b t i + a.s1 b t i) a.n0 j * a.p b t (pcol 2048 (by decide) j)

/-- The second branch's. -/
def Args.b1 (a : Args) (b : Fin 2) (t : Fin 8448) (j : Fin 1024) : EReal :=
  norm256 (fun i => a.s2 b t i + a.s3 b t i) a.n1 j * a.p b t (pcol 5120 (by decide) j)

/-- The third branch's. -/
def Args.b2 (a : Args) (b : Fin 2) (t : Fin 8448) (j : Fin 1024) : EReal :=
  norm128 (fun i => a.s4 b t i + a.s5 b t i) a.n2 j * a.p b t (pcol 10240 (by decide) j)

/-- The merged row of a token: each branch through its weights and times its merge gate. -/
def Args.merged (a : Args) (b : Fin 2) (t : Fin 8448) (d : Fin 1024) : EReal :=
  (∑ j, a.b0 b t j * a.wb 0 j d) * a.p b t (pcol 11264 (by decide) d)
    + (∑ j, a.b1 b t j * a.wb 1 j d) * a.p b t (pcol 12288 (by decide) d)
    + (∑ j, a.b2 b t j * a.wb 2 j d) * a.p b t (pcol 13312 (by decide) d)

/-- A token after the residual step. -/
def Args.stepped (a : Args) (b : Fin 2) (t : Fin 8448) (e : Fin 1024) : EReal :=
  a.x b t e + a.mo (mrow b t) (gcol e) * ∑ d, a.merged b t d * a.wo d e

/-- A latent after the residual step and the final norm. -/
def Args.normed (a : Args) (b : Fin 2) (t : Fin 8448) (e : Fin 1024) : EReal :=
  norm1024 (a.stepped b t) a.nf e

/-- A latent's token. -/
def lat (t : Fin 8192) : Fin 8448 := ⟨256 + t, by omega⟩

/-- A latent takes its own sequence's row of the modulation. -/
theorem mrow_lat (b : Fin 2) (t : Fin 8192) : mrow b (lat t) = ⟨b, by omega⟩ := by
  unfold mrow lat
  exact if_neg (by dsimp only; omega)

/-- A choice whose branches are one value is that value. -/
theorem dite_one {α : Type} {q : Prop} [Decidable q] {f : q → α} {g : ¬ q → α} {r : α} (hf : ∀ h, f h = r) (hg : ∀ h, g h = r) :
    dite q f g = r := by
  by_cases h : q
  · rw [dif_pos h]; exact hf h
  · rw [dif_neg h]; exact hg h

end Cert.Merge

end
-- ==== Proof.Mrg3Val.lean ====
/- What the merge's body leaves at each point of its grid, over the extended reals. -/
module

public import proofs.«01_k».proof.Proof.Gen.Kernel3Ideal.Value
public import proofs.«01_k».proof.Proof.MergeMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Mrg

open Cert.Merge Cert.Kernel3Ideal Cert.Kernel3Ideal.Gen

/-- A head of 256's part, of a branch's row. -/
theorem part256 (a b : FVec Ideal S1x256x1024 .bf16) (n : FVec Ideal S1x256 .f32) (r : Fin 256) (j q : Fin 1024) (hq : (q : ℕ) = j)
    (f : Fin 256 → Fin 1024) (hf : ∀ k, (f k : ℕ) = 256 * ((j : ℕ) / 256) + k) (i : Fin 256) (hi : (i : ℕ) = (j : ℕ) % 256) :
    (a (ix3 0 r q) + b (ix3 0 r q))
        * Ideal.rsqrt (Ideal.div (∑ k, (a (ix3 0 r (f k)) + b (ix3 0 r (f k))) * (a (ix3 0 r (f k)) + b (ix3 0 r (f k))))
          (Ideal.ofBits .f32 0x43800000#32) + Ideal.ofBits .f32 0x358637BD#32) * n (ix2 0 i)
      = norm256 (fun i => a (ix3 0 r i) + b (ix3 0 r i)) (fun d => n (ix2 0 d)) j :=
  norm256_at (fun i => a (ix3 0 r i) + b (ix3 0 r i)) (fun d => n (ix2 0 d)) j q hq f hf i hi

/-- A head of 128's part, of a branch's row. -/
theorem part128 (a b : FVec Ideal S1x256x1024 .bf16) (n : FVec Ideal S1x128 .f32) (r : Fin 256) (j q : Fin 1024) (hq : (q : ℕ) = j)
    (f : Fin 128 → Fin 1024) (hf : ∀ k, (f k : ℕ) = 128 * ((j : ℕ) / 128) + k) (i : Fin 128) (hi : (i : ℕ) = (j : ℕ) % 128) :
    (a (ix3 0 r q) + b (ix3 0 r q))
        * Ideal.rsqrt (Ideal.div (∑ k, (a (ix3 0 r (f k)) + b (ix3 0 r (f k))) * (a (ix3 0 r (f k)) + b (ix3 0 r (f k))))
          (Ideal.ofBits .f32 0x43000000#32) + Ideal.ofBits .f32 0x358637BD#32) * n (ix2 0 i)
      = norm128 (fun i => a (ix3 0 r i) + b (ix3 0 r i)) (fun d => n (ix2 0 d)) j :=
  norm128_at (fun i => a (ix3 0 r i) + b (ix3 0 r i)) (fun d => n (ix2 0 d)) j q hq f hf i hi

/-- The first branch's row. -/
theorem branch0 (a b g : FVec Ideal S1x256x1024 .bf16) (n : FVec Ideal S1x256 .f32) (r : Fin 256) (j : Fin 1024) :
    k0_pay7 (F := Ideal) (k0_pay1 a b) (k0_pay2 g) (k0_pay3 n) (k0_pay4 a b n) (k0_pay5 a b n) (k0_pay6 a b) (ix2 r j)
      = norm256 (fun i => a (ix3 0 r i) + b (ix3 0 r i)) (fun d => n (ix2 0 d)) j * g (ix3 0 r j) := by
  pointwise [k0_pay7, k0_pay1, k0_pay2, k0_pay3, k0_pay4, k0_pay5, k0_pay6]
  refine congrArg (· * g (ix3 0 r j)) ?_
  refine dite_one (fun h1 => ?_) (fun n1 => dite_one (fun h2 => ?_) (fun n2 => dite_one (fun h3 => ?_) (fun n3 => ?_)))
  all_goals
    refine part256 a b n r j _ ?_ _ (fun k => ?_) _ ?_ <;> dsimp only <;> omega

/-- The second branch's row. -/
theorem branch1 (a b g : FVec Ideal S1x256x1024 .bf16) (n : FVec Ideal S1x256 .f32) (r : Fin 256) (j : Fin 1024) :
    k0_pay18 (F := Ideal) (k0_pay9 g) (k0_pay13 (k0_pay10 n) (k0_pay11 a b) (k0_pay12 a b)) (k0_pay14 (k0_pay8 a b) (k0_pay10 n))
        (k0_pay15 (k0_pay8 a b) (k0_pay10 n)) (k0_pay16 (k0_pay8 a b)) (k0_pay17 (k0_pay10 n)) (ix2 r j)
      = norm256 (fun i => a (ix3 0 r i) + b (ix3 0 r i)) (fun d => n (ix2 0 d)) j * g (ix3 0 r j) := by
  pointwise [k0_pay8, k0_pay9, k0_pay10, k0_pay11, k0_pay12, k0_pay13, k0_pay14, k0_pay15, k0_pay16, k0_pay17, k0_pay18]
  refine congrArg (· * g (ix3 0 r j)) ?_
  refine dite_one (fun h1 => ?_) (fun n1 => dite_one (fun h2 => ?_) (fun n2 => dite_one (fun h3 => ?_) (fun n3 => ?_)))
  all_goals
    refine part256 a b n r j _ ?_ _ (fun k => ?_) _ ?_ <;> dsimp only <;> omega

set_option maxHeartbeats 2000000 in
/-- The third branch's row. -/
theorem branch2 (a b g : FVec Ideal S1x256x1024 .bf16) (n : FVec Ideal S1x128 .f32) (r : Fin 256) (j : Fin 1024) :
    k0_pay30 (F := Ideal) (k0_pay19 a b) (k0_pay20 g) (k0_pay21 n) (k0_pay22 a b n) (k0_pay23 a b n)
        (k0_pay25 (k0_pay21 n) (k0_pay24 a b)) (k0_pay26 (k0_pay19 a b) (k0_pay21 n)) (k0_pay27 (k0_pay19 a b) (k0_pay21 n))
        (k0_pay28 (k0_pay19 a b)) (k0_pay29 (k0_pay19 a b)) (ix2 r j)
      = norm128 (fun i => a (ix3 0 r i) + b (ix3 0 r i)) (fun d => n (ix2 0 d)) j * g (ix3 0 r j) := by
  pointwise [k0_pay19, k0_pay20, k0_pay21, k0_pay22, k0_pay23, k0_pay24, k0_pay25, k0_pay26, k0_pay27, k0_pay28, k0_pay29, k0_pay30]
  refine congrArg (· * g (ix3 0 r j)) ?_
  refine dite_one (fun h1 => ?_) (fun n1 => dite_one (fun h2 => ?_) (fun n2 => dite_one (fun h3 => ?_) (fun n3 =>
    dite_one (fun h4 => ?_) (fun n4 => dite_one (fun h5 => ?_) (fun n5 => dite_one (fun h6 => ?_) (fun n6 =>
    dite_one (fun h7 => ?_) (fun n7 => ?_)))))))
  all_goals
    refine part128 a b n r j _ ?_ _ (fun k => ?_) _ ?_ <;> dsimp only <;> omega

/-- A branch through its weights and times its gate. -/
theorem mix0 (a : FVec Ideal S256x1024 .bf16) (w : FVec Ideal S1x1024x1024 .bf16) (g : FVec Ideal S1x256x1024 .bf16) (r : Fin 256)
    (d : Fin 1024) :
    k0_pay31 (F := Ideal) a w g (ix2 r d) = (∑ j : Fin 1024, a (ix2 r j) * w (ix3 0 j d)) * g (ix3 0 r d) := by
  pointwise [k0_pay31]

/-- A branch through its weights. -/
theorem mix1 (a : FVec Ideal S256x1024 .bf16) (w : FVec Ideal S1x1024x1024 .bf16) (r : Fin 256) (d : Fin 1024) :
    k0_pay32 (F := Ideal) a w (ix2 r d) = ∑ j : Fin 1024, a (ix2 r j) * w (ix3 0 j d) := by
  pointwise [k0_pay32]

/-- Which block of tokens is the context's, as the kernel's words tell it. -/
theorem ctx_word : ∀ i : Fin 33,
    Scalar.cmpi .slt (Scalar.muli (Scalar.addi (BitVec.ofNat 32 i) 0#32) 256#32) 256#32 = if (i : ℕ) < 1 then 1#1 else 0#1 := by
  decide +kernel

/-- The merge, projected out, gated and added to the tokens. -/
theorem step_at (i : Fin 33) (b : FVec Ideal S256x1024 .bf16) (u v : FVec Ideal S256x1024 .f32) (p q : FVec Ideal S1x256x1024 .bf16)
    (w : FVec Ideal S1x1024x1024 .bf16) (wo : FVec Ideal S1024x1024 .bf16) (x y : FVec Ideal S1x1024 .f32)
    (z : FVec Ideal S1x256x1024 .f32) (r : Fin 256) (e : Fin 1024) :
    k0_pay33 (F := Ideal) (Scalar.addi (BitVec.ofNat 32 i) 0#32) b u v p w q wo x y z (ix3 0 r e)
      = z (ix3 0 r e) + (if (i : ℕ) < 1 then x (ix2 0 e) else y (ix2 0 e))
          * ∑ d : Fin 1024, (u (ix2 r d) + v (ix2 r d) * p (ix3 0 r d)
            + (∑ j : Fin 1024, b (ix2 r j) * w (ix3 0 j d)) * q (ix3 0 r d)) * wo (ix2 d e) := by
  pointwise [k0_pay33]
  rw [ctx_word]
  split <;> rfl

/-- A block of the branches' weights. -/
theorem ld_wb0 (w : FVec Ideal S3x1024x1024 .bf16) (j d : Fin 1024)
    (inb : ∀ a, (![0, 0, 0] : Fin 3 → ℕ) a + (![1, 1024, 1024] : Fin 3 → ℕ) a ≤ S3x1024x1024.size a) :
    View.ld (Val := Elt Ideal) (e' := .bf16) w (Rect.unit (s := S3x1024x1024) ![0, 0, 0] ![1, 1024, 1024] inb) (ix3 0 j d) = w (ix3 0 j d) := by
  refine congrArg w ?_
  blk_ext
  · show 0 + 1 * 0 = (0 : ℕ); omega
  · show 0 + 1 * (j : ℕ) = j; omega
  · show 0 + 1 * (d : ℕ) = d; omega

theorem ld_wb1 (w : FVec Ideal S3x1024x1024 .bf16) (j d : Fin 1024)
    (inb : ∀ a, (![1, 0, 0] : Fin 3 → ℕ) a + (![1, 1024, 1024] : Fin 3 → ℕ) a ≤ S3x1024x1024.size a) :
    View.ld (Val := Elt Ideal) (e' := .bf16) w (Rect.unit (s := S3x1024x1024) ![1, 0, 0] ![1, 1024, 1024] inb) (ix3 0 j d) = w (ix3 1 j d) := by
  refine congrArg w ?_
  blk_ext
  · show 1 + 1 * 0 = (1 : ℕ); omega
  · show 0 + 1 * (j : ℕ) = j; omega
  · show 0 + 1 * (d : ℕ) = d; omega

theorem ld_wb2 (w : FVec Ideal S3x1024x1024 .bf16) (j d : Fin 1024)
    (inb : ∀ a, (![2, 0, 0] : Fin 3 → ℕ) a + (![1, 1024, 1024] : Fin 3 → ℕ) a ≤ S3x1024x1024.size a) :
    View.ld (Val := Elt Ideal) (e' := .bf16) w (Rect.unit (s := S3x1024x1024) ![2, 0, 0] ![1, 1024, 1024] inb) (ix3 0 j d) = w (ix3 2 j d) := by
  refine congrArg w ?_
  blk_ext
  · show 2 + 1 * 0 = (2 : ℕ); omega
  · show 0 + 1 * (j : ℕ) = j; omega
  · show 0 + 1 * (d : ℕ) = d; omega

/-- A row of the modulation, read from a column on. -/
theorem ld_mod (w : FVec Ideal S8x3072 .f32) (o : Fin 2 → ℕ) (q : Fin 8) (k : ℕ) (hk : k + 1024 ≤ 3072)
    (inb : ∀ a, o a + S1x1024.size a ≤ S8x3072.size a) (h0 : o 0 = q) (h1 : o 1 = k) (d : Fin 1024) :
    w ((Rect.unit (s := S8x3072) o S1x1024.size inb).idx (ix2 0 d)) = w (ix2 q ⟨k + d, by omega⟩) := by
  refine congrArg w ?_
  blk_ext
  · show o 0 + 1 * 0 = q; omega
  · show o 1 + 1 * (d : ℕ) = k + d; omega

end Cert.Kernel3Ideal.Mrg

end
-- ==== Proof.Mrg3Out.lean ====
/- The merge's result after the run, as an array of the arguments, over the extended reals. -/
module

public import proofs.«01_k».proof.Proof.Mrg3Val
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel3Ideal.Mrg

open Cert.Merge Cert.Kernel3Ideal Cert.Kernel3Ideal.Gen

variable (m : (ℓ : Loc nD τ sig) → Buf (Elt Ideal) ℓ) (ρ : Dev nD → PrngReg)

/-- What a launch finds in its arguments. -/
def args (c : Dev nD) : Args where
  s0 b t j := (m ((c : Thread nD τ).loc main_arg0) : FVec Ideal S2x8448x1024 .bf16) (ix3 b t j)
  s1 b t j := (m ((c : Thread nD τ).loc main_arg1) : FVec Ideal S2x8448x1024 .bf16) (ix3 b t j)
  s2 b t j := (m ((c : Thread nD τ).loc main_arg2) : FVec Ideal S2x8448x1024 .bf16) (ix3 b t j)
  s3 b t j := (m ((c : Thread nD τ).loc main_arg3) : FVec Ideal S2x8448x1024 .bf16) (ix3 b t j)
  s4 b t j := (m ((c : Thread nD τ).loc main_arg4) : FVec Ideal S2x8448x1024 .bf16) (ix3 b t j)
  s5 b t j := (m ((c : Thread nD τ).loc main_arg5) : FVec Ideal S2x8448x1024 .bf16) (ix3 b t j)
  p b t j := (m ((c : Thread nD τ).loc main_arg6) : FVec Ideal S2x8448x14336 .bf16) (ix3 b t j)
  x b t e := (m ((c : Thread nD τ).loc main_arg7) : FVec Ideal S2x8448x1024 .f32) (ix3 b t e)
  mo q f := (m ((c : Thread nD τ).loc main_arg8) : FVec Ideal S8x3072 .f32) (ix2 q f)
  n0 d := (m ((c : Thread nD τ).loc main_arg9) : FVec Ideal S256 .f32) (ix1 d)
  n1 d := (m ((c : Thread nD τ).loc main_arg10) : FVec Ideal S256 .f32) (ix1 d)
  n2 d := (m ((c : Thread nD τ).loc main_arg11) : FVec Ideal S128 .f32) (ix1 d)
  wb q j d := (m ((c : Thread nD τ).loc main_arg12) : FVec Ideal S3x1024x1024 .f32) (ix3 q j d)
  wo d e := (m ((c : Thread nD τ).loc main_arg13) : FVec Ideal S1024x1024 .f32) (ix2 d e)
  nf d := (m ((c : Thread nD τ).loc main_arg14) : FVec Ideal S1024 .f32) (ix1 d)

/-- Where the windows stand at each grid point. -/
theorem idx : ∀ t : Fin cfg0.N,
    win0_0.index t = ![t.val / 33, t.val % 33, 0]
    ∧ win0_1.index t = ![t.val / 33, t.val % 33, 0]
    ∧ win0_2.index t = ![t.val / 33, t.val % 33, 0]
    ∧ win0_3.index t = ![t.val / 33, t.val % 33, 0]
    ∧ win0_4.index t = ![t.val / 33, t.val % 33, 0]
    ∧ win0_5.index t = ![t.val / 33, t.val % 33, 0]
    ∧ win0_6.index t = ![t.val / 33, t.val % 33, 2]
    ∧ win0_7.index t = ![t.val / 33, t.val % 33, 5]
    ∧ win0_8.index t = ![t.val / 33, t.val % 33, 10]
    ∧ win0_9.index t = ![t.val / 33, t.val % 33, 11]
    ∧ win0_10.index t = ![t.val / 33, t.val % 33, 12]
    ∧ win0_11.index t = ![t.val / 33, t.val % 33, 13]
    ∧ win0_12.index t = ![t.val / 33, t.val % 33, 0]
    ∧ win0_13.index t = ![0, 0]
    ∧ win0_14.index t = ![0, 0]
    ∧ win0_15.index t = ![0, 0]
    ∧ win0_16.index t = ![0, 0]
    ∧ win0_17.index t = ![0, 0, 0]
    ∧ win0_18.index t = ![0, 0]
    ∧ win0_19.index t = ![0, 0]
    ∧ win0_20.index t = ![t.val / 33, t.val % 33, 0] :=
  (by decide +kernel : ∀ t : Fin grid0.N, _)

/-- The coordinates of a grid point. -/
theorem coord : ∀ t : Fin cfg0.N, (grid0.coords t 0).val = t.val / 33 ∧ (grid0.coords t 1).val = t.val % 33 ∧ t.val / 33 < 2 :=
  (by decide +kernel : ∀ t : Fin grid0.N, _)

/-- The sequence of a grid point. -/
def bOf (t : Fin cfg0.N) : Fin 2 := ⟨t.val / 33, (coord t).2.2⟩

theorem tok_lt (t : Fin cfg0.N) (r : Fin 256) : 256 * (t.val % 33) + r < 8448 := by omega

/-- The token of a row of a grid point's block. -/
def tokOf (t : Fin cfg0.N) (r : Fin 256) : Fin 8448 := ⟨256 * (t.val % 33) + r, tok_lt t r⟩

/-! ## What the windows read -/

theorem r0 (c : Dev nD) (t : Fin cfg0.N) (r : Fin 256) (j : Fin 1024) :
    (iblk m c 0 t : FVec Ideal S1x256x1024 .bf16) (ix3 0 r j) = (args m c).s0 (bOf t) (tokOf t r) j := by
  unfold args bOf tokOf
  blk_ext [iblk, V, idx t]

theorem r1 (c : Dev nD) (t : Fin cfg0.N) (r : Fin 256) (j : Fin 1024) :
    (iblk m c 1 t : FVec Ideal S1x256x1024 .bf16) (ix3 0 r j) = (args m c).s1 (bOf t) (tokOf t r) j := by
  unfold args bOf tokOf
  blk_ext [iblk, V, idx t]

theorem r2 (c : Dev nD) (t : Fin cfg0.N) (r : Fin 256) (j : Fin 1024) :
    (iblk m c 2 t : FVec Ideal S1x256x1024 .bf16) (ix3 0 r j) = (args m c).s2 (bOf t) (tokOf t r) j := by
  unfold args bOf tokOf
  blk_ext [iblk, V, idx t]

theorem r3 (c : Dev nD) (t : Fin cfg0.N) (r : Fin 256) (j : Fin 1024) :
    (iblk m c 3 t : FVec Ideal S1x256x1024 .bf16) (ix3 0 r j) = (args m c).s3 (bOf t) (tokOf t r) j := by
  unfold args bOf tokOf
  blk_ext [iblk, V, idx t]

theorem r4 (c : Dev nD) (t : Fin cfg0.N) (r : Fin 256) (j : Fin 1024) :
    (iblk m c 4 t : FVec Ideal S1x256x1024 .bf16) (ix3 0 r j) = (args m c).s4 (bOf t) (tokOf t r) j := by
  unfold args bOf tokOf
  blk_ext [iblk, V, idx t]

theorem r5 (c : Dev nD) (t : Fin cfg0.N) (r : Fin 256) (j : Fin 1024) :
    (iblk m c 5 t : FVec Ideal S1x256x1024 .bf16) (ix3 0 r j) = (args m c).s5 (bOf t) (tokOf t r) j := by
  unfold args bOf tokOf
  blk_ext [iblk, V, idx t]

theorem r6 (c : Dev nD) (t : Fin cfg0.N) (r : Fin 256) (j : Fin 1024) :
    (iblk m c 6 t : FVec Ideal S1x256x1024 .bf16) (ix3 0 r j) = (args m c).p (bOf t) (tokOf t r) (pcol 2048 (by decide) j) := by
  unfold args bOf tokOf pcol
  blk_ext [iblk, V, idx t]

theorem r7 (c : Dev nD) (t : Fin cfg0.N) (r : Fin 256) (j : Fin 1024) :
    (iblk m c 7 t : FVec Ideal S1x256x1024 .bf16) (ix3 0 r j) = (args m c).p (bOf t) (tokOf t r) (pcol 5120 (by decide) j) := by
  unfold args bOf tokOf pcol
  blk_ext [iblk, V, idx t]

theorem r8 (c : Dev nD) (t : Fin cfg0.N) (r : Fin 256) (j : Fin 1024) :
    (iblk m c 8 t : FVec Ideal S1x256x1024 .bf16) (ix3 0 r j) = (args m c).p (bOf t) (tokOf t r) (pcol 10240 (by decide) j) := by
  unfold args bOf tokOf pcol
  blk_ext [iblk, V, idx t]

theorem r9 (c : Dev nD) (t : Fin cfg0.N) (r : Fin 256) (j : Fin 1024) :
    (iblk m c 9 t : FVec Ideal S1x256x1024 .bf16) (ix3 0 r j) = (args m c).p (bOf t) (tokOf t r) (pcol 11264 (by decide) j) := by
  unfold args bOf tokOf pcol
  blk_ext [iblk, V, idx t]

theorem r10 (c : Dev nD) (t : Fin cfg0.N) (r : Fin 256) (j : Fin 1024) :
    (iblk m c 10 t : FVec Ideal S1x256x1024 .bf16) (ix3 0 r j) = (args m c).p (bOf t) (tokOf t r) (pcol 12288 (by decide) j) := by
  unfold args bOf tokOf pcol
  blk_ext [iblk, V, idx t]

theorem r11 (c : Dev nD) (t : Fin cfg0.N) (r : Fin 256) (j : Fin 1024) :
    (iblk m c 11 t : FVec Ideal S1x256x1024 .bf16) (ix3 0 r j) = (args m c).p (bOf t) (tokOf t r) (pcol 13312 (by decide) j) := by
  unfold args bOf tokOf pcol
  blk_ext [iblk, V, idx t]

theorem r12 (c : Dev nD) (t : Fin cfg0.N) (r : Fin 256) (e : Fin 1024) :
    (iblk m c 12 t : FVec Ideal S1x256x1024 .f32) (ix3 0 r e) = (args m c).x (bOf t) (tokOf t r) e := by
  unfold args bOf tokOf
  blk_ext [iblk, V, idx t]

theorem r13 (c : Dev nD) (t : Fin cfg0.N) (q : Fin 8) (f : Fin 3072) :
    (iblk m c 13 t : FVec Ideal S8x3072 .f32) (ix2 q f) = (args m c).mo q f := by
  unfold args
  blk_ext [iblk, V, idx t]

theorem r14 (c : Dev nD) (t : Fin cfg0.N) (d : Fin 256) :
    (iblk m c 14 t : FVec Ideal S1x256 .f32) (ix2 0 d) = (args m c).n0 d := by
  have hV : (V m c main_v0 : FVec Ideal S1x256 .f32) (ix2 0 d) = (args m c).n0 d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v0 = w
  blk_ext [idx t]

theorem r15 (c : Dev nD) (t : Fin cfg0.N) (d : Fin 256) :
    (iblk m c 15 t : FVec Ideal S1x256 .f32) (ix2 0 d) = (args m c).n1 d := by
  have hV : (V m c main_v1 : FVec Ideal S1x256 .f32) (ix2 0 d) = (args m c).n1 d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v1 = w
  blk_ext [idx t]

theorem r16 (c : Dev nD) (t : Fin cfg0.N) (d : Fin 128) :
    (iblk m c 16 t : FVec Ideal S1x128 .f32) (ix2 0 d) = (args m c).n2 d := by
  have hV : (V m c main_v2 : FVec Ideal S1x128 .f32) (ix2 0 d) = (args m c).n2 d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v2 = w
  blk_ext [idx t]

theorem r17 (c : Dev nD) (t : Fin cfg0.N) (q : Fin 3) (j d : Fin 1024) :
    (iblk m c 17 t : FVec Ideal S3x1024x1024 .bf16) (ix3 q j d) = (args m c).wb q j d := by
  have hV : (V m c main_v3 : FVec Ideal S3x1024x1024 .bf16) (ix3 q j d) = (args m c).wb q j d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v3 = w
  blk_ext [idx t]

theorem r18 (c : Dev nD) (t : Fin cfg0.N) (d e : Fin 1024) :
    (iblk m c 18 t : FVec Ideal S1024x1024 .bf16) (ix2 d e) = (args m c).wo d e := by
  have hV : (V m c main_v4 : FVec Ideal S1024x1024 .bf16) (ix2 d e) = (args m c).wo d e := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v4 = w
  blk_ext [idx t]

/-- The gates a token's block takes. -/
theorem gate_at (c : Dev nD) (t : Fin cfg0.N) (r : Fin 256) (e : Fin 1024)
    (i₁ : ∀ a, (![2, 2048] : Fin 2 → ℕ) a + S1x1024.size a ≤ S8x3072.size a)
    (i₂ : ∀ a, k0_off1 (grid0.coords t) a + S1x1024.size a ≤ S8x3072.size a) :
    (if ((grid0.coords t 1 : Fin 33) : ℕ) < 1
      then (iblk m c 13 t : FVec Ideal S8x3072 .f32) ((Rect.unit (s := S8x3072) ![2, 2048] S1x1024.size i₁).idx (ix2 0 e))
      else (iblk m c 13 t : FVec Ideal S8x3072 .f32) ((Rect.unit (s := S8x3072) (k0_off1 (grid0.coords t)) S1x1024.size i₂).idx (ix2 0 e)))
      = (args m c).mo (mrow (bOf t) (tokOf t r)) (gcol e) := by
  have hi : (grid0.coords t 1).val = t.val % 33 := (coord t).2.1
  have hb : (grid0.coords t 0).val = t.val / 33 := (coord t).1
  have hlt : t.val / 33 < 2 := (coord t).2.2
  have o1 : k0_off1 (grid0.coords t) 0 = t.val / 33 := by
    show (BitVec.ofNat 32 (grid0.coords t 0).val).toNat = _
    rw [hb, BitVec.toNat_ofNat]; omega
  rw [← r13 m c t]
  generalize (iblk m c 13 t : FVec Ideal S8x3072 .f32) = w
  unfold mrow tokOf bOf gcol
  dsimp only
  by_cases hc : t.val % 33 < 1
  · rw [if_pos (by omega), if_pos (by omega)]
    exact ld_mod w _ 2 2048 (by omega) _ rfl rfl e
  · rw [if_neg (by omega), if_neg (by omega)]
    exact ld_mod w _ ⟨t.val / 33, by omega⟩ 2048 (by omega) _ o1 rfl e

set_option maxHeartbeats 2000000 in
/-- A block's entry after the body. -/
theorem out_at (c : Dev nD) (t : Fin cfg0.N) (r : Fin 256) (e : Fin 1024) :
    (outsAt0 m c t : FVec Ideal S1x256x1024 .f32) (ix3 0 r e) = (args m c).stepped (bOf t) (tokOf t r) e := by
  unfold outsAt0 out0_A_20
  frame_out
  erw [step_at (grid0.coords t 1)]
  unfold Args.stepped Args.merged Args.b0 Args.b1 Args.b2
  refine congrArg₂ (· + ·) (r12 m c t r e) (congrArg₂ (· * ·) (gate_at m c t r e _ _) ?_)
  refine Finset.sum_congr rfl fun d _ => congrArg₂ (· * ·) ?_ (r18 m c t d e)
  refine congrArg₂ (· + ·) (congrArg₂ (· + ·) ?_ ?_) ?_
  · refine (mix0 _ _ _ r d).trans (congrArg₂ (· * ·) (Finset.sum_congr rfl fun j _ => ?_) (r9 m c t r d))
    refine congrArg₂ (· * ·) ((branch0 _ _ _ _ r j).trans ?_) ((ld_wb0 _ j d _).trans (r17 m c t 0 j d))
    simp only [r0, r1, r6, r14]
  · refine congrArg₂ (· * ·) ((mix1 _ _ r d).trans (Finset.sum_congr rfl fun j _ => ?_)) (r10 m c t r d)
    refine congrArg₂ (· * ·) ((branch1 _ _ _ _ r j).trans ?_) ((ld_wb1 _ j d _).trans (r17 m c t 1 j d))
    simp only [r2, r3, r7, r15]
  · refine congrArg₂ (· * ·) (Finset.sum_congr rfl fun j _ => ?_) (r11 m c t r d)
    refine congrArg₂ (· * ·) ((branch2 _ _ _ _ r j).trans ?_) ((ld_wb2 _ j d _).trans (r17 m c t 2 j d))
    simp only [r4, r5, r8, r16]

/-- The result. -/
def res (c : Dev nD) : FVec Ideal S2x8448x1024 .f32 := fun y => (args m c).stepped (y 0) (y 1) (y 2)

/-- A grid point's entry, where the result keeps it. -/
theorem res_at (c : Dev nD) (t : Fin cfg0.N) (r : Fin 256) (e : Fin 1024) (y : S2x8448x1024.Idx)
    (h0 : (y 0 : ℕ) = t.val / 33) (h1 : (y 1 : ℕ) = 256 * (t.val % 33) + r) (h2 : (y 2 : ℕ) = e) :
    (args m c).stepped (bOf t) (tokOf t r) e = res m c y := by
  unfold res
  have e0 : bOf t = y 0 := Fin.ext h0.symm
  have e1 : tokOf t r = y 1 := Fin.ext h1.symm
  have e2 : e = y 2 := Fin.ext h2.symm
  rw [e0, e1, e2]

/-- The result after the run. -/
theorem final (c : Dev nD) : (dats m 0 c).arrAt 20 cfg0.N = res m c := by
  refine (dats m 0 c).arrAt_eq_of_covers 20 _ (by decide +kernel) fun t hf y => ?_
  blk_simp
  rw [after0_20]
  have hy2 : (y 2 : ℕ) < 1024 := (y 2).isLt
  have hy1 : (y 1 : ℕ) < 256 := (y 1).isLt
  obtain ⟨r, hr⟩ : ∃ r : Fin 256, (y 1 : ℕ) = r := ⟨⟨y 1, hy1⟩, rfl⟩
  obtain ⟨e, he⟩ : ∃ e : Fin 1024, (y 2 : ℕ) = e := ⟨⟨y 2, hy2⟩, rfl⟩
  have hy : y = ix3 0 r e := by blk_ext
  subst hy
  rw [out_at]
  refine res_at m c t r e _ ?_ ?_ ?_
  all_goals blk_simp [idx t]
  all_goals omega

/-- The run ends with the result, and the arguments as they were. -/
theorem run_res : θ_run defs (onTc (τ := τ) (main (F := Ideal))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (final m c), (h c).2⟩) (Cert.Kernel3Ideal.Value.run_blocks m ρ)

end Cert.Kernel3Ideal.Mrg

end
-- ==== Proof.Mrg3Ref.lean ====
/- What the merge's reference is, entry by entry, over the extended reals. -/
module

public import proofs.«01_k».proof.Proof.Gen.Reference3Ideal.Run
public import proofs.«01_k».proof.Proof.MergeMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Reference3Ideal.Mrg

open Cert.Merge Cert.Reference3Ideal Cert.Reference3Ideal.Gen Cert.Reference3Ideal.Value

/-- A row times the root of its heads' mean squares, by heads of 256. -/
def heads256 (o : FVec Ideal S2x8448x1024 .f32) (n : FVec Ideal S256 .f32) : FVec Ideal S2x8448x1024 .f32 :=
  shapeCast _ (mulf (mulf (shapeCast _ o shapeCasts_S2x8448x1024_S2x8448x4x256) (broadcastInDim S2x8448x4x256 ![0, 1, 2, 3]
    bcast_S2x8448x4x1_S2x8448x4x256_0_1_2_3 (Host.rsqrt (addf (Host.divf (broadcastInDim S2x8448x4x1 ![0, 1, 2]
    bcast_S2x8448x4_S2x8448x4x1_0_1_2 (Host.reduceAdd (mulf (shapeCast _ o shapeCasts_S2x8448x1024_S2x8448x4x256)
    (shapeCast _ o shapeCasts_S2x8448x1024_S2x8448x4x256)) (constant S_ .f32 0x00000000#32)
    reducesTo_S2x8448x4x256_S2x8448x4_d3 h_S_)) (broadcastInDim S2x8448x4x1 ![] bcast_S_S2x8448x4x1
    (constant S_ .f32 0x43800000#32))) (broadcastInDim S2x8448x4x1 ![] bcast_S_S2x8448x4x1
    (constant S_ .f32 0x358637BD#32)))))) (broadcastInDim S2x8448x4x256 ![0, 1, 2, 3]
    bcast_S1x1x1x256_S2x8448x4x256_0_1_2_3 (broadcastInDim S1x1x1x256 ![3] bcast_S256_S1x1x1x256_3 n)))
    shapeCasts_S2x8448x4x256_S2x8448x1024

/-- The same by heads of 128. -/
def heads128 (o : FVec Ideal S2x8448x1024 .f32) (n : FVec Ideal S128 .f32) : FVec Ideal S2x8448x1024 .f32 :=
  shapeCast _ (mulf (mulf (shapeCast _ o shapeCasts_S2x8448x1024_S2x8448x8x128) (broadcastInDim S2x8448x8x128 ![0, 1, 2, 3]
    bcast_S2x8448x8x1_S2x8448x8x128_0_1_2_3 (Host.rsqrt (addf (Host.divf (broadcastInDim S2x8448x8x1 ![0, 1, 2]
    bcast_S2x8448x8_S2x8448x8x1_0_1_2 (Host.reduceAdd (mulf (shapeCast _ o shapeCasts_S2x8448x1024_S2x8448x8x128)
    (shapeCast _ o shapeCasts_S2x8448x1024_S2x8448x8x128)) (constant S_ .f32 0x00000000#32)
    reducesTo_S2x8448x8x128_S2x8448x8_d3 h_S_)) (broadcastInDim S2x8448x8x1 ![] bcast_S_S2x8448x8x1
    (constant S_ .f32 0x43000000#32))) (broadcastInDim S2x8448x8x1 ![] bcast_S_S2x8448x8x1
    (constant S_ .f32 0x358637BD#32)))))) (broadcastInDim S2x8448x8x128 ![0, 1, 2, 3]
    bcast_S1x1x1x128_S2x8448x8x128_0_1_2_3 (broadcastInDim S1x1x1x128 ![3] bcast_S128_S1x1x1x128_3 n)))
    shapeCasts_S2x8448x8x128_S2x8448x1024

set_option maxHeartbeats 2000000 in
theorem heads256_at (o : FVec Ideal S2x8448x1024 .f32) (n : FVec Ideal S256 .f32) (b : Fin 2) (t : Fin 8448) (j : Fin 1024) :
    heads256 o n (ix3 b t j) = norm256 (fun i => o (ix3 b t i)) (fun d => n (ix1 d)) j := by
  unfold heads256
  pointwise [id]
  exact norm256_at (fun i => o (ix3 b t i)) (fun d => n (ix1 d)) j j rfl
    (fun k => ⟨(j : ℕ) / 256 * 256 + k, by omega⟩) (fun k => Nat.add_right_cancel_iff.mpr (Nat.mul_comm _ _)) _ rfl

set_option maxHeartbeats 2000000 in
theorem heads128_at (o : FVec Ideal S2x8448x1024 .f32) (n : FVec Ideal S128 .f32) (b : Fin 2) (t : Fin 8448) (j : Fin 1024) :
    heads128 o n (ix3 b t j) = norm128 (fun i => o (ix3 b t i)) (fun d => n (ix1 d)) j := by
  unfold heads128
  pointwise [id]
  exact norm128_at (fun i => o (ix3 b t i)) (fun d => n (ix1 d)) j j rfl
    (fun k => ⟨(j : ℕ) / 128 * 128 + k, by omega⟩) (fun k => Nat.add_right_cancel_iff.mpr (Nat.mul_comm _ _)) _ rfl

theorem dot_at (H : FVec Ideal S2x8448x1024 .f32) (w : FVec Ideal S1024x1024 .f32) (b : Fin 2) (t : Fin 8448) (f : Fin 1024) :
    Host.dotGeneral dot_S2x8448x1024_S1024x1024_S2x8448x1024_2_0_01_1_n_n none H w (ix3 b t f)
      = ∑ d : Fin 1024, H (ix3 b t d) * w (ix2 d f) := by
  pointwise [id]

/-- The branches merged, as the reference's program computes them. -/
def mergedR (s0 s1 s2 s3 s4 s5 : FVec Ideal S2x8448x1024 .bf16) (p : FVec Ideal S2x8448x14336 .bf16) (n0 n1 : FVec Ideal S256 .f32)
    (n2 : FVec Ideal S128 .f32) (wb : FVec Ideal S3x1024x1024 .f32) : FVec Ideal S2x8448x1024 .f32 :=
  addf (addf
    (mulf (Host.dotGeneral dot_S2x8448x1024_S1024x1024_S2x8448x1024_2_0_01_1_n_n none
      (mulf (heads256 (addf (extf .f32 s0 bitsLt_bf16_f32) (extf .f32 s1 bitsLt_bf16_f32)) n0)
        (extf .f32 (extractStridedSlice S2x8448x1024 ![0, 0, 2048] p slices_S2x8448x14336_S2x8448x1024_0_0_2048) bitsLt_bf16_f32))
      (shapeCast _ (extractStridedSlice S1x1024x1024 ![0, 0, 0] wb slices_S3x1024x1024_S1x1024x1024_0_0_0)
        shapeCasts_S1x1024x1024_S1024x1024))
      (extf .f32 (extractStridedSlice S2x8448x1024 ![0, 0, 11264] p slices_S2x8448x14336_S2x8448x1024_0_0_11264) bitsLt_bf16_f32))
    (mulf (Host.dotGeneral dot_S2x8448x1024_S1024x1024_S2x8448x1024_2_0_01_1_n_n none
      (mulf (heads256 (addf (extf .f32 s2 bitsLt_bf16_f32) (extf .f32 s3 bitsLt_bf16_f32)) n1)
        (extf .f32 (extractStridedSlice S2x8448x1024 ![0, 0, 5120] p slices_S2x8448x14336_S2x8448x1024_0_0_5120) bitsLt_bf16_f32))
      (shapeCast _ (extractStridedSlice S1x1024x1024 ![1, 0, 0] wb slices_S3x1024x1024_S1x1024x1024_1_0_0)
        shapeCasts_S1x1024x1024_S1024x1024))
      (extf .f32 (extractStridedSlice S2x8448x1024 ![0, 0, 12288] p slices_S2x8448x14336_S2x8448x1024_0_0_12288) bitsLt_bf16_f32)))
    (mulf (Host.dotGeneral dot_S2x8448x1024_S1024x1024_S2x8448x1024_2_0_01_1_n_n none
      (mulf (heads128 (addf (extf .f32 s4 bitsLt_bf16_f32) (extf .f32 s5 bitsLt_bf16_f32)) n2)
        (extf .f32 (extractStridedSlice S2x8448x1024 ![0, 0, 10240] p slices_S2x8448x14336_S2x8448x1024_0_0_10240) bitsLt_bf16_f32))
      (shapeCast _ (extractStridedSlice S1x1024x1024 ![2, 0, 0] wb slices_S3x1024x1024_S1x1024x1024_2_0_0)
        shapeCasts_S1x1024x1024_S1024x1024))
      (extf .f32 (extractStridedSlice S2x8448x1024 ![0, 0, 13312] p slices_S2x8448x14336_S2x8448x1024_0_0_13312) bitsLt_bf16_f32))

/-- A branch's row, its heads normalized, gated and through its weights, times its merge gate. -/
theorem branch_at (H : FVec Ideal S2x8448x1024 .f32) (p : FVec Ideal S2x8448x14336 .bf16) (wb : FVec Ideal S3x1024x1024 .f32)
    (q : Fin 3) (i k : ℕ) (hi : i + 1024 ≤ 14336) (hk : k + 1024 ≤ 14336)
    (h1 : S2x8448x14336.Slices ![0, 0, i] S2x8448x1024) (h2 : S2x8448x14336.Slices ![0, 0, k] S2x8448x1024)
    (h3 : S3x1024x1024.Slices ![(q : ℕ), 0, 0] S1x1024x1024) (b : Fin 2) (t : Fin 8448) (d : Fin 1024) :
    mulf (Host.dotGeneral dot_S2x8448x1024_S1024x1024_S2x8448x1024_2_0_01_1_n_n none
      (mulf H (extf .f32 (extractStridedSlice S2x8448x1024 ![0, 0, i] p h1) bitsLt_bf16_f32))
      (shapeCast _ (extractStridedSlice S1x1024x1024 ![(q : ℕ), 0, 0] wb h3) shapeCasts_S1x1024x1024_S1024x1024))
      (extf .f32 (extractStridedSlice S2x8448x1024 ![0, 0, k] p h2) bitsLt_bf16_f32) (ix3 b t d)
      = (∑ j : Fin 1024, (H (ix3 b t j) * p (ix3 b t (pcol i hi j))) * wb (ix3 q j d)) * p (ix3 b t (pcol k hk d)) := by
  unfold pcol
  pointwise [id]

variable (m : (ℓ : Loc nD τ sig) → Buf (Elt Ideal) ℓ)

/-- The arguments, entry by entry. -/
def args (c : Dev nD) : Args where
  s0 := fun b t d => (m ((c.tc : Thread nD τ).loc main_arg0) : FVec Ideal S2x8448x1024 .bf16) (ix3 b t d)
  s1 := fun b t d => (m ((c.tc : Thread nD τ).loc main_arg1) : FVec Ideal S2x8448x1024 .bf16) (ix3 b t d)
  s2 := fun b t d => (m ((c.tc : Thread nD τ).loc main_arg2) : FVec Ideal S2x8448x1024 .bf16) (ix3 b t d)
  s3 := fun b t d => (m ((c.tc : Thread nD τ).loc main_arg3) : FVec Ideal S2x8448x1024 .bf16) (ix3 b t d)
  s4 := fun b t d => (m ((c.tc : Thread nD τ).loc main_arg4) : FVec Ideal S2x8448x1024 .bf16) (ix3 b t d)
  s5 := fun b t d => (m ((c.tc : Thread nD τ).loc main_arg5) : FVec Ideal S2x8448x1024 .bf16) (ix3 b t d)
  p := fun b t f => (m ((c.tc : Thread nD τ).loc main_arg6) : FVec Ideal S2x8448x14336 .bf16) (ix3 b t f)
  x := fun b t d => (m ((c.tc : Thread nD τ).loc main_arg7) : FVec Ideal S2x8448x1024 .f32) (ix3 b t d)
  mo := fun q f => (m ((c.tc : Thread nD τ).loc main_arg8) : FVec Ideal S8x3072 .f32) (ix2 q f)
  n0 := fun d => (m ((c.tc : Thread nD τ).loc main_arg9) : FVec Ideal S256 .f32) (ix1 d)
  n1 := fun d => (m ((c.tc : Thread nD τ).loc main_arg10) : FVec Ideal S256 .f32) (ix1 d)
  n2 := fun d => (m ((c.tc : Thread nD τ).loc main_arg11) : FVec Ideal S128 .f32) (ix1 d)
  wb := fun q j d => (m ((c.tc : Thread nD τ).loc main_arg12) : FVec Ideal S3x1024x1024 .f32) (ix3 q j d)
  wo := fun d e => (m ((c.tc : Thread nD τ).loc main_arg13) : FVec Ideal S1024x1024 .f32) (ix2 d e)
  nf := fun e => (m ((c.tc : Thread nD τ).loc main_arg14) : FVec Ideal S1024 .f32) (ix1 e)

/-- The branches merged, of the arguments. -/
def M (c : Dev nD) : FVec Ideal S2x8448x1024 .f32 :=
  mergedR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg9)) (m ((c.tc : Thread nD τ).loc main_arg10))
    (m ((c.tc : Thread nD τ).loc main_arg11)) (m ((c.tc : Thread nD τ).loc main_arg12))

theorem M_at (c : Dev nD) (b : Fin 2) (t : Fin 8448) (d : Fin 1024) : M m c (ix3 b t d) = (args m c).merged b t d := by
  unfold M mergedR Args.merged Args.b0 Args.b1 Args.b2
  refine congrArg₂ (· + ·) (congrArg₂ (· + ·) ?_ ?_) ?_
  · refine (branch_at _ _ _ 0 2048 11264 (by decide) (by decide) _ _ _ b t d).trans ?_
    simp only [heads256_at]
    rfl
  · refine (branch_at _ _ _ 1 5120 12288 (by decide) (by decide) _ _ _ b t d).trans ?_
    simp only [heads256_at]
    rfl
  · refine (branch_at _ _ _ 2 10240 13312 (by decide) (by decide) _ _ _ b t d).trans ?_
    simp only [heads128_at]
    rfl

/-- The residual step, as the reference's program computes it. -/
def stepR (x : FVec Ideal S2x8448x1024 .f32) (mo : FVec Ideal S8x3072 .f32) (E : FVec Ideal S2x8448x1024 .f32) :
    FVec Ideal S2x8448x1024 .f32 :=
  concatenate S2x8448x1024 1 [⟨S2x256x1024, (addf (extractStridedSlice S2x256x1024 ![0, 0, 0] x
    slices_S2x8448x1024_S2x256x1024_0_0_0) (mulf (broadcastInDim S2x256x1024 ![0, 1, 2] bcast_S1x1x1024_S2x256x1024_0_1_2
    (broadcastInDim S1x1x1024 ![2] bcast_S1024_S1x1x1024_2 (shapeCast _ (extractStridedSlice S1x1024 ![2, 2048] mo
    slices_S8x3072_S1x1024_2_2048) shapeCasts_S1x1024_S1024))) (extractStridedSlice S2x256x1024 ![0, 0, 0] E
    slices_S2x8448x1024_S2x256x1024_0_0_0)))⟩, ⟨S2x8192x1024, (addf (extractStridedSlice S2x8192x1024 ![0, 256, 0] x
    slices_S2x8448x1024_S2x8192x1024_0_256_0) (mulf (broadcastInDim S2x8192x1024 ![0, 1, 2] bcast_S2x1x1024_S2x8192x1024_0_1_2
    (broadcastInDim S2x1x1024 ![0, 2] bcast_S2x1024_S2x1x1024_0_2 (extractStridedSlice S2x1024 ![0, 2048] mo
    slices_S8x3072_S2x1024_0_2048))) (extractStridedSlice S2x8192x1024 ![0, 256, 0] E
    slices_S2x8448x1024_S2x8192x1024_0_256_0)))⟩] concatenates_S2x256x1024_S2x8192x1024_S2x8448x1024_d1

theorem step_at (x : FVec Ideal S2x8448x1024 .f32) (mo : FVec Ideal S8x3072 .f32) (E : FVec Ideal S2x8448x1024 .f32)
    (b : Fin 2) (t : Fin 8448) (e : Fin 1024) :
    stepR x mo E (ix3 b t e) = x (ix3 b t e) + mo (ix2 (mrow b t) (gcol e)) * E (ix3 b t e) := by
  unfold stepR mrow gcol
  pointwise [id]
  by_cases h : (t : ℕ) < 256
  · simp only [if_pos h, dif_pos h]
  · have e : ∀ p, (⟨256 + ((t : ℕ) - 256), p⟩ : Fin 8448) = t := fun p => Fin.ext (by show 256 + ((t : ℕ) - 256) = t; omega)
    simp only [if_neg h, dif_neg h, e]

/-- The reference's result, entry by entry. -/
theorem res_at (c : Dev nD) (b : Fin 2) (t : Fin 8448) (e : Fin 1024) :
    (res_main_v99 m c : FVec Ideal S2x8448x1024 .f32) (ix3 b t e) = (args m c).stepped b t e := by
  have h : res_main_v99 m c = stepR (m ((c.tc : Thread nD τ).loc main_arg7)) (m ((c.tc : Thread nD τ).loc main_arg8))
      (Host.dotGeneral (φ₁ := .f32) (φ₂ := .f32) dot_S2x8448x1024_S1024x1024_S2x8448x1024_2_0_01_1_n_n none (M m c)
        (m ((c.tc : Thread nD τ).loc main_arg13) : FVec Ideal S1024x1024 .f32)) := by
    unfold res_main_v99 stepR M mergedR heads256 heads128
    rfl
  rw [h, step_at, dot_at]
  simp only [M_at]
  rfl

end Cert.Reference3Ideal.Mrg

end
-- ==== Proof.Mrg4Val.lean ====
/- What the last layer's merge's body leaves at each point of its grid, over the extended reals. -/
module

public import proofs.«01_k».proof.Proof.Gen.Kernel4Ideal.Value
public import proofs.«01_k».proof.Proof.MergeMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Mrg

open Cert.Merge Cert.Kernel4Ideal Cert.Kernel4Ideal.Gen

/-- A head of 256's part, of a branch's row. -/
theorem part256 (a b : FVec Ideal S1x256x1024 .bf16) (n : FVec Ideal S1x256 .f32) (r : Fin 256) (j q : Fin 1024) (hq : (q : ℕ) = j)
    (f : Fin 256 → Fin 1024) (hf : ∀ k, (f k : ℕ) = 256 * ((j : ℕ) / 256) + k) (i : Fin 256) (hi : (i : ℕ) = (j : ℕ) % 256) :
    (a (ix3 0 r q) + b (ix3 0 r q))
        * Ideal.rsqrt (Ideal.div (∑ k, (a (ix3 0 r (f k)) + b (ix3 0 r (f k))) * (a (ix3 0 r (f k)) + b (ix3 0 r (f k))))
          (Ideal.ofBits .f32 0x43800000#32) + Ideal.ofBits .f32 0x358637BD#32) * n (ix2 0 i)
      = norm256 (fun i => a (ix3 0 r i) + b (ix3 0 r i)) (fun d => n (ix2 0 d)) j :=
  norm256_at (fun i => a (ix3 0 r i) + b (ix3 0 r i)) (fun d => n (ix2 0 d)) j q hq f hf i hi

/-- A head of 128's part, of a branch's row. -/
theorem part128 (a b : FVec Ideal S1x256x1024 .bf16) (n : FVec Ideal S1x128 .f32) (r : Fin 256) (j q : Fin 1024) (hq : (q : ℕ) = j)
    (f : Fin 128 → Fin 1024) (hf : ∀ k, (f k : ℕ) = 128 * ((j : ℕ) / 128) + k) (i : Fin 128) (hi : (i : ℕ) = (j : ℕ) % 128) :
    (a (ix3 0 r q) + b (ix3 0 r q))
        * Ideal.rsqrt (Ideal.div (∑ k, (a (ix3 0 r (f k)) + b (ix3 0 r (f k))) * (a (ix3 0 r (f k)) + b (ix3 0 r (f k))))
          (Ideal.ofBits .f32 0x43000000#32) + Ideal.ofBits .f32 0x358637BD#32) * n (ix2 0 i)
      = norm128 (fun i => a (ix3 0 r i) + b (ix3 0 r i)) (fun d => n (ix2 0 d)) j :=
  norm128_at (fun i => a (ix3 0 r i) + b (ix3 0 r i)) (fun d => n (ix2 0 d)) j q hq f hf i hi

/-- The first branch's row. -/
theorem branch0 (a b g : FVec Ideal S1x256x1024 .bf16) (n : FVec Ideal S1x256 .f32) (r : Fin 256) (j : Fin 1024) :
    k0_pay8 (F := Ideal) (k0_pay2 a b) (k0_pay3 g) (k0_pay4 n) (k0_pay5 a b n) (k0_pay6 a b n) (k0_pay7 a b) (ix2 r j)
      = norm256 (fun i => a (ix3 0 r i) + b (ix3 0 r i)) (fun d => n (ix2 0 d)) j * g (ix3 0 r j) := by
  pointwise [k0_pay8, k0_pay2, k0_pay3, k0_pay4, k0_pay5, k0_pay6, k0_pay7]
  refine congrArg (· * g (ix3 0 r j)) ?_
  refine dite_one (fun h1 => ?_) (fun n1 => dite_one (fun h2 => ?_) (fun n2 => dite_one (fun h3 => ?_) (fun n3 => ?_)))
  all_goals
    refine part256 a b n r j _ ?_ _ (fun k => ?_) _ ?_ <;> dsimp only <;> omega

/-- The second branch's row. -/
theorem branch1 (a b g : FVec Ideal S1x256x1024 .bf16) (n : FVec Ideal S1x256 .f32) (r : Fin 256) (j : Fin 1024) :
    k0_pay19 (F := Ideal) (k0_pay10 g) (k0_pay14 (k0_pay11 n) (k0_pay12 a b) (k0_pay13 a b)) (k0_pay15 (k0_pay9 a b) (k0_pay11 n))
        (k0_pay16 (k0_pay9 a b) (k0_pay11 n)) (k0_pay17 (k0_pay9 a b)) (k0_pay18 (k0_pay11 n)) (ix2 r j)
      = norm256 (fun i => a (ix3 0 r i) + b (ix3 0 r i)) (fun d => n (ix2 0 d)) j * g (ix3 0 r j) := by
  pointwise [k0_pay9, k0_pay10, k0_pay11, k0_pay12, k0_pay13, k0_pay14, k0_pay15, k0_pay16, k0_pay17, k0_pay18, k0_pay19]
  refine congrArg (· * g (ix3 0 r j)) ?_
  refine dite_one (fun h1 => ?_) (fun n1 => dite_one (fun h2 => ?_) (fun n2 => dite_one (fun h3 => ?_) (fun n3 => ?_)))
  all_goals
    refine part256 a b n r j _ ?_ _ (fun k => ?_) _ ?_ <;> dsimp only <;> omega

set_option maxHeartbeats 2000000 in
/-- The third branch's row. -/
theorem branch2 (a b g : FVec Ideal S1x256x1024 .bf16) (n : FVec Ideal S1x128 .f32) (r : Fin 256) (j : Fin 1024) :
    k0_pay31 (F := Ideal) (k0_pay20 a b) (k0_pay21 g) (k0_pay22 n) (k0_pay23 a b n) (k0_pay24 a b n)
        (k0_pay26 (k0_pay22 n) (k0_pay25 a b)) (k0_pay27 (k0_pay20 a b) (k0_pay22 n)) (k0_pay28 (k0_pay20 a b) (k0_pay22 n))
        (k0_pay29 (k0_pay20 a b)) (k0_pay30 (k0_pay20 a b)) (ix2 r j)
      = norm128 (fun i => a (ix3 0 r i) + b (ix3 0 r i)) (fun d => n (ix2 0 d)) j * g (ix3 0 r j) := by
  pointwise [k0_pay20, k0_pay21, k0_pay22, k0_pay23, k0_pay24, k0_pay25, k0_pay26, k0_pay27, k0_pay28, k0_pay29, k0_pay30, k0_pay31]
  refine congrArg (· * g (ix3 0 r j)) ?_
  refine dite_one (fun h1 => ?_) (fun n1 => dite_one (fun h2 => ?_) (fun n2 => dite_one (fun h3 => ?_) (fun n3 =>
    dite_one (fun h4 => ?_) (fun n4 => dite_one (fun h5 => ?_) (fun n5 => dite_one (fun h6 => ?_) (fun n6 =>
    dite_one (fun h7 => ?_) (fun n7 => ?_)))))))
  all_goals
    refine part128 a b n r j _ ?_ _ (fun k => ?_) _ ?_ <;> dsimp only <;> omega

/-- A branch through its weights and times its gate. -/
theorem mix0 (a : FVec Ideal S256x1024 .bf16) (w : FVec Ideal S1x1024x1024 .bf16) (g : FVec Ideal S1x256x1024 .bf16) (r : Fin 256)
    (d : Fin 1024) :
    k0_pay32 (F := Ideal) a w g (ix2 r d) = (∑ j : Fin 1024, a (ix2 r j) * w (ix3 0 j d)) * g (ix3 0 r d) := by
  pointwise [k0_pay32]

/-- A branch through its weights. -/
theorem mix1 (a : FVec Ideal S256x1024 .bf16) (w : FVec Ideal S1x1024x1024 .bf16) (r : Fin 256) (d : Fin 1024) :
    k0_pay33 (F := Ideal) a w (ix2 r d) = ∑ j : Fin 1024, a (ix2 r j) * w (ix3 0 j d) := by
  pointwise [k0_pay33]

/-- No block of tokens is the context's, as the kernel's words tell it. -/
theorem ctx_word : ∀ i : Fin 32,
    Scalar.cmpi .slt (Scalar.muli (Scalar.addi (BitVec.ofNat 32 i) 1#32) 256#32) 256#32 = 0#1 := by
  decide +kernel

/-- The merge, projected out, gated and added to the tokens. -/
theorem step_at (i : Fin 32) (b : FVec Ideal S256x1024 .bf16) (u v : FVec Ideal S256x1024 .f32) (p q : FVec Ideal S1x256x1024 .bf16)
    (w : FVec Ideal S1x1024x1024 .bf16) (wo : FVec Ideal S1024x1024 .bf16) (x y : FVec Ideal S1x1024 .f32)
    (z : FVec Ideal S1x256x1024 .f32) (r : Fin 256) (e : Fin 1024) :
    k0_pay34 (F := Ideal) (Scalar.addi (BitVec.ofNat 32 i) 1#32) b u v p w q wo x y z (ix2 r e)
      = z (ix3 0 r e) + y (ix2 0 e)
          * ∑ d : Fin 1024, (u (ix2 r d) + v (ix2 r d) * p (ix3 0 r d)
            + (∑ j : Fin 1024, b (ix2 r j) * w (ix3 0 j d)) * q (ix3 0 r d)) * wo (ix2 d e) := by
  pointwise [k0_pay34]
  rw [ctx_word]
  rfl

/-- The final norm of a stepped row. -/
theorem normed_at (i : BitVec 32) (b : FVec Ideal S256x1024 .bf16) (u v : FVec Ideal S256x1024 .f32)
    (p q : FVec Ideal S1x256x1024 .bf16) (w : FVec Ideal S1x1024x1024 .bf16) (wo : FVec Ideal S1024x1024 .bf16)
    (x y : FVec Ideal S1x1024 .f32) (z : FVec Ideal S1x256x1024 .f32) (n : FVec Ideal S1x1024 .f32) (r : Fin 256) (e : Fin 1024) :
    k0_pay1 (F := Ideal) (k0_pay34 i b u v p w q wo x y z) (k0_pay35 i b u v p w q wo x y z) n (ix3 0 r e)
      = norm1024 (fun d => k0_pay34 (F := Ideal) i b u v p w q wo x y z (ix2 r d)) (fun d => n (ix2 0 d)) e := by
  unfold k0_pay35 norm1024 scale
  generalize k0_pay34 (F := Ideal) i b u v p w q wo x y z = Z
  pointwise [k0_pay1]

/-- A block of the branches' weights. -/
theorem ld_wb0 (w : FVec Ideal S3x1024x1024 .bf16) (j d : Fin 1024)
    (inb : ∀ a, (![0, 0, 0] : Fin 3 → ℕ) a + (![1, 1024, 1024] : Fin 3 → ℕ) a ≤ S3x1024x1024.size a) :
    View.ld (Val := Elt Ideal) (e' := .bf16) w (Rect.unit (s := S3x1024x1024) ![0, 0, 0] ![1, 1024, 1024] inb) (ix3 0 j d) = w (ix3 0 j d) := by
  refine congrArg w ?_
  blk_ext
  · show 0 + 1 * 0 = (0 : ℕ); omega
  · show 0 + 1 * (j : ℕ) = j; omega
  · show 0 + 1 * (d : ℕ) = d; omega

theorem ld_wb1 (w : FVec Ideal S3x1024x1024 .bf16) (j d : Fin 1024)
    (inb : ∀ a, (![1, 0, 0] : Fin 3 → ℕ) a + (![1, 1024, 1024] : Fin 3 → ℕ) a ≤ S3x1024x1024.size a) :
    View.ld (Val := Elt Ideal) (e' := .bf16) w (Rect.unit (s := S3x1024x1024) ![1, 0, 0] ![1, 1024, 1024] inb) (ix3 0 j d) = w (ix3 1 j d) := by
  refine congrArg w ?_
  blk_ext
  · show 1 + 1 * 0 = (1 : ℕ); omega
  · show 0 + 1 * (j : ℕ) = j; omega
  · show 0 + 1 * (d : ℕ) = d; omega

theorem ld_wb2 (w : FVec Ideal S3x1024x1024 .bf16) (j d : Fin 1024)
    (inb : ∀ a, (![2, 0, 0] : Fin 3 → ℕ) a + (![1, 1024, 1024] : Fin 3 → ℕ) a ≤ S3x1024x1024.size a) :
    View.ld (Val := Elt Ideal) (e' := .bf16) w (Rect.unit (s := S3x1024x1024) ![2, 0, 0] ![1, 1024, 1024] inb) (ix3 0 j d) = w (ix3 2 j d) := by
  refine congrArg w ?_
  blk_ext
  · show 2 + 1 * 0 = (2 : ℕ); omega
  · show 0 + 1 * (j : ℕ) = j; omega
  · show 0 + 1 * (d : ℕ) = d; omega

/-- A row of the modulation, read from a column on. -/
theorem ld_mod (w : FVec Ideal S8x3072 .f32) (o : Fin 2 → ℕ) (q : Fin 8) (k : ℕ) (hk : k + 1024 ≤ 3072)
    (inb : ∀ a, o a + S1x1024.size a ≤ S8x3072.size a) (h0 : o 0 = q) (h1 : o 1 = k) (d : Fin 1024) :
    w ((Rect.unit (s := S8x3072) o S1x1024.size inb).idx (ix2 0 d)) = w (ix2 q ⟨k + d, by omega⟩) := by
  refine congrArg w ?_
  blk_ext
  · show o 0 + 1 * 0 = q; omega
  · show o 1 + 1 * (d : ℕ) = k + d; omega

end Cert.Kernel4Ideal.Mrg

end
-- ==== Proof.Mrg4Out.lean ====
/- The last layer's merge's result after the run, as an array of the arguments, over the extended reals. -/
module

public import proofs.«01_k».proof.Proof.Mrg4Val
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Mrg

open Cert.Merge Cert.Kernel4Ideal Cert.Kernel4Ideal.Gen

variable (m : (ℓ : Loc nD τ sig) → Buf (Elt Ideal) ℓ) (ρ : Dev nD → PrngReg)

/-- What a launch finds in its arguments. -/
def args (c : Dev nD) : Args where
  s0 b t j := (m ((c : Thread nD τ).loc main_arg0) : FVec Ideal S2x8448x1024 .bf16) (ix3 b t j)
  s1 b t j := (m ((c : Thread nD τ).loc main_arg1) : FVec Ideal S2x8448x1024 .bf16) (ix3 b t j)
  s2 b t j := (m ((c : Thread nD τ).loc main_arg2) : FVec Ideal S2x8448x1024 .bf16) (ix3 b t j)
  s3 b t j := (m ((c : Thread nD τ).loc main_arg3) : FVec Ideal S2x8448x1024 .bf16) (ix3 b t j)
  s4 b t j := (m ((c : Thread nD τ).loc main_arg4) : FVec Ideal S2x8448x1024 .bf16) (ix3 b t j)
  s5 b t j := (m ((c : Thread nD τ).loc main_arg5) : FVec Ideal S2x8448x1024 .bf16) (ix3 b t j)
  p b t j := (m ((c : Thread nD τ).loc main_arg6) : FVec Ideal S2x8448x14336 .bf16) (ix3 b t j)
  x b t e := (m ((c : Thread nD τ).loc main_arg7) : FVec Ideal S2x8448x1024 .f32) (ix3 b t e)
  mo q f := (m ((c : Thread nD τ).loc main_arg8) : FVec Ideal S8x3072 .f32) (ix2 q f)
  n0 d := (m ((c : Thread nD τ).loc main_arg9) : FVec Ideal S256 .f32) (ix1 d)
  n1 d := (m ((c : Thread nD τ).loc main_arg10) : FVec Ideal S256 .f32) (ix1 d)
  n2 d := (m ((c : Thread nD τ).loc main_arg11) : FVec Ideal S128 .f32) (ix1 d)
  wb q j d := (m ((c : Thread nD τ).loc main_arg12) : FVec Ideal S3x1024x1024 .f32) (ix3 q j d)
  wo d e := (m ((c : Thread nD τ).loc main_arg13) : FVec Ideal S1024x1024 .f32) (ix2 d e)
  nf d := (m ((c : Thread nD τ).loc main_arg14) : FVec Ideal S1024 .f32) (ix1 d)

/-- Where the windows stand at each grid point. -/
theorem idx : ∀ t : Fin cfg0.N,
    win0_0.index t = ![t.val / 32, t.val % 32 + 1, 0]
    ∧ win0_1.index t = ![t.val / 32, t.val % 32 + 1, 0]
    ∧ win0_2.index t = ![t.val / 32, t.val % 32 + 1, 0]
    ∧ win0_3.index t = ![t.val / 32, t.val % 32 + 1, 0]
    ∧ win0_4.index t = ![t.val / 32, t.val % 32 + 1, 0]
    ∧ win0_5.index t = ![t.val / 32, t.val % 32 + 1, 0]
    ∧ win0_6.index t = ![t.val / 32, t.val % 32 + 1, 2]
    ∧ win0_7.index t = ![t.val / 32, t.val % 32 + 1, 5]
    ∧ win0_8.index t = ![t.val / 32, t.val % 32 + 1, 10]
    ∧ win0_9.index t = ![t.val / 32, t.val % 32 + 1, 11]
    ∧ win0_10.index t = ![t.val / 32, t.val % 32 + 1, 12]
    ∧ win0_11.index t = ![t.val / 32, t.val % 32 + 1, 13]
    ∧ win0_12.index t = ![t.val / 32, t.val % 32 + 1, 0]
    ∧ win0_13.index t = ![0, 0]
    ∧ win0_14.index t = ![0, 0]
    ∧ win0_15.index t = ![0, 0]
    ∧ win0_16.index t = ![0, 0]
    ∧ win0_17.index t = ![0, 0, 0]
    ∧ win0_18.index t = ![0, 0]
    ∧ win0_19.index t = ![0, 0]
    ∧ win0_20.index t = ![t.val / 32, t.val % 32, 0] :=
  (by decide +kernel : ∀ t : Fin grid0.N, _)

/-- The coordinates of a grid point. -/
theorem coord : ∀ t : Fin cfg0.N, (grid0.coords t 0).val = t.val / 32 ∧ (grid0.coords t 1).val = t.val % 32 ∧ t.val / 32 < 2 :=
  (by decide +kernel : ∀ t : Fin grid0.N, _)

/-- The sequence of a grid point. -/
def bOf (t : Fin cfg0.N) : Fin 2 := ⟨t.val / 32, (coord t).2.2⟩

theorem lat_lt (t : Fin cfg0.N) (r : Fin 256) : 256 * (t.val % 32) + r < 8192 := by omega

/-- The latent of a row of a grid point's block. -/
def latOf (t : Fin cfg0.N) (r : Fin 256) : Fin 8192 := ⟨256 * (t.val % 32) + r, lat_lt t r⟩

/-! ## What the windows read -/

theorem r0 (c : Dev nD) (t : Fin cfg0.N) (r : Fin 256) (j : Fin 1024) :
    (iblk m c 0 t : FVec Ideal S1x256x1024 .bf16) (ix3 0 r j) = (args m c).s0 (bOf t) (lat (latOf t r)) j := by
  unfold args bOf latOf lat
  blk_ext [iblk, V, idx t]

theorem r1 (c : Dev nD) (t : Fin cfg0.N) (r : Fin 256) (j : Fin 1024) :
    (iblk m c 1 t : FVec Ideal S1x256x1024 .bf16) (ix3 0 r j) = (args m c).s1 (bOf t) (lat (latOf t r)) j := by
  unfold args bOf latOf lat
  blk_ext [iblk, V, idx t]

theorem r2 (c : Dev nD) (t : Fin cfg0.N) (r : Fin 256) (j : Fin 1024) :
    (iblk m c 2 t : FVec Ideal S1x256x1024 .bf16) (ix3 0 r j) = (args m c).s2 (bOf t) (lat (latOf t r)) j := by
  unfold args bOf latOf lat
  blk_ext [iblk, V, idx t]

theorem r3 (c : Dev nD) (t : Fin cfg0.N) (r : Fin 256) (j : Fin 1024) :
    (iblk m c 3 t : FVec Ideal S1x256x1024 .bf16) (ix3 0 r j) = (args m c).s3 (bOf t) (lat (latOf t r)) j := by
  unfold args bOf latOf lat
  blk_ext [iblk, V, idx t]

theorem r4 (c : Dev nD) (t : Fin cfg0.N) (r : Fin 256) (j : Fin 1024) :
    (iblk m c 4 t : FVec Ideal S1x256x1024 .bf16) (ix3 0 r j) = (args m c).s4 (bOf t) (lat (latOf t r)) j := by
  unfold args bOf latOf lat
  blk_ext [iblk, V, idx t]

theorem r5 (c : Dev nD) (t : Fin cfg0.N) (r : Fin 256) (j : Fin 1024) :
    (iblk m c 5 t : FVec Ideal S1x256x1024 .bf16) (ix3 0 r j) = (args m c).s5 (bOf t) (lat (latOf t r)) j := by
  unfold args bOf latOf lat
  blk_ext [iblk, V, idx t]

theorem r6 (c : Dev nD) (t : Fin cfg0.N) (r : Fin 256) (j : Fin 1024) :
    (iblk m c 6 t : FVec Ideal S1x256x1024 .bf16) (ix3 0 r j) = (args m c).p (bOf t) (lat (latOf t r)) (pcol 2048 (by decide) j) := by
  unfold args bOf latOf lat pcol
  blk_ext [iblk, V, idx t]

theorem r7 (c : Dev nD) (t : Fin cfg0.N) (r : Fin 256) (j : Fin 1024) :
    (iblk m c 7 t : FVec Ideal S1x256x1024 .bf16) (ix3 0 r j) = (args m c).p (bOf t) (lat (latOf t r)) (pcol 5120 (by decide) j) := by
  unfold args bOf latOf lat pcol
  blk_ext [iblk, V, idx t]

theorem r8 (c : Dev nD) (t : Fin cfg0.N) (r : Fin 256) (j : Fin 1024) :
    (iblk m c 8 t : FVec Ideal S1x256x1024 .bf16) (ix3 0 r j) = (args m c).p (bOf t) (lat (latOf t r)) (pcol 10240 (by decide) j) := by
  unfold args bOf latOf lat pcol
  blk_ext [iblk, V, idx t]

theorem r9 (c : Dev nD) (t : Fin cfg0.N) (r : Fin 256) (j : Fin 1024) :
    (iblk m c 9 t : FVec Ideal S1x256x1024 .bf16) (ix3 0 r j) = (args m c).p (bOf t) (lat (latOf t r)) (pcol 11264 (by decide) j) := by
  unfold args bOf latOf lat pcol
  blk_ext [iblk, V, idx t]

theorem r10 (c : Dev nD) (t : Fin cfg0.N) (r : Fin 256) (j : Fin 1024) :
    (iblk m c 10 t : FVec Ideal S1x256x1024 .bf16) (ix3 0 r j) = (args m c).p (bOf t) (lat (latOf t r)) (pcol 12288 (by decide) j) := by
  unfold args bOf latOf lat pcol
  blk_ext [iblk, V, idx t]

theorem r11 (c : Dev nD) (t : Fin cfg0.N) (r : Fin 256) (j : Fin 1024) :
    (iblk m c 11 t : FVec Ideal S1x256x1024 .bf16) (ix3 0 r j) = (args m c).p (bOf t) (lat (latOf t r)) (pcol 13312 (by decide) j) := by
  unfold args bOf latOf lat pcol
  blk_ext [iblk, V, idx t]

theorem r12 (c : Dev nD) (t : Fin cfg0.N) (r : Fin 256) (e : Fin 1024) :
    (iblk m c 12 t : FVec Ideal S1x256x1024 .f32) (ix3 0 r e) = (args m c).x (bOf t) (lat (latOf t r)) e := by
  unfold args bOf latOf lat
  blk_ext [iblk, V, idx t]

theorem r13 (c : Dev nD) (t : Fin cfg0.N) (q : Fin 8) (f : Fin 3072) :
    (iblk m c 13 t : FVec Ideal S8x3072 .f32) (ix2 q f) = (args m c).mo q f := by
  unfold args
  blk_ext [iblk, V, idx t]

theorem r14 (c : Dev nD) (t : Fin cfg0.N) (d : Fin 256) :
    (iblk m c 14 t : FVec Ideal S1x256 .f32) (ix2 0 d) = (args m c).n0 d := by
  have hV : (V m c main_v0 : FVec Ideal S1x256 .f32) (ix2 0 d) = (args m c).n0 d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v0 = w
  blk_ext [idx t]

theorem r15 (c : Dev nD) (t : Fin cfg0.N) (d : Fin 256) :
    (iblk m c 15 t : FVec Ideal S1x256 .f32) (ix2 0 d) = (args m c).n1 d := by
  have hV : (V m c main_v1 : FVec Ideal S1x256 .f32) (ix2 0 d) = (args m c).n1 d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v1 = w
  blk_ext [idx t]

theorem r16 (c : Dev nD) (t : Fin cfg0.N) (d : Fin 128) :
    (iblk m c 16 t : FVec Ideal S1x128 .f32) (ix2 0 d) = (args m c).n2 d := by
  have hV : (V m c main_v2 : FVec Ideal S1x128 .f32) (ix2 0 d) = (args m c).n2 d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v2 = w
  blk_ext [idx t]

theorem r17 (c : Dev nD) (t : Fin cfg0.N) (q : Fin 3) (j d : Fin 1024) :
    (iblk m c 17 t : FVec Ideal S3x1024x1024 .bf16) (ix3 q j d) = (args m c).wb q j d := by
  have hV : (V m c main_v3 : FVec Ideal S3x1024x1024 .bf16) (ix3 q j d) = (args m c).wb q j d := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v3 = w
  blk_ext [idx t]

theorem r18 (c : Dev nD) (t : Fin cfg0.N) (d e : Fin 1024) :
    (iblk m c 18 t : FVec Ideal S1024x1024 .bf16) (ix2 d e) = (args m c).wo d e := by
  have hV : (V m c main_v4 : FVec Ideal S1024x1024 .bf16) (ix2 d e) = (args m c).wo d e := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v4 = w
  blk_ext [idx t]

theorem r19 (c : Dev nD) (t : Fin cfg0.N) (e : Fin 1024) :
    (iblk m c 19 t : FVec Ideal S1x1024 .f32) (ix2 0 e) = (args m c).nf e := by
  have hV : (V m c main_v5 : FVec Ideal S1x1024 .f32) (ix2 0 e) = (args m c).nf e := by
    unfold V args
    simp only [List.flatten_cons, List.flatten_nil, List.append_nil, StableHlo.after_append]
    after_reads_simp
    try simp -implicitDefEqProofs only [StableHlo.TRef.toBuf, StableHlo.TRef.ofBuf, cast_cast, cast_eq]
    pointwise [id]
  rw [← hV]
  unfold iblk
  generalize V m c main_v5 = w
  blk_ext [idx t]

/-- The gates a latents' block takes. -/
theorem gate_at (c : Dev nD) (t : Fin cfg0.N) (r : Fin 256) (e : Fin 1024)
    (i₂ : ∀ a, k0_off1 (grid0.coords t) a + S1x1024.size a ≤ S8x3072.size a) :
    (iblk m c 13 t : FVec Ideal S8x3072 .f32) ((Rect.unit (s := S8x3072) (k0_off1 (grid0.coords t)) S1x1024.size i₂).idx (ix2 0 e))
      = (args m c).mo (mrow (bOf t) (lat (latOf t r))) (gcol e) := by
  have hb : (grid0.coords t 0).val = t.val / 32 := (coord t).1
  have hlt : t.val / 32 < 2 := (coord t).2.2
  have o1 : k0_off1 (grid0.coords t) 0 = t.val / 32 := by
    show (BitVec.ofNat 32 (grid0.coords t 0).val).toNat = _
    rw [hb, BitVec.toNat_ofNat]; omega
  rw [← r13 m c t, mrow_lat]
  generalize (iblk m c 13 t : FVec Ideal S8x3072 .f32) = w
  exact ld_mod w _ ⟨t.val / 32, by omega⟩ 2048 (by omega) _ o1 rfl e

set_option maxHeartbeats 2000000 in
/-- A block's entry after the body. -/
theorem out_at (c : Dev nD) (t : Fin cfg0.N) (r : Fin 256) (e : Fin 1024) :
    (outsAt0 m c t : FVec Ideal S1x256x1024 .f32) (ix3 0 r e) = (args m c).normed (bOf t) (lat (latOf t r)) e := by
  unfold outsAt0 out0_A_20
  frame_out
  refine (normed_at _ _ _ _ _ _ _ _ _ _ _ _ r e).trans ?_
  unfold Args.normed
  refine congrArg₂ (fun X N => norm1024 X N e) (funext fun e => ?_) (funext fun e => r19 m c t e)
  erw [step_at (grid0.coords t 1)]
  unfold Args.stepped Args.merged Args.b0 Args.b1 Args.b2
  refine congrArg₂ (· + ·) (r12 m c t r e) (congrArg₂ (· * ·) (gate_at m c t r e _) ?_)
  refine Finset.sum_congr rfl fun d _ => congrArg₂ (· * ·) ?_ (r18 m c t d e)
  refine congrArg₂ (· + ·) (congrArg₂ (· + ·) ?_ ?_) ?_
  · refine (mix0 _ _ _ r d).trans (congrArg₂ (· * ·) (Finset.sum_congr rfl fun j _ => ?_) (r9 m c t r d))
    refine congrArg₂ (· * ·) ((branch0 _ _ _ _ r j).trans ?_) ((ld_wb0 _ j d _).trans (r17 m c t 0 j d))
    simp only [r0, r1, r6, r14]
  · refine congrArg₂ (· * ·) ((mix1 _ _ r d).trans (Finset.sum_congr rfl fun j _ => ?_)) (r10 m c t r d)
    refine congrArg₂ (· * ·) ((branch1 _ _ _ _ r j).trans ?_) ((ld_wb1 _ j d _).trans (r17 m c t 1 j d))
    simp only [r2, r3, r7, r15]
  · refine congrArg₂ (· * ·) (Finset.sum_congr rfl fun j _ => ?_) (r11 m c t r d)
    refine congrArg₂ (· * ·) ((branch2 _ _ _ _ r j).trans ?_) ((ld_wb2 _ j d _).trans (r17 m c t 2 j d))
    simp only [r4, r5, r8, r16]

/-- The result. -/
def res (c : Dev nD) : FVec Ideal S2x8192x1024 .f32 := fun y => (args m c).normed (y 0) (lat (y 1)) (y 2)

/-- A grid point's entry, where the result keeps it. -/
theorem res_at (c : Dev nD) (t : Fin cfg0.N) (r : Fin 256) (e : Fin 1024) (y : S2x8192x1024.Idx)
    (h0 : (y 0 : ℕ) = t.val / 32) (h1 : (y 1 : ℕ) = 256 * (t.val % 32) + r) (h2 : (y 2 : ℕ) = e) :
    (args m c).normed (bOf t) (lat (latOf t r)) e = res m c y := by
  unfold res
  have e0 : bOf t = y 0 := Fin.ext h0.symm
  have e1 : latOf t r = y 1 := Fin.ext h1.symm
  have e2 : e = y 2 := Fin.ext h2.symm
  rw [e0, e1, e2]

/-- The result after the run. -/
theorem final (c : Dev nD) : (dats m 0 c).arrAt 20 cfg0.N = res m c := by
  refine (dats m 0 c).arrAt_eq_of_covers 20 _ (by decide +kernel) fun t hf y => ?_
  blk_simp
  rw [after0_20]
  have hy2 : (y 2 : ℕ) < 1024 := (y 2).isLt
  have hy1 : (y 1 : ℕ) < 256 := (y 1).isLt
  obtain ⟨r, hr⟩ : ∃ r : Fin 256, (y 1 : ℕ) = r := ⟨⟨y 1, hy1⟩, rfl⟩
  obtain ⟨e, he⟩ : ∃ e : Fin 1024, (y 2 : ℕ) = e := ⟨⟨y 2, hy2⟩, rfl⟩
  have hy : y = ix3 0 r e := by blk_ext
  subst hy
  rw [out_at]
  refine res_at m c t r e _ ?_ ?_ ?_
  all_goals blk_simp [idx t]
  all_goals omega

/-- The run ends with the result, and the arguments as they were. -/
theorem run_res : θ_run defs (onTc (τ := τ) (main (F := Ideal))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (final m c), (h c).2⟩) (Cert.Kernel4Ideal.Value.run_blocks m ρ)

end Cert.Kernel4Ideal.Mrg

end
-- ==== Proof.Mrg4Ref.lean ====
/- What the last layer's merge's reference is, entry by entry, over the extended reals. -/
module

public import proofs.«01_k».proof.Proof.Gen.Reference4Ideal.Run
public import proofs.«01_k».proof.Proof.MergeMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Reference4Ideal.Mrg

open Cert.Merge Cert.Reference4Ideal Cert.Reference4Ideal.Gen Cert.Reference4Ideal.Value

/-- The latents of an array of tokens. -/
def latents (s : FVec Ideal S2x8448x1024 .bf16) : FVec Ideal S2x8192x1024 .bf16 :=
  extractStridedSlice S2x8192x1024 ![0, 256, 0] s slices_S2x8448x1024_S2x8192x1024_0_256_0

theorem latents_at (s : FVec Ideal S2x8448x1024 .bf16) (b : Fin 2) (t : Fin 8192) (j : Fin 1024) :
    latents s (ix3 b t j) = s (ix3 b (lat t) j) := by
  unfold latents lat
  pointwise [id]

/-- The latents of the projection. -/
def latentsP (s : FVec Ideal S2x8448x14336 .bf16) : FVec Ideal S2x8192x14336 .bf16 :=
  extractStridedSlice S2x8192x14336 ![0, 256, 0] s slices_S2x8448x14336_S2x8192x14336_0_256_0

theorem latentsP_at (s : FVec Ideal S2x8448x14336 .bf16) (b : Fin 2) (t : Fin 8192) (j : Fin 14336) :
    latentsP s (ix3 b t j) = s (ix3 b (lat t) j) := by
  unfold latentsP lat
  pointwise [id]

/-- A row times the root of its heads' mean squares, by heads of 256. -/
def heads256 (o : FVec Ideal S2x8192x1024 .f32) (n : FVec Ideal S256 .f32) : FVec Ideal S2x8192x1024 .f32 :=
  shapeCast _ (mulf (mulf (shapeCast _ o shapeCasts_S2x8192x1024_S2x8192x4x256) (broadcastInDim S2x8192x4x256 ![0, 1, 2, 3]
    bcast_S2x8192x4x1_S2x8192x4x256_0_1_2_3 (Host.rsqrt (addf (Host.divf (broadcastInDim S2x8192x4x1 ![0, 1, 2]
    bcast_S2x8192x4_S2x8192x4x1_0_1_2 (Host.reduceAdd (mulf (shapeCast _ o shapeCasts_S2x8192x1024_S2x8192x4x256)
    (shapeCast _ o shapeCasts_S2x8192x1024_S2x8192x4x256)) (constant S_ .f32 0x00000000#32)
    reducesTo_S2x8192x4x256_S2x8192x4_d3 h_S_)) (broadcastInDim S2x8192x4x1 ![] bcast_S_S2x8192x4x1
    (constant S_ .f32 0x43800000#32))) (broadcastInDim S2x8192x4x1 ![] bcast_S_S2x8192x4x1
    (constant S_ .f32 0x358637BD#32)))))) (broadcastInDim S2x8192x4x256 ![0, 1, 2, 3]
    bcast_S1x1x1x256_S2x8192x4x256_0_1_2_3 (broadcastInDim S1x1x1x256 ![3] bcast_S256_S1x1x1x256_3 n)))
    shapeCasts_S2x8192x4x256_S2x8192x1024

/-- The same by heads of 128. -/
def heads128 (o : FVec Ideal S2x8192x1024 .f32) (n : FVec Ideal S128 .f32) : FVec Ideal S2x8192x1024 .f32 :=
  shapeCast _ (mulf (mulf (shapeCast _ o shapeCasts_S2x8192x1024_S2x8192x8x128) (broadcastInDim S2x8192x8x128 ![0, 1, 2, 3]
    bcast_S2x8192x8x1_S2x8192x8x128_0_1_2_3 (Host.rsqrt (addf (Host.divf (broadcastInDim S2x8192x8x1 ![0, 1, 2]
    bcast_S2x8192x8_S2x8192x8x1_0_1_2 (Host.reduceAdd (mulf (shapeCast _ o shapeCasts_S2x8192x1024_S2x8192x8x128)
    (shapeCast _ o shapeCasts_S2x8192x1024_S2x8192x8x128)) (constant S_ .f32 0x00000000#32)
    reducesTo_S2x8192x8x128_S2x8192x8_d3 h_S_)) (broadcastInDim S2x8192x8x1 ![] bcast_S_S2x8192x8x1
    (constant S_ .f32 0x43000000#32))) (broadcastInDim S2x8192x8x1 ![] bcast_S_S2x8192x8x1
    (constant S_ .f32 0x358637BD#32)))))) (broadcastInDim S2x8192x8x128 ![0, 1, 2, 3]
    bcast_S1x1x1x128_S2x8192x8x128_0_1_2_3 (broadcastInDim S1x1x1x128 ![3] bcast_S128_S1x1x1x128_3 n)))
    shapeCasts_S2x8192x8x128_S2x8192x1024

set_option maxHeartbeats 2000000 in
theorem heads256_at (o : FVec Ideal S2x8192x1024 .f32) (n : FVec Ideal S256 .f32) (b : Fin 2) (t : Fin 8192) (j : Fin 1024) :
    heads256 o n (ix3 b t j) = norm256 (fun i => o (ix3 b t i)) (fun d => n (ix1 d)) j := by
  unfold heads256
  pointwise [id]
  exact norm256_at (fun i => o (ix3 b t i)) (fun d => n (ix1 d)) j j rfl
    (fun k => ⟨(j : ℕ) / 256 * 256 + k, by omega⟩) (fun k => Nat.add_right_cancel_iff.mpr (Nat.mul_comm _ _)) _ rfl

set_option maxHeartbeats 2000000 in
theorem heads128_at (o : FVec Ideal S2x8192x1024 .f32) (n : FVec Ideal S128 .f32) (b : Fin 2) (t : Fin 8192) (j : Fin 1024) :
    heads128 o n (ix3 b t j) = norm128 (fun i => o (ix3 b t i)) (fun d => n (ix1 d)) j := by
  unfold heads128
  pointwise [id]
  exact norm128_at (fun i => o (ix3 b t i)) (fun d => n (ix1 d)) j j rfl
    (fun k => ⟨(j : ℕ) / 128 * 128 + k, by omega⟩) (fun k => Nat.add_right_cancel_iff.mpr (Nat.mul_comm _ _)) _ rfl

theorem dot_at (H : FVec Ideal S2x8192x1024 .f32) (w : FVec Ideal S1024x1024 .f32) (b : Fin 2) (t : Fin 8192) (f : Fin 1024) :
    Host.dotGeneral dot_S2x8192x1024_S1024x1024_S2x8192x1024_2_0_01_1_n_n none H w (ix3 b t f)
      = ∑ d : Fin 1024, H (ix3 b t d) * w (ix2 d f) := by
  pointwise [id]

/-- The branches merged, as the reference's program computes them. -/
def mergedR (s0 s1 s2 s3 s4 s5 : FVec Ideal S2x8192x1024 .bf16) (p : FVec Ideal S2x8192x14336 .bf16) (n0 n1 : FVec Ideal S256 .f32)
    (n2 : FVec Ideal S128 .f32) (wb : FVec Ideal S3x1024x1024 .f32) : FVec Ideal S2x8192x1024 .f32 :=
  addf (addf
    (mulf (Host.dotGeneral dot_S2x8192x1024_S1024x1024_S2x8192x1024_2_0_01_1_n_n none
      (mulf (heads256 (addf (extf .f32 s0 bitsLt_bf16_f32) (extf .f32 s1 bitsLt_bf16_f32)) n0)
        (extf .f32 (extractStridedSlice S2x8192x1024 ![0, 0, 2048] p slices_S2x8192x14336_S2x8192x1024_0_0_2048) bitsLt_bf16_f32))
      (shapeCast _ (extractStridedSlice S1x1024x1024 ![0, 0, 0] wb slices_S3x1024x1024_S1x1024x1024_0_0_0)
        shapeCasts_S1x1024x1024_S1024x1024))
      (extf .f32 (extractStridedSlice S2x8192x1024 ![0, 0, 11264] p slices_S2x8192x14336_S2x8192x1024_0_0_11264) bitsLt_bf16_f32))
    (mulf (Host.dotGeneral dot_S2x8192x1024_S1024x1024_S2x8192x1024_2_0_01_1_n_n none
      (mulf (heads256 (addf (extf .f32 s2 bitsLt_bf16_f32) (extf .f32 s3 bitsLt_bf16_f32)) n1)
        (extf .f32 (extractStridedSlice S2x8192x1024 ![0, 0, 5120] p slices_S2x8192x14336_S2x8192x1024_0_0_5120) bitsLt_bf16_f32))
      (shapeCast _ (extractStridedSlice S1x1024x1024 ![1, 0, 0] wb slices_S3x1024x1024_S1x1024x1024_1_0_0)
        shapeCasts_S1x1024x1024_S1024x1024))
      (extf .f32 (extractStridedSlice S2x8192x1024 ![0, 0, 12288] p slices_S2x8192x14336_S2x8192x1024_0_0_12288) bitsLt_bf16_f32)))
    (mulf (Host.dotGeneral dot_S2x8192x1024_S1024x1024_S2x8192x1024_2_0_01_1_n_n none
      (mulf (heads128 (addf (extf .f32 s4 bitsLt_bf16_f32) (extf .f32 s5 bitsLt_bf16_f32)) n2)
        (extf .f32 (extractStridedSlice S2x8192x1024 ![0, 0, 10240] p slices_S2x8192x14336_S2x8192x1024_0_0_10240) bitsLt_bf16_f32))
      (shapeCast _ (extractStridedSlice S1x1024x1024 ![2, 0, 0] wb slices_S3x1024x1024_S1x1024x1024_2_0_0)
        shapeCasts_S1x1024x1024_S1024x1024))
      (extf .f32 (extractStridedSlice S2x8192x1024 ![0, 0, 13312] p slices_S2x8192x14336_S2x8192x1024_0_0_13312) bitsLt_bf16_f32))

/-- A branch's row, its heads normalized, gated and through its weights, times its merge gate. -/
theorem branch_at (H : FVec Ideal S2x8192x1024 .f32) (p : FVec Ideal S2x8192x14336 .bf16) (wb : FVec Ideal S3x1024x1024 .f32)
    (q : Fin 3) (i k : ℕ) (hi : i + 1024 ≤ 14336) (hk : k + 1024 ≤ 14336)
    (h1 : S2x8192x14336.Slices ![0, 0, i] S2x8192x1024) (h2 : S2x8192x14336.Slices ![0, 0, k] S2x8192x1024)
    (h3 : S3x1024x1024.Slices ![(q : ℕ), 0, 0] S1x1024x1024) (b : Fin 2) (t : Fin 8192) (d : Fin 1024) :
    mulf (Host.dotGeneral dot_S2x8192x1024_S1024x1024_S2x8192x1024_2_0_01_1_n_n none
      (mulf H (extf .f32 (extractStridedSlice S2x8192x1024 ![0, 0, i] p h1) bitsLt_bf16_f32))
      (shapeCast _ (extractStridedSlice S1x1024x1024 ![(q : ℕ), 0, 0] wb h3) shapeCasts_S1x1024x1024_S1024x1024))
      (extf .f32 (extractStridedSlice S2x8192x1024 ![0, 0, k] p h2) bitsLt_bf16_f32) (ix3 b t d)
      = (∑ j : Fin 1024, (H (ix3 b t j) * p (ix3 b t (pcol i hi j))) * wb (ix3 q j d)) * p (ix3 b t (pcol k hk d)) := by
  unfold pcol
  pointwise [id]

variable (m : (ℓ : Loc nD τ sig) → Buf (Elt Ideal) ℓ)

/-- The arguments, entry by entry. -/
def args (c : Dev nD) : Args where
  s0 := fun b t d => (m ((c.tc : Thread nD τ).loc main_arg0) : FVec Ideal S2x8448x1024 .bf16) (ix3 b t d)
  s1 := fun b t d => (m ((c.tc : Thread nD τ).loc main_arg1) : FVec Ideal S2x8448x1024 .bf16) (ix3 b t d)
  s2 := fun b t d => (m ((c.tc : Thread nD τ).loc main_arg2) : FVec Ideal S2x8448x1024 .bf16) (ix3 b t d)
  s3 := fun b t d => (m ((c.tc : Thread nD τ).loc main_arg3) : FVec Ideal S2x8448x1024 .bf16) (ix3 b t d)
  s4 := fun b t d => (m ((c.tc : Thread nD τ).loc main_arg4) : FVec Ideal S2x8448x1024 .bf16) (ix3 b t d)
  s5 := fun b t d => (m ((c.tc : Thread nD τ).loc main_arg5) : FVec Ideal S2x8448x1024 .bf16) (ix3 b t d)
  p := fun b t f => (m ((c.tc : Thread nD τ).loc main_arg6) : FVec Ideal S2x8448x14336 .bf16) (ix3 b t f)
  x := fun b t d => (m ((c.tc : Thread nD τ).loc main_arg7) : FVec Ideal S2x8448x1024 .f32) (ix3 b t d)
  mo := fun q f => (m ((c.tc : Thread nD τ).loc main_arg8) : FVec Ideal S8x3072 .f32) (ix2 q f)
  n0 := fun d => (m ((c.tc : Thread nD τ).loc main_arg9) : FVec Ideal S256 .f32) (ix1 d)
  n1 := fun d => (m ((c.tc : Thread nD τ).loc main_arg10) : FVec Ideal S256 .f32) (ix1 d)
  n2 := fun d => (m ((c.tc : Thread nD τ).loc main_arg11) : FVec Ideal S128 .f32) (ix1 d)
  wb := fun q j d => (m ((c.tc : Thread nD τ).loc main_arg12) : FVec Ideal S3x1024x1024 .f32) (ix3 q j d)
  wo := fun d e => (m ((c.tc : Thread nD τ).loc main_arg13) : FVec Ideal S1024x1024 .f32) (ix2 d e)
  nf := fun e => (m ((c.tc : Thread nD τ).loc main_arg14) : FVec Ideal S1024 .f32) (ix1 e)

/-- The branches merged, of the arguments' latents. -/
def M (c : Dev nD) : FVec Ideal S2x8192x1024 .f32 :=
  mergedR (latents (m ((c.tc : Thread nD τ).loc main_arg0))) (latents (m ((c.tc : Thread nD τ).loc main_arg1)))
    (latents (m ((c.tc : Thread nD τ).loc main_arg2))) (latents (m ((c.tc : Thread nD τ).loc main_arg3)))
    (latents (m ((c.tc : Thread nD τ).loc main_arg4))) (latents (m ((c.tc : Thread nD τ).loc main_arg5)))
    (latentsP (m ((c.tc : Thread nD τ).loc main_arg6))) (m ((c.tc : Thread nD τ).loc main_arg9)) (m ((c.tc : Thread nD τ).loc main_arg10))
    (m ((c.tc : Thread nD τ).loc main_arg11)) (m ((c.tc : Thread nD τ).loc main_arg12))

theorem sum_at (s s' : FVec Ideal S2x8448x1024 .bf16) (b : Fin 2) (t : Fin 8192) (j : Fin 1024) :
    addf (extf .f32 (latents s) bitsLt_bf16_f32) (extf .f32 (latents s') bitsLt_bf16_f32) (ix3 b t j)
      = s (ix3 b (lat t) j) + s' (ix3 b (lat t) j) := by
  rw [← latents_at s, ← latents_at s']
  rfl

theorem M_at (c : Dev nD) (b : Fin 2) (t : Fin 8192) (d : Fin 1024) : M m c (ix3 b t d) = (args m c).merged b (lat t) d := by
  unfold M mergedR Args.merged Args.b0 Args.b1 Args.b2
  refine congrArg₂ (· + ·) (congrArg₂ (· + ·) ?_ ?_) ?_
  · refine (branch_at _ _ _ 0 2048 11264 (by decide) (by decide) _ _ _ b t d).trans ?_
    simp only [heads256_at, latentsP_at, sum_at]
    rfl
  · refine (branch_at _ _ _ 1 5120 12288 (by decide) (by decide) _ _ _ b t d).trans ?_
    simp only [heads256_at, latentsP_at, sum_at]
    rfl
  · refine (branch_at _ _ _ 2 10240 13312 (by decide) (by decide) _ _ _ b t d).trans ?_
    simp only [heads128_at, latentsP_at, sum_at]
    rfl

/-- The residual step of the latents, as the reference's program computes it. -/
def stepR (x : FVec Ideal S2x8448x1024 .f32) (mo : FVec Ideal S8x3072 .f32) (E : FVec Ideal S2x8192x1024 .f32) :
    FVec Ideal S2x8192x1024 .f32 :=
  addf (extractStridedSlice S2x8192x1024 ![0, 256, 0] x slices_S2x8448x1024_S2x8192x1024_0_256_0)
    (mulf (broadcastInDim S2x8192x1024 ![0, 1, 2] bcast_S2x1x1024_S2x8192x1024_0_1_2
    (broadcastInDim S2x1x1024 ![0, 2] bcast_S2x1024_S2x1x1024_0_2 (extractStridedSlice S2x1024 ![0, 2048] mo
    slices_S8x3072_S2x1024_0_2048))) E)

theorem step_at (x : FVec Ideal S2x8448x1024 .f32) (mo : FVec Ideal S8x3072 .f32) (E : FVec Ideal S2x8192x1024 .f32)
    (b : Fin 2) (t : Fin 8192) (e : Fin 1024) :
    stepR x mo E (ix3 b t e) = x (ix3 b (lat t) e) + mo (ix2 (mrow b (lat t)) (gcol e)) * E (ix3 b t e) := by
  rw [mrow_lat]
  unfold stepR gcol lat
  pointwise [id]

/-- The final norm, as the reference's program computes it. -/
def normR (z : FVec Ideal S2x8192x1024 .f32) (n : FVec Ideal S1024 .f32) : FVec Ideal S2x8192x1024 .f32 :=
  mulf (mulf z (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf z z) (constant S_ .f32 0x00000000#32)
    reducesTo_S2x8192x1024_S2x8192_d2 h_S_)) (broadcastInDim S2x8192x1 ![] bcast_S_S2x8192x1 (constant S_ .f32 0x44800000#32)))
    (broadcastInDim S2x8192x1 ![] bcast_S_S2x8192x1 (constant S_ .f32 0x358637BD#32))))))
    (broadcastInDim S2x8192x1024 ![0, 1, 2] bcast_S1x1x1024_S2x8192x1024_0_1_2
    (broadcastInDim S1x1x1024 ![2] bcast_S1024_S1x1x1024_2 n))

theorem norm_at (z : FVec Ideal S2x8192x1024 .f32) (n : FVec Ideal S1024 .f32) (b : Fin 2) (t : Fin 8192) (e : Fin 1024) :
    normR z n (ix3 b t e) = norm1024 (fun d => z (ix3 b t d)) (fun d => n (ix1 d)) e := by
  unfold normR norm1024 scale
  pointwise [id]

/-- The reference's result, entry by entry. -/
theorem res_at (c : Dev nD) (b : Fin 2) (t : Fin 8192) (e : Fin 1024) :
    (res_main_v109 m c : FVec Ideal S2x8192x1024 .f32) (ix3 b t e) = (args m c).normed b (lat t) e := by
  have h : res_main_v109 m c = normR (stepR (m ((c.tc : Thread nD τ).loc main_arg7)) (m ((c.tc : Thread nD τ).loc main_arg8))
      (Host.dotGeneral (φ₁ := .f32) (φ₂ := .f32) dot_S2x8192x1024_S1024x1024_S2x8192x1024_2_0_01_1_n_n none (M m c)
        (m ((c.tc : Thread nD τ).loc main_arg13) : FVec Ideal S1024x1024 .f32))) (m ((c.tc : Thread nD τ).loc main_arg14)) := by
    unfold res_main_v109 normR stepR M mergedR heads256 heads128 latents latentsP
    rfl
  rw [h, norm_at]
  simp only [step_at, dot_at, M_at]
  rfl

end Cert.Reference4Ideal.Mrg

end
-- ==== Proof.Mod5Out.lean ====
/- The modulation's result after the run, as an array of the arguments, over the extended reals. -/
module

public import proofs.«01_k».proof.Proof.Gen.Kernel5Ideal.Value
public import proofs.«01_k».proof.Proof.ProjMath
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mod

/-- The conditioning vectors row by row: the two sequences', the context's, and zeros. -/
def cin (c : Fin 2 → Fin 1024 → EReal) (cc : Fin 1024 → EReal) (q : Fin 8) (d : Fin 1024) : EReal :=
  if h : (q : ℕ) < 2 then c ⟨q, h⟩ d else if (q : ℕ) < 3 then cc d else Ideal.ofBits .f32 0x00000000#32

/-- Where the vectors are real numbers, so are the rows. -/
theorem cin_real (c : Fin 2 → Fin 1024 → EReal) (cc : Fin 1024 → EReal) (hc : ∀ q d, ∃ r : ℝ, c q d = r)
    (hcc : ∀ d, ∃ r : ℝ, cc d = r) (q : Fin 8) (d : Fin 1024) : ∃ r : ℝ, cin c cc q d = r := by
  unfold cin
  split
  · exact hc _ _
  · split
    · exact hcc _
    · exact ⟨0, Cert.Proj.zero_eq⟩

end Cert.Mod

namespace Cert.Kernel5Ideal.Mod

open Cert.Mod Cert.Proj Cert.Kernel5Ideal Cert.Kernel5Ideal.Gen

/-- The rows, as the call's host code joins them. -/
def joined (c : FVec Ideal S2x1024 .f32) (cc : FVec Ideal S1024 .f32) : FVec Ideal S8x1024 .f32 :=
  concatenate S8x1024 0 [⟨S2x1024, c⟩, ⟨S1x1024, broadcastInDim S1x1024 ![1] bcast_S1024_S1x1024_1 cc⟩,
    ⟨S5x1024, broadcastInDim S5x1024 ![] bcast_S_S5x1024 (constant S_ .f32 0x00000000#32)⟩]
    concatenates_S2x1024_S1x1024_S5x1024_S8x1024_d0

theorem joined_at (c : FVec Ideal S2x1024 .f32) (cc : FVec Ideal S1024 .f32) (q : Fin 8) (d : Fin 1024) :
    joined c cc (ix2 q d) = cin (fun q d => c (ix2 q d)) (fun d => cc (ix1 d)) q d := by
  unfold joined cin
  pointwise [id]
  split_ifs <;> first | rfl | omega

variable (m : (ℓ : Loc nD τ sig) → Buf (Elt Ideal) ℓ) (ρ : Dev nD → PrngReg)

/-- The rows that the call reads. -/
def rows (c : Dev nD) : Fin 8 → Fin 1024 → EReal :=
  cin (fun q d => (m ((c : Thread nD τ).loc main_arg0) : FVec Ideal S2x1024 .f32) (ix2 q d))
    (fun d => (m ((c : Thread nD τ).loc main_arg1) : FVec Ideal S1024 .f32) (ix1 d))

/-- The weights. -/
def W (c : Dev nD) (l : Fin 2) (d : Fin 1024) (f : Fin 3072) : EReal :=
  (m ((c : Thread nD τ).loc main_arg2) : FVec Ideal S2x1024x3072 .f32) (ix3 l d f)

/-- The bias. -/
def B (c : Dev nD) (l : Fin 2) (f : Fin 3072) : EReal :=
  (m ((c : Thread nD τ).loc main_arg3) : FVec Ideal S2x3072 .f32) (ix2 l f)

/-- Where the windows stand at each grid point. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] ∧ t.val / 3 < 2 :=
  (by decide +kernel : ∀ t : Fin grid0.N, _)

/-- The layer of a grid point. -/
def lOf (t : Fin cfg0.N) : Fin 2 := ⟨t.val / 3, (idx t).2.2.2.2⟩

/-- The column of a grid point's block. -/
def fOf (t : Fin cfg0.N) (f : Fin 1024) : Fin 3072 := ⟨1024 * (t.val % 3) + f, by omega⟩

theorem r0 (c : Dev nD) (t : Fin cfg0.N) (q : Fin 8) (d : Fin 1024) :
    (iblk m c 0 t : FVec Ideal S8x1024 .f32) (ix2 q d) = rows m c q d := by
  have hX : (V m c main_v2 : FVec Ideal S8x1024 .f32)
      = joined (m ((c : Thread nD τ).loc main_arg0)) (m ((c : Thread nD τ).loc main_arg1)) := by
    unfold V
    after_results_simp <;> (try dsimp only [Matrix.cons_val]) <;> (try after_results_simp) <;> rfl
  have hV : (V m c main_v2 : FVec Ideal S8x1024 .f32) (ix2 q d) = rows m c q d := by
    rw [hX]
    exact joined_at _ _ q d
  rw [← hV]
  unfold iblk
  generalize V m c main_v2 = w
  blk_ext [idx t]

theorem r1 (c : Dev nD) (t : Fin cfg0.N) (d f : Fin 1024) :
    (iblk m c 1 t : FVec Ideal S1x1024x1024 .f32) (ix3 0 d f) = W m c (lOf t) d (fOf t f) := by
  unfold W lOf fOf
  blk_ext [iblk, V, idx t]

theorem r2 (c : Dev nD) (t : Fin cfg0.N) (f : Fin 1024) :
    (iblk m c 2 t : FVec Ideal S1x1x1024 .f32) (ix3 0 0 f) = B m c (lOf t) (fOf t f) := by
  have hV : ∀ (l : Fin 2) (f : Fin 3072), (V m c main_v3 : FVec Ideal S2x1x3072 .f32) (ix3 l 0 f) = B m c l f := fun l f => by
    unfold V B
    after_reads_simp
    pointwise [id]
  rw [← hV]
  unfold iblk lOf fOf
  generalize V m c main_v3 = w
  blk_ext [idx t]

/-- A row through the weights, and the bias. -/
theorem pay_at (x : FVec Ideal S8x1024 .f32) (w : FVec Ideal S1x1024x1024 .f32) (b : FVec Ideal S1x1x1024 .f32) (q : Fin 8)
    (f : Fin 1024) :
    k0_pay1 (F := Ideal) x w b (ix3 0 q f) = (∑ d : Fin 1024, siluK (x (ix2 q d)) * w (ix3 0 d f)) + b (ix3 0 0 f) := by
  pointwise [k0_pay1, siluK]

/-- An entry of the modulation. -/
def modAt (c : Dev nD) (l : Fin 2) (q : Fin 8) (f : Fin 3072) : EReal :=
  (∑ d : Fin 1024, siluK (rows m c q d) * W m c l d f) + B m c l f

/-- A block's entry after the body. -/
theorem out_at (c : Dev nD) (t : Fin cfg0.N) (q : Fin 8) (f : Fin 1024) :
    (out0_3 (iblk m c 0 t) (iblk m c 1 t) (iblk m c 2 t) : FVec Ideal S1x8x1024 .f32) (ix3 0 q f)
      = modAt m c (lOf t) q (fOf t f) := by
  unfold out0_3 modAt
  frame_out
  erw [pay_at]
  simp only [r0, r1, r2]

/-- The result. -/
def res (c : Dev nD) : FVec Ideal S2x8x3072 .f32 := fun y => modAt m c (y 0) (y 1) (y 2)

/-- A grid point's entry, where the result keeps it. -/
theorem res_at (c : Dev nD) (t : Fin cfg0.N) (q : Fin 8) (f : Fin 1024) (y : S2x8x3072.Idx)
    (h0 : (y 0 : ℕ) = t.val / 3) (h1 : (y 1 : ℕ) = q) (h2 : (y 2 : ℕ) = 1024 * (t.val % 3) + f) :
    modAt m c (lOf t) q (fOf t f) = res m c y := by
  unfold res
  have e0 : lOf t = y 0 := Fin.ext h0.symm
  have e1 : q = y 1 := Fin.ext h1.symm
  have e2 : fOf t f = y 2 := Fin.ext h2.symm
  rw [e0, e1, e2]

/-- The result after the run. -/
theorem final (c : Dev nD) : (dats m 0 c).arrAt 3 cfg0.N = res m c := by
  refine (dats m 0 c).arrAt_eq_of_covers 3 _ (by decide +kernel) fun t hf y => ?_
  blk_simp
  rw [after0_3]
  have hy2 : (y 2 : ℕ) < 1024 := (y 2).isLt
  have hy1 : (y 1 : ℕ) < 8 := (y 1).isLt
  obtain ⟨q, hq⟩ : ∃ q : Fin 8, (y 1 : ℕ) = q := ⟨⟨y 1, hy1⟩, rfl⟩
  obtain ⟨f, hf⟩ : ∃ f : Fin 1024, (y 2 : ℕ) = f := ⟨⟨y 2, hy2⟩, rfl⟩
  have hy : y = ix3 0 q f := by blk_ext
  subst hy
  rw [out_at]
  refine res_at m c t q f _ ?_ ?_ ?_
  all_goals blk_simp [idx t]
  all_goals omega

/-- The run ends with the result, and the arguments as they were. -/
theorem run_res : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m c), (h c).2⟩) (Cert.Kernel5Ideal.Value.run_blocks m ρ)

end Cert.Kernel5Ideal.Mod

end
-- ==== Proof.Mod5Ref.lean ====
/- What the modulation's reference is, entry by entry, over the extended reals, and that the kernel's result is equal to it. -/
module

public import proofs.«01_k».proof.Proof.Gen.Reference5Ideal.Run
public import proofs.«01_k».proof.Proof.Mod5Out
public import proofs.«01_k».proof.Proof.RetFinite
public import proofs.«01_k».proof.Defs

@[expose] public section

set_option maxRecDepth 16384

noncomputable section

open Idealize.ShloMosaic Idealize.ShloMosaic.TcCoe Idealize.SL.Sem Idealize.ShloMosaic.StableHlo

namespace Cert.Pre_finite5

/-- The side conditions of the precondition's operations. -/
theorem facts : Facts where
  bcast_S_S2x1024 := by decide
  bcast_S_S1024 := by decide

end Cert.Pre_finite5

namespace Cert.Reference5Ideal.Mod

open Cert.Mod Cert.Proj Cert.Reference5Ideal Cert.Reference5Ideal.Gen

/-- The rows, as the reference's program joins them. -/
def rowsR (c : FVec Ideal S2x1024 .f32) (cc : FVec Ideal S1024 .f32) : FVec Ideal S8x1024 .f32 :=
  concatenate S8x1024 0 [⟨S2x1024, c⟩, ⟨S1x1024, broadcastInDim S1x1024 ![1] bcast_S1024_S1x1024_1 cc⟩,
    ⟨S5x1024, broadcastInDim S5x1024 ![] bcast_S_S5x1024 (constant S_ .f32 0x00000000#32)⟩]
    concatenates_S2x1024_S1x1024_S5x1024_S8x1024_d0

theorem rowsR_at (c : FVec Ideal S2x1024 .f32) (cc : FVec Ideal S1024 .f32) (q : Fin 8) (d : Fin 1024) :
    rowsR c cc (ix2 q d) = cin (fun q d => c (ix2 q d)) (fun d => cc (ix1 d)) q d := by
  unfold rowsR cin
  pointwise [id]
  split_ifs <;> first | rfl | omega

/-- The rows' activation, as the reference's program computes it. -/
def actR (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

theorem actR_at (x : FVec Ideal S8x1024 .f32) (q : Fin 8) (d : Fin 1024) : actR x (ix2 q d) = siluR (x (ix2 q d)) := by
  unfold actR
  pointwise [siluR, gateR]

/-- One layer's modulation, as the reference's program computes it. -/
def layerR (n : ℕ) (h1 : S2x1024x3072.Slices ![n, 0, 0] S1x1024x3072) (h2 : S2x3072.Slices ![n, 0] S1x3072)
    (x : FVec Ideal S8x1024 .f32) (w : FVec Ideal S2x1024x3072 .f32) (b : FVec Ideal S2x3072 .f32) : FVec Ideal S8x3072 .f32 :=
  addf (Host.dotGeneral (φ₁ := .f32) (φ₂ := .f32) dot_S8x1024_S1024x3072_S8x3072_1_0_0_1_n_n none x
      (shapeCast _ (extractStridedSlice S1x1024x3072 ![n, 0, 0] w h1) shapeCasts_S1x1024x3072_S1024x3072))
    (broadcastInDim S8x3072 ![0, 1] bcast_S1x3072_S8x3072_0_1 (broadcastInDim S1x3072 ![1] bcast_S3072_S1x3072_1
      (shapeCast _ (extractStridedSlice S1x3072 ![n, 0] b h2) shapeCasts_S1x3072_S3072)))

theorem layerR_at (n : Fin 2) (h1 : S2x1024x3072.Slices ![(n : ℕ), 0, 0] S1x1024x3072) (h2 : S2x3072.Slices ![(n : ℕ), 0] S1x3072)
    (x : FVec Ideal S8x1024 .f32) (w : FVec Ideal S2x1024x3072 .f32) (b : FVec Ideal S2x3072 .f32) (q : Fin 8) (f : Fin 3072) :
    layerR n h1 h2 x w b (ix2 q f) = (∑ d : Fin 1024, x (ix2 q d) * w (ix3 n d f)) + b (ix2 n f) := by
  unfold layerR
  pointwise [id]

/-- The two layers' modulations, stacked. -/
def stackR (a b : FVec Ideal S8x3072 .f32) : FVec Ideal S2x8x3072 .f32 :=
  concatenate S2x8x3072 0 [⟨S1x8x3072, broadcastInDim S1x8x3072 ![1, 2] bcast_S8x3072_S1x8x3072_1_2 a⟩,
    ⟨S1x8x3072, broadcastInDim S1x8x3072 ![1, 2] bcast_S8x3072_S1x8x3072_1_2 b⟩] concatenates_S1x8x3072_S1x8x3072_S2x8x3072_d0

theorem stackR_at (a b : FVec Ideal S8x3072 .f32) (l : Fin 2) (q : Fin 8) (f : Fin 3072) :
    stackR a b (ix3 l q f) = if (l : ℕ) < 1 then a (ix2 q f) else b (ix2 q f) := by
  unfold stackR
  pointwise [id]
  split_ifs <;> rfl

/-- The reference's result, as its program computes it. -/
def resR (c : FVec Ideal S2x1024 .f32) (cc : FVec Ideal S1024 .f32) (w : FVec Ideal S2x1024x3072 .f32) (b : FVec Ideal S2x3072 .f32) :
    FVec Ideal S2x8x3072 .f32 :=
  stackR (layerR 0 slices_S2x1024x3072_S1x1024x3072_0_0_0 slices_S2x3072_S1x3072_0_0 (actR (rowsR c cc)) w b)
    (layerR 1 slices_S2x1024x3072_S1x1024x3072_1_0_0 slices_S2x3072_S1x3072_1_0 (actR (rowsR c cc)) w b)

theorem resR_at (c : FVec Ideal S2x1024 .f32) (cc : FVec Ideal S1024 .f32) (w : FVec Ideal S2x1024x3072 .f32)
    (b : FVec Ideal S2x3072 .f32) (l : Fin 2) (q : Fin 8) (f : Fin 3072) :
    resR c cc w b (ix3 l q f)
      = (∑ d : Fin 1024, siluR (cin (fun q d => c (ix2 q d)) (fun d => cc (ix1 d)) q d) * w (ix3 l d f)) + b (ix2 l f) := by
  unfold resR
  rw [stackR_at]
  split
  · have hl : l = 0 := Fin.ext (by show (l : ℕ) = 0; omega)
    subst hl
    refine (layerR_at 0 _ _ _ _ _ q f).trans ?_
    simp only [actR_at, rowsR_at]
  · have hl : l = 1 := Fin.ext (by show (l : ℕ) = 1; omega)
    subst hl
    refine (layerR_at 1 _ _ _ _ _ q f).trans ?_
    simp only [actR_at, rowsR_at]

end Cert.Reference5Ideal.Mod

namespace Cert.Kernel5Ideal.Mod

open Cert.Mod Cert.Proj Cert.Kernel5Ideal Cert.Kernel5Ideal.Gen

variable (m : (ℓ : Loc nD τ sig) → Buf (Elt Ideal) ℓ)

/-- Where the conditioning vectors are finite, the rows are real numbers. -/
theorem rows_real [hPre : Cert.Pre_finite5.Facts] (h : Cert.Pre_Kernel5Ideal_finite5 m) (c : Dev nD) (q : Fin 8) (d : Fin 1024) :
    ∃ r : ℝ, rows m c q d = r := by
  obtain ⟨h0, h1⟩ := h c
  exact cin_real _ _ (fun q d => Cert.KernelIdeal.Ret.real_of_abs _ (congrFun h0 (ix2 q d)))
    (fun d => Cert.KernelIdeal.Ret.real_of_abs _ (congrFun h1 (ix1 d))) q d

/-- The kernel's result is the reference's. -/
theorem res_eq [hPre : Cert.Pre_finite5.Facts] (h : Cert.Pre_Kernel5Ideal_finite5 m) (c : Dev nD) :
    Cert.Reference5Ideal.Mod.resR (m ((c : Thread nD τ).loc main_arg0)) (m ((c : Thread nD τ).loc main_arg1))
      (m ((c : Thread nD τ).loc main_arg2)) (m ((c : Thread nD τ).loc main_arg3)) = res m c := by
  funext y
  obtain ⟨l, hl⟩ : ∃ l : Fin 2, y 0 = l := ⟨_, rfl⟩
  obtain ⟨q, hq⟩ : ∃ q : Fin 8, y 1 = q := ⟨_, rfl⟩
  obtain ⟨f, hf⟩ : ∃ f : Fin 3072, y 2 = f := ⟨_, rfl⟩
  have hy : y = ix3 l q f := by subst hl hq hf; blk_ext
  subst hy
  refine (Cert.Reference5Ideal.Mod.resR_at _ _ _ _ l q f).trans ?_
  show _ = modAt m c l q f
  unfold modAt W B
  refine congrArg (· + _) (Finset.sum_congr rfl fun d _ => congrArg (· * _) ?_)
  obtain ⟨r, hr⟩ := rows_real m h c q d
  rw [hr, silu_eq, ← hr]
  rfl

end Cert.Kernel5Ideal.Mod

end
-- ==== Proof.Low6.lean ====
/- The forget gates' lower bounds after the run, as the reference's, over the extended reals. -/
module

public import proofs.«01_k».proof.Proof.Gen.Kernel6Ideal.Value
public import proofs.«01_k».proof.Proof.Gen.Reference6Ideal.Run
public import proofs.«01_k».proof.Proof.ProjMath
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem

namespace Cert.Low

/-- Of two layers' numbers `a` and `b`, the softmax's value at the one that is `t`. -/
def soft (a b t : EReal) : EReal := Ideal.div (Ideal.exp (t - max a b)) (Ideal.exp (a - max a b) + Ideal.exp (b - max a b))

/-- The softmax over the two layers, summed up to layer `l`, less the first layer's. -/
def low (v : Fin 2 → EReal) (l : Fin 2) : EReal :=
  (if l = 0 then soft (v 0) (v 1) (v 0) else soft (v 0) (v 1) (v 0) + soft (v 0) (v 1) (v 1)) - soft (v 0) (v 1) (v 0)

/-- A fold over two positions. -/
theorem fold_two {β : Type} {n : ℕ} (hn : n = 2) (g : β → Fin n → β) (b : β) :
    (List.finRange n).foldl g b = g (g b ⟨0, by omega⟩) ⟨1, by omega⟩ := by
  subst hn
  rfl

end Cert.Low

namespace Cert.Kernel6Ideal.Low

open Cert.Low Cert.Kernel6Ideal Cert.Kernel6Ideal.Gen

/-- What is stored in the first layer's block. -/
theorem pay8_at (u v : Vec Ideal S1x2x1024 .f32) (q : Fin 2) (f : Fin 1024) :
    k0_pay8 u v (ix3 0 q f) = soft (u (ix3 0 q f)) (v (ix3 0 q f)) (u (ix3 0 q f)) - soft (u (ix3 0 q f)) (v (ix3 0 q f)) (u (ix3 0 q f)) := by
  unfold k0_pay8 k0_pay7 k0_pay6 k0_pay5 k0_pay4 k0_pay3 k0_pay2 k0_pay1 soft
  pointwise [id]

/-- What is stored in the second layer's block. -/
theorem pay9_at (u v : Vec Ideal S1x2x1024 .f32) (q : Fin 2) (f : Fin 1024) :
    k0_pay9 u v (ix3 0 q f) = soft (u (ix3 0 q f)) (v (ix3 0 q f)) (u (ix3 0 q f)) + soft (u (ix3 0 q f)) (v (ix3 0 q f)) (v (ix3 0 q f))
      - soft (u (ix3 0 q f)) (v (ix3 0 q f)) (u (ix3 0 q f)) := by
  unfold k0_pay9 k0_pay7 k0_pay6 k0_pay5 k0_pay4 k0_pay3 k0_pay2 k0_pay1 soft
  pointwise [id]

/-- A layer of the numbers. -/
theorem ld0 (x : FVec Ideal S2x2x1024 .f32) (q : Fin 2) (f : Fin 1024) :
    View.ld (Val := Elt Ideal) (e' := .f32) x r0_0 (ix3 0 q f) = x (ix3 0 q f) := by
  refine congrArg x ?_
  blk_ext
  · show 0 + 1 * 0 = (0 : ℕ); omega
  · show 0 + 1 * (q : ℕ) = q; omega
  · show 0 + 1 * (f : ℕ) = f; omega

theorem ld1 (x : FVec Ideal S2x2x1024 .f32) (q : Fin 2) (f : Fin 1024) :
    View.ld (Val := Elt Ideal) (e' := .f32) x r0_1 (ix3 0 q f) = x (ix3 1 q f) := by
  refine congrArg x ?_
  blk_ext
  · show 1 + 1 * 0 = (1 : ℕ); omega
  · show 0 + 1 * (q : ℕ) = q; omega
  · show 0 + 1 * (f : ℕ) = f; omega

/-- An entry of the call's result. -/
theorem res_at (x : FVec Ideal S2x2x1024 .f32) (l q : Fin 2) (f : Fin 1024) :
    (Value.G1 (F := Ideal) x : FVec Ideal S2x2x1024 .f32) (ix3 l q f) = low (fun l => x (ix3 l q f)) l := by
  unfold Value.G1 low
  refine View.canon_eq_of_allAt _ _ _ (cover0_1 _ _ _) (View.allAt_cons_unit _ _ _ _ _ ?_
    (View.allAt_cons_unit _ _ _ _ _ ?_ (View.allAt_nil _ _)))
  · intro y hy
    have h0 : (l : ℕ) = 1 + (y 0 : ℕ) := hy 0
    have h1 : (q : ℕ) = 0 + (y 1 : ℕ) := hy 1
    have h2 : (f : ℕ) = 0 + (y 2 : ℕ) := hy 2
    have e : y = ix3 0 q f := by blk_ext
    subst e
    have hl : l = 1 := by omega
    subst hl
    rw [if_neg (by decide)]
    refine (pay9_at _ _ q f).trans ?_
    rw [ld0, ld1]
  · intro y hy
    have h0 : (l : ℕ) = 0 + (y 0 : ℕ) := hy 0
    have h1 : (q : ℕ) = 0 + (y 1 : ℕ) := hy 1
    have h2 : (f : ℕ) = 0 + (y 2 : ℕ) := hy 2
    have hy0 : (y 0 : ℕ) < 1 := (y 0).isLt
    have e : y = ix3 0 q f := by blk_ext
    subst e
    have hl : l = 0 := by omega
    subst hl
    rw [if_pos rfl]
    refine (pay8_at _ _ q f).trans ?_
    rw [ld0, ld1]

end Cert.Kernel6Ideal.Low

namespace Cert.Reference6Ideal.Low

open Cert.Low Cert.Proj Cert.Reference6Ideal Cert.Reference6Ideal.Gen

/-- The word that the greatest is taken from. -/
theorem neg_inf : Ideal.ofBits .f32 0xFF800000#32 = ⊥ := by
  simp [Ideal.ofBits, Ideal.ieee]

/-- The exponentials, each less the layers' greatest. -/
def expR (x : FVec Ideal S2x2x1024 .f32) : FVec Ideal S2x2x1024 .f32 :=
  Host.exp (subf x (broadcastInDim S2x2x1024 ![0, 1, 2] bcast_S1x2x1024_S2x2x1024_0_1_2
    (broadcastInDim S1x2x1024 ![1, 2] bcast_S2x1024_S1x2x1024_1_2
      (Host.reduce FloatOps.maximumf x (constant S_ .f32 0xFF800000#32) reducesTo_S2x2x1024_S2x1024_d0 h_S_))))

theorem expR_at (x : FVec Ideal S2x2x1024 .f32) (l q : Fin 2) (f : Fin 1024) :
    expR x (ix3 l q f) = Ideal.exp (x (ix3 l q f) - max (x (ix3 0 q f)) (x (ix3 1 q f))) := by
  have h : Finset.fold max (Ideal.ofBits .f32 0xFF800000#32) (fun k : Fin 2 => x (ix3 k q f)) Finset.univ
      = max (x (ix3 0 q f)) (x (ix3 1 q f)) := by
    have hu : (Finset.univ : Finset (Fin 2)) = {0, 1} := by decide
    rw [hu, Finset.fold_insert (by decide), Finset.fold_singleton, neg_inf]
    simp
  rw [← h]
  unfold expR
  pointwise [id]

/-- The softmax over the layers. -/
def softR (x : FVec Ideal S2x2x1024 .f32) : FVec Ideal S2x2x1024 .f32 :=
  Host.divf (expR x) (broadcastInDim S2x2x1024 ![0, 1, 2] bcast_S1x2x1024_S2x2x1024_0_1_2
    (broadcastInDim S1x2x1024 ![1, 2] bcast_S2x1024_S1x2x1024_1_2
      (Host.reduceAdd (expR x) (constant S_ .f32 0x00000000#32) reducesTo_S2x2x1024_S2x1024_d0 h_S_)))

theorem softR_at (x : FVec Ideal S2x2x1024 .f32) (l q : Fin 2) (f : Fin 1024) :
    softR x (ix3 l q f) = soft (x (ix3 0 q f)) (x (ix3 1 q f)) (x (ix3 l q f)) := by
  have h : softR x (ix3 l q f) = Ideal.div (expR x (ix3 l q f)) (∑ k : Fin 2, expR x (ix3 k q f)) := by
    unfold softR
    pointwise [id]
  rw [h, Fin.sum_univ_two]
  simp only [expR_at]
  rfl

/-- The sums up to each layer. -/
def cumR (x : FVec Ideal S2x2x1024 .f32) : FVec Ideal S2x2x1024 .f32 :=
  Host.reduceWindowAdd ![2, 1, 1] ![1, 1, 1] ![1, 0, 0] ![0, 0, 0] x (broadcastInDim S_ ![] bcast_S_S_ (constant S_ .f32 0x00000000#32))
    reduceWindows_S2x2x1024_S2x2x1024_w2s1p1_0_w1s1p0_0_w1s1p0_0 h_S_

/-- The shape of a window: two layers. -/
abbrev win : Shape := ⟨3, ![2, 1, 1]⟩

/-- Where a window's positions stand. -/
theorem win_at : ∀ n : Fin win.numel, (win.rowMajor.symm n 0 : ℕ) = n ∧ (win.rowMajor.symm n 1 : ℕ) = 0 ∧ (win.rowMajor.symm n 2 : ℕ) = 0 := by
  decide

/-- What one position of a window holds: the array's entry there, or nothing before the first layer. -/
theorem pos_at (x : FVec Ideal S2x2x1024 .f32) (l q : Fin 2) (f : Fin 1024) (n : Fin win.numel) (z : EReal) (p : Fin 3 → ℕ)
    {dec : Decidable (∀ a : Fin 3, (![1, 0, 0] : Fin 3 → ℕ) a ≤ p a ∧ p a - (![1, 0, 0] : Fin 3 → ℕ) a < S2x2x1024.size a)}
    (h0 : p 0 = l + n) (h1 : p 1 = q) (h2 : p 2 = f) :
    (if hin : ∀ a : Fin 3, (![1, 0, 0] : Fin 3 → ℕ) a ≤ p a ∧ p a - (![1, 0, 0] : Fin 3 → ℕ) a < S2x2x1024.size a then
        (x (fun a => ⟨p a - (![1, 0, 0] : Fin 3 → ℕ) a, (hin a).2⟩) : EReal) else z)
      = if h : 1 ≤ (l : ℕ) + n ∧ (l : ℕ) + n - 1 < 2 then x (ix3 ⟨(l : ℕ) + n - 1, h.2⟩ q f) else z := by
  by_cases h : 1 ≤ (l : ℕ) + n ∧ (l : ℕ) + n - 1 < 2
  · have hin : ∀ a : Fin 3, (![1, 0, 0] : Fin 3 → ℕ) a ≤ p a ∧ p a - (![1, 0, 0] : Fin 3 → ℕ) a < S2x2x1024.size a := by
      intro a
      match a with
      | ⟨0, _⟩ => show 1 ≤ p 0 ∧ p 0 - 1 < 2; omega
      | ⟨1, _⟩ => show 0 ≤ p 1 ∧ p 1 - 0 < 2; omega
      | ⟨2, _⟩ => show 0 ≤ p 2 ∧ p 2 - 0 < 1024; omega
    rw [dif_pos h, dif_pos hin]
    refine congrArg x ?_
    funext a
    apply Fin.ext
    match a with
    | ⟨0, _⟩ => show p 0 - 1 = (l : ℕ) + n - 1; omega
    | ⟨1, _⟩ => show p 1 - 0 = (q : ℕ); omega
    | ⟨2, _⟩ => show p 2 - 0 = (f : ℕ); omega
  · have hin : ¬ ∀ a : Fin 3, (![1, 0, 0] : Fin 3 → ℕ) a ≤ p a ∧ p a - (![1, 0, 0] : Fin 3 → ℕ) a < S2x2x1024.size a := fun hin => by
      have h' : 1 ≤ p 0 ∧ p 0 - 1 < 2 := hin 0
      omega
    rw [dif_neg h, dif_neg hin]

/-- The sum up to each layer. -/
theorem cumR_at (x : FVec Ideal S2x2x1024 .f32) (l q : Fin 2) (f : Fin 1024) :
    cumR x (ix3 l q f) = if l = 0 then x (ix3 0 q f) else x (ix3 0 q f) + x (ix3 1 q f) := by
  unfold cumR Host.reduceWindowAdd
  show Host.reduceWindow (· + ·) ![2, 1, 1] ![1, 1, 1] ![1, 0, 0] ![0, 0, 0] x
    (fun _ : (⟨0, ![]⟩ : Shape).Idx => Ideal.ofBits .f32 0x00000000#32) reduceWindows_S2x2x1024_S2x2x1024_w2s1p1_0_w1s1p0_0_w1s1p0_0 (by decide) _ = _
  unfold Host.reduceWindow
  refine (fold_two (by decide) _ _).trans ?_
  let P : Fin win.numel → Fin 3 → ℕ := fun n a =>
    ((ix3 l q f : S2x2x1024.Idx) a : ℕ) * (![1, 1, 1] : Fin 3 → ℕ) a + (win.rowMajor.symm n a : ℕ)
  have hp : ∀ n : Fin win.numel, (l : ℕ) * 1 + (win.rowMajor.symm n 0 : ℕ) = l + n
      ∧ (q : ℕ) * 1 + (win.rowMajor.symm n 1 : ℕ) = q ∧ (f : ℕ) * 1 + (win.rowMajor.symm n 2 : ℕ) = f := fun n => by
    have := win_at n
    omega
  refine (congrArg₂ (fun a b : EReal => (Ideal.ofBits .f32 0x00000000#32 + a) + b)
    (pos_at x l q f ⟨0, by decide⟩ _ (P ⟨0, by decide⟩) (hp _).1 (hp _).2.1 (hp _).2.2)
    (pos_at x l q f ⟨1, by decide⟩ _ (P ⟨1, by decide⟩) (hp _).1 (hp _).2.1 (hp _).2.2)).trans ?_
  rw [zero_eq]
  fin_cases l <;> simp <;> rfl

/-- The reference's result, as its program computes it. -/
def resR (x : FVec Ideal S2x2x1024 .f32) : FVec Ideal S2x2x1024 .f32 :=
  subf (cumR (softR x)) (broadcastInDim S2x2x1024 ![0, 1, 2] bcast_S1x2x1024_S2x2x1024_0_1_2
    (extractStridedSlice S1x2x1024 ![0, 0, 0] (softR x) slices_S2x2x1024_S1x2x1024_0_0_0))

theorem resR_at (x : FVec Ideal S2x2x1024 .f32) (l q : Fin 2) (f : Fin 1024) :
    resR x (ix3 l q f) = low (fun l => x (ix3 l q f)) l := by
  have h : resR x (ix3 l q f) = cumR (softR x) (ix3 l q f) - softR x (ix3 0 q f) := by
    unfold resR
    pointwise [id]
  rw [h, cumR_at]
  simp only [softR_at]
  rfl

end Cert.Reference6Ideal.Low

namespace Cert.Low

/-- The reference's result is the call's. -/
theorem res_eq (x : FVec Ideal ⟨3, ![2, 2, 1024]⟩ .f32) :
    Cert.Reference6Ideal.Low.resR x = Cert.Kernel6Ideal.Value.G1 (F := Ideal) x := by
  funext y
  have hy : y = ix3 (y 0) (y 1) (y 2) := by
    funext a
    match a with
    | ⟨0, _⟩ => rfl
    | ⟨1, _⟩ => rfl
    | ⟨2, _⟩ => rfl
  rw [hy]
  exact (Cert.Reference6Ideal.Low.resR_at x _ _ _).trans (Cert.Kernel6Ideal.Low.res_at x _ _ _).symm

end Cert.Low

end
-- ==== Proof.lean ====
module

public import proofs.«01_k».proof.Proof.Gen.KernelIdeal.Value
public import proofs.«01_k».proof.Proof.Gen.ReferenceIdeal.Run
public import proofs.«01_k».proof.Proof.Gen.Reference2Ideal.Run
public import proofs.«01_k».proof.Defs
public import proofs.«01_k».proof.Proof.RetScan
public import proofs.«01_k».proof.Proof.RetIter
public import proofs.«01_k».proof.Proof.RetFinite
public import proofs.«01_k».proof.Proof.ProjFinite
public import proofs.«01_k».proof.Proof.ProjFrameB
public import proofs.«01_k».proof.Proof.Mrg3Out
public import proofs.«01_k».proof.Proof.Mrg3Ref
public import proofs.«01_k».proof.Proof.Mrg4Out
public import proofs.«01_k».proof.Proof.Mrg4Ref
public import proofs.«01_k».proof.Proof.Mod5Ref
public import proofs.«01_k».proof.Proof.Low6
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel5
public import proofs.«01_k».proof.Proof.Gen.Kernel5.Frame
public import proofs.«01_k».proof.Proof.Gen.Kernel6
public import proofs.«01_k».proof.Proof.Gen.Kernel6.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem Cert.Kernel

/-- The retention scan and the recurrence end with equal results. -/
theorem ret_scan (hPre : Cert.Pre_finite.Facts) :
    algebraic_KernelIdeal_ReferenceIdeal_pre_finite (hKernelIdeal := Cert.KernelIdeal.Gen.facts)
      (hReferenceIdeal := Cert.ReferenceIdeal.Gen.facts) (hPre_finite := hPre) := by
  intro m g m' g' hfin hargs
  have hD := fun c => Cert.KernelIdeal.Ret.data m hfin c
  refine ⟨fun c => Cert.KernelIdeal.Ret.res m (hD c).some 0, fun c => Cert.KernelIdeal.Ret.res m (hD c).some 1, ?_, ?_⟩
  · refine (θ_run _ _ _).mono (fun r h c => ?_) (Cert.KernelIdeal.Value.run_blocks m g)
    obtain ⟨h7, h8, hk⟩ := h c
    exact ⟨h7.trans (Cert.KernelIdeal.Ret.final7 m (hD c).some), h8.trans (Cert.KernelIdeal.Ret.final8 m (hD c).some), hk⟩
  · refine (θ_run _ _ _).mono (fun r h c => ?_) (Cert.ReferenceIdeal.Value.run m' g')
    obtain ⟨h46, h54, hk⟩ := h c
    obtain ⟨a0, a1, a2, a3⟩ := hargs c
    refine ⟨h46.trans (Cert.ReferenceIdeal.Ret.final46 (hD c).some m' c ?_ ?_ ?_ ?_),
      h54.trans (Cert.ReferenceIdeal.Ret.final54 (hD c).some m' c ?_ ?_ ?_ ?_), hk⟩
    · exact fun b t j => (congrFun a0 (ix3 b t j)).symm
    · exact fun b h i t => (congrFun a1 (ix4 b h i t)).symm
    · exact fun b t j => (congrFun a2 (ix3 b t (Cert.Ret.pcol j))).symm
    · exact fun d h => (congrFun a3 (ix2 d h)).symm
    · exact fun b t j => (congrFun a0 (ix3 b t j)).symm
    · exact fun b h i t => (congrFun a1 (ix4 b h i t)).symm
    · exact fun b t j => (congrFun a2 (ix3 b t (Cert.Ret.pcol j))).symm
    · exact fun d h => (congrFun a3 (ix2 d h)).symm

/-- The recurrence keeps its arguments, and it declares no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1) ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2) ∧ r.2.mem ((c.tc : Thread Cert.ReferenceIdeal.nD Cert.ReferenceIdeal.τ).loc Cert.ReferenceIdeal.main_arg3)
        = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2, sem_eq_zero_of_no_sems (by decide) _⟩)
    (Cert.ReferenceIdeal.Value.run m g)

/-- The projection and its reference end with equal results. -/
theorem in_proj (hPre : Cert.Pre_finite2.Facts) :
    algebraic_Kernel2Ideal_Reference2Ideal_pre_finite2 (hKernel2Ideal := Cert.Kernel2Ideal.Gen.facts)
      (hReference2Ideal := Cert.Reference2Ideal.Gen.facts) (hPre_finite2 := hPre) := by
  intro m g m' g' hfin hargs
  refine ⟨fun c => Cert.Kernel2Ideal.Proj.res5 m c, fun c => Cert.Kernel2Ideal.Proj.res6 m c,
    Cert.Kernel2Ideal.Proj.run_res m g, ?_⟩
  refine (θ_run _ _ _).mono (fun r h c => ?_) (Cert.Reference2Ideal.Value.run m' g')
  obtain ⟨h0, h1, hk⟩ := h c
  obtain ⟨a0, a1, a2, a3⟩ := hargs c
  have hD := Cert.Kernel2Ideal.Proj.D_eq m m' c (fun b t d => congrFun a0 (ix3 b t d)) (fun q f => congrFun a1 (ix2 q f))
    (fun d => congrFun a2 (ix1 d)) (fun d f => congrFun a3 (ix2 d f))
  exact ⟨h0.trans (Cert.Kernel2Ideal.Proj.wide_eq m m' hfin c hD), h1.trans (Cert.Kernel2Ideal.Proj.narrow_eq m m' c hD), hk⟩

/-- The projection's reference keeps its arguments, and it declares no semaphore. -/
theorem ref_frame2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD, r.2.mem ((c.tc : Thread Cert.Reference2Ideal.nD Cert.Reference2Ideal.τ).loc Cert.Reference2Ideal.main_arg0)
        = m ((c.tc : Thread Cert.Reference2Ideal.nD Cert.Reference2Ideal.τ).loc Cert.Reference2Ideal.main_arg0) ∧ r.2.mem ((c.tc : Thread Cert.Reference2Ideal.nD Cert.Reference2Ideal.τ).loc Cert.Reference2Ideal.main_arg1)
        = m ((c.tc : Thread Cert.Reference2Ideal.nD Cert.Reference2Ideal.τ).loc Cert.Reference2Ideal.main_arg1) ∧ r.2.mem ((c.tc : Thread Cert.Reference2Ideal.nD Cert.Reference2Ideal.τ).loc Cert.Reference2Ideal.main_arg2)
        = m ((c.tc : Thread Cert.Reference2Ideal.nD Cert.Reference2Ideal.τ).loc Cert.Reference2Ideal.main_arg2) ∧ r.2.mem ((c.tc : Thread Cert.Reference2Ideal.nD Cert.Reference2Ideal.τ).loc Cert.Reference2Ideal.main_arg3)
        = m ((c.tc : Thread Cert.Reference2Ideal.nD Cert.Reference2Ideal.τ).loc Cert.Reference2Ideal.main_arg3))
        ∧ r.2.sem = fun _ => 0) :=
  (θ_run _ _ _).mono (fun r h => ⟨fun c => (h c).2.2, sem_eq_zero_of_no_sems (by decide) _⟩)
    (Cert.Reference2Ideal.Value.run m g)

/-- The merge and its reference end with equal results. -/
theorem merge_eq : algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Mrg.res m c, Cert.Kernel3Ideal.Mrg.run_res m g, ?_⟩
  refine (θ_run _ _ _).mono (fun r h c => ?_) (Cert.Reference3Ideal.Value.run m' g')
  have ha : Cert.Reference3Ideal.Mrg.args m' c = Cert.Kernel3Ideal.Mrg.args m c := by
    obtain ⟨a0, a1, a2, a3, a4, a5, a6, a7, a8, a9, a10, a11, a12, a13, a14⟩ := hargs c
    unfold Cert.Reference3Ideal.Mrg.args Cert.Kernel3Ideal.Mrg.args
    rw [a0, a1, a2, a3, a4, a5, a6, a7, a8, a9, a10, a11, a12, a13, a14]
  refine ⟨(h c).1.trans (funext fun y => ?_), (h c).2⟩
  obtain ⟨b, hb⟩ : ∃ b : Fin 2, y 0 = b := ⟨_, rfl⟩
  obtain ⟨t, ht⟩ : ∃ t : Fin 8448, y 1 = t := ⟨_, rfl⟩
  obtain ⟨e, he⟩ : ∃ e : Fin 1024, y 2 = e := ⟨_, rfl⟩
  have hy : y = ix3 b t e := by subst hb ht he; blk_ext
  subst hy
  refine (Cert.Reference3Ideal.Mrg.res_at m' c b t e).trans ?_
  rw [ha]
  rfl

/-- The merge's reference keeps its arguments, and it declares no semaphore. -/
theorem ref_frame3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD, r.2.mem ((c.tc : Thread Cert.Reference3Ideal.nD Cert.Reference3Ideal.τ).loc Cert.Reference3Ideal.main_arg0)
        = m ((c.tc : Thread Cert.Reference3Ideal.nD Cert.Reference3Ideal.τ).loc Cert.Reference3Ideal.main_arg0) ∧ r.2.mem ((c.tc : Thread Cert.Reference3Ideal.nD Cert.Reference3Ideal.τ).loc Cert.Reference3Ideal.main_arg1)
        = m ((c.tc : Thread Cert.Reference3Ideal.nD Cert.Reference3Ideal.τ).loc Cert.Reference3Ideal.main_arg1) ∧ r.2.mem ((c.tc : Thread Cert.Reference3Ideal.nD Cert.Reference3Ideal.τ).loc Cert.Reference3Ideal.main_arg2)
        = m ((c.tc : Thread Cert.Reference3Ideal.nD Cert.Reference3Ideal.τ).loc Cert.Reference3Ideal.main_arg2) ∧ r.2.mem ((c.tc : Thread Cert.Reference3Ideal.nD Cert.Reference3Ideal.τ).loc Cert.Reference3Ideal.main_arg3)
        = m ((c.tc : Thread Cert.Reference3Ideal.nD Cert.Reference3Ideal.τ).loc Cert.Reference3Ideal.main_arg3) ∧ r.2.mem ((c.tc : Thread Cert.Reference3Ideal.nD Cert.Reference3Ideal.τ).loc Cert.Reference3Ideal.main_arg4)
        = m ((c.tc : Thread Cert.Reference3Ideal.nD Cert.Reference3Ideal.τ).loc Cert.Reference3Ideal.main_arg4) ∧ r.2.mem ((c.tc : Thread Cert.Reference3Ideal.nD Cert.Reference3Ideal.τ).loc Cert.Reference3Ideal.main_arg5)
        = m ((c.tc : Thread Cert.Reference3Ideal.nD Cert.Reference3Ideal.τ).loc Cert.Reference3Ideal.main_arg5) ∧ r.2.mem ((c.tc : Thread Cert.Reference3Ideal.nD Cert.Reference3Ideal.τ).loc Cert.Reference3Ideal.main_arg6)
        = m ((c.tc : Thread Cert.Reference3Ideal.nD Cert.Reference3Ideal.τ).loc Cert.Reference3Ideal.main_arg6) ∧ r.2.mem ((c.tc : Thread Cert.Reference3Ideal.nD Cert.Reference3Ideal.τ).loc Cert.Reference3Ideal.main_arg7)
        = m ((c.tc : Thread Cert.Reference3Ideal.nD Cert.Reference3Ideal.τ).loc Cert.Reference3Ideal.main_arg7) ∧ r.2.mem ((c.tc : Thread Cert.Reference3Ideal.nD Cert.Reference3Ideal.τ).loc Cert.Reference3Ideal.main_arg8)
        = m ((c.tc : Thread Cert.Reference3Ideal.nD Cert.Reference3Ideal.τ).loc Cert.Reference3Ideal.main_arg8) ∧ r.2.mem ((c.tc : Thread Cert.Reference3Ideal.nD Cert.Reference3Ideal.τ).loc Cert.Reference3Ideal.main_arg9)
        = m ((c.tc : Thread Cert.Reference3Ideal.nD Cert.Reference3Ideal.τ).loc Cert.Reference3Ideal.main_arg9) ∧ r.2.mem ((c.tc : Thread Cert.Reference3Ideal.nD Cert.Reference3Ideal.τ).loc Cert.Reference3Ideal.main_arg10)
        = m ((c.tc : Thread Cert.Reference3Ideal.nD Cert.Reference3Ideal.τ).loc Cert.Reference3Ideal.main_arg10) ∧ r.2.mem ((c.tc : Thread Cert.Reference3Ideal.nD Cert.Reference3Ideal.τ).loc Cert.Reference3Ideal.main_arg11)
        = m ((c.tc : Thread Cert.Reference3Ideal.nD Cert.Reference3Ideal.τ).loc Cert.Reference3Ideal.main_arg11) ∧ r.2.mem ((c.tc : Thread Cert.Reference3Ideal.nD Cert.Reference3Ideal.τ).loc Cert.Reference3Ideal.main_arg12)
        = m ((c.tc : Thread Cert.Reference3Ideal.nD Cert.Reference3Ideal.τ).loc Cert.Reference3Ideal.main_arg12) ∧ r.2.mem ((c.tc : Thread Cert.Reference3Ideal.nD Cert.Reference3Ideal.τ).loc Cert.Reference3Ideal.main_arg13)
        = m ((c.tc : Thread Cert.Reference3Ideal.nD Cert.Reference3Ideal.τ).loc Cert.Reference3Ideal.main_arg13) ∧ r.2.mem ((c.tc : Thread Cert.Reference3Ideal.nD Cert.Reference3Ideal.τ).loc Cert.Reference3Ideal.main_arg14)
        = m ((c.tc : Thread Cert.Reference3Ideal.nD Cert.Reference3Ideal.τ).loc Cert.Reference3Ideal.main_arg14))
        ∧ r.2.sem = fun _ => 0) :=
  (θ_run _ _ _).mono (fun r h => ⟨fun c => (h c).2, sem_eq_zero_of_no_sems (by decide) _⟩)
    (Cert.Reference3Ideal.Value.run m g)

/-- The last layer's merge and its reference end with equal results. -/
theorem merge_final_eq : algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Mrg.res m c, Cert.Kernel4Ideal.Mrg.run_res m g, ?_⟩
  refine (θ_run _ _ _).mono (fun r h c => ?_) (Cert.Reference4Ideal.Value.run m' g')
  have ha : Cert.Reference4Ideal.Mrg.args m' c = Cert.Kernel4Ideal.Mrg.args m c := by
    obtain ⟨a0, a1, a2, a3, a4, a5, a6, a7, a8, a9, a10, a11, a12, a13, a14⟩ := hargs c
    unfold Cert.Reference4Ideal.Mrg.args Cert.Kernel4Ideal.Mrg.args
    rw [a0, a1, a2, a3, a4, a5, a6, a7, a8, a9, a10, a11, a12, a13, a14]
  refine ⟨(h c).1.trans (funext fun y => ?_), (h c).2⟩
  obtain ⟨b, hb⟩ : ∃ b : Fin 2, y 0 = b := ⟨_, rfl⟩
  obtain ⟨t, ht⟩ : ∃ t : Fin 8192, y 1 = t := ⟨_, rfl⟩
  obtain ⟨e, he⟩ : ∃ e : Fin 1024, y 2 = e := ⟨_, rfl⟩
  have hy : y = ix3 b t e := by subst hb ht he; blk_ext
  subst hy
  refine (Cert.Reference4Ideal.Mrg.res_at m' c b t e).trans ?_
  rw [ha]
  rfl

/-- The last layer's merge's reference keeps its arguments, and it declares no semaphore. -/
theorem ref_frame4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal)))
      ⟨m, fun _ => 0, g⟩ (fun r => (∀ c : Dev Cert.Reference4Ideal.nD, r.2.mem ((c.tc : Thread Cert.Reference4Ideal.nD Cert.Reference4Ideal.τ).loc Cert.Reference4Ideal.main_arg0)
        = m ((c.tc : Thread Cert.Reference4Ideal.nD Cert.Reference4Ideal.τ).loc Cert.Reference4Ideal.main_arg0) ∧ r.2.mem ((c.tc : Thread Cert.Reference4Ideal.nD Cert.Reference4Ideal.τ).loc Cert.Reference4Ideal.main_arg1)
        = m ((c.tc : Thread Cert.Reference4Ideal.nD Cert.Reference4Ideal.τ).loc Cert.Reference4Ideal.main_arg1) ∧ r.2.mem ((c.tc : Thread Cert.Reference4Ideal.nD Cert.Reference4Ideal.τ).loc Cert.Reference4Ideal.main_arg2)
        = m ((c.tc : Thread Cert.Reference4Ideal.nD Cert.Reference4Ideal.τ).loc Cert.Reference4Ideal.main_arg2) ∧ r.2.mem ((c.tc : Thread Cert.Reference4Ideal.nD Cert.Reference4Ideal.τ).loc Cert.Reference4Ideal.main_arg3)
        = m ((c.tc : Thread Cert.Reference4Ideal.nD Cert.Reference4Ideal.τ).loc Cert.Reference4Ideal.main_arg3) ∧ r.2.mem ((c.tc : Thread Cert.Reference4Ideal.nD Cert.Reference4Ideal.τ).loc Cert.Reference4Ideal.main_arg4)
        = m ((c.tc : Thread Cert.Reference4Ideal.nD Cert.Reference4Ideal.τ).loc Cert.Reference4Ideal.main_arg4) ∧ r.2.mem ((c.tc : Thread Cert.Reference4Ideal.nD Cert.Reference4Ideal.τ).loc Cert.Reference4Ideal.main_arg5)
        = m ((c.tc : Thread Cert.Reference4Ideal.nD Cert.Reference4Ideal.τ).loc Cert.Reference4Ideal.main_arg5) ∧ r.2.mem ((c.tc : Thread Cert.Reference4Ideal.nD Cert.Reference4Ideal.τ).loc Cert.Reference4Ideal.main_arg6)
        = m ((c.tc : Thread Cert.Reference4Ideal.nD Cert.Reference4Ideal.τ).loc Cert.Reference4Ideal.main_arg6) ∧ r.2.mem ((c.tc : Thread Cert.Reference4Ideal.nD Cert.Reference4Ideal.τ).loc Cert.Reference4Ideal.main_arg7)
        = m ((c.tc : Thread Cert.Reference4Ideal.nD Cert.Reference4Ideal.τ).loc Cert.Reference4Ideal.main_arg7) ∧ r.2.mem ((c.tc : Thread Cert.Reference4Ideal.nD Cert.Reference4Ideal.τ).loc Cert.Reference4Ideal.main_arg8)
        = m ((c.tc : Thread Cert.Reference4Ideal.nD Cert.Reference4Ideal.τ).loc Cert.Reference4Ideal.main_arg8) ∧ r.2.mem ((c.tc : Thread Cert.Reference4Ideal.nD Cert.Reference4Ideal.τ).loc Cert.Reference4Ideal.main_arg9)
        = m ((c.tc : Thread Cert.Reference4Ideal.nD Cert.Reference4Ideal.τ).loc Cert.Reference4Ideal.main_arg9) ∧ r.2.mem ((c.tc : Thread Cert.Reference4Ideal.nD Cert.Reference4Ideal.τ).loc Cert.Reference4Ideal.main_arg10)
        = m ((c.tc : Thread Cert.Reference4Ideal.nD Cert.Reference4Ideal.τ).loc Cert.Reference4Ideal.main_arg10) ∧ r.2.mem ((c.tc : Thread Cert.Reference4Ideal.nD Cert.Reference4Ideal.τ).loc Cert.Reference4Ideal.main_arg11)
        = m ((c.tc : Thread Cert.Reference4Ideal.nD Cert.Reference4Ideal.τ).loc Cert.Reference4Ideal.main_arg11) ∧ r.2.mem ((c.tc : Thread Cert.Reference4Ideal.nD Cert.Reference4Ideal.τ).loc Cert.Reference4Ideal.main_arg12)
        = m ((c.tc : Thread Cert.Reference4Ideal.nD Cert.Reference4Ideal.τ).loc Cert.Reference4Ideal.main_arg12) ∧ r.2.mem ((c.tc : Thread Cert.Reference4Ideal.nD Cert.Reference4Ideal.τ).loc Cert.Reference4Ideal.main_arg13)
        = m ((c.tc : Thread Cert.Reference4Ideal.nD Cert.Reference4Ideal.τ).loc Cert.Reference4Ideal.main_arg13) ∧ r.2.mem ((c.tc : Thread Cert.Reference4Ideal.nD Cert.Reference4Ideal.τ).loc Cert.Reference4Ideal.main_arg14)
        = m ((c.tc : Thread Cert.Reference4Ideal.nD Cert.Reference4Ideal.τ).loc Cert.Reference4Ideal.main_arg14))
        ∧ r.2.sem = fun _ => 0) :=
  (θ_run _ _ _).mono (fun r h => ⟨fun c => (h c).2, sem_eq_zero_of_no_sems (by decide) _⟩)
    (Cert.Reference4Ideal.Value.run m g)

/-- The modulation and its reference end with equal results. -/
theorem mod_eq (hPre : Cert.Pre_finite5.Facts) :
    algebraic_Kernel5Ideal_Reference5Ideal_pre_finite5 (hKernel5Ideal := Cert.Kernel5Ideal.Gen.facts)
      (hReference5Ideal := Cert.Reference5Ideal.Gen.facts) (hPre_finite5 := hPre) := by
  intro m g m' g' hfin hargs
  refine ⟨fun c => Cert.Kernel5Ideal.Mod.res m c, Cert.Kernel5Ideal.Mod.run_res m g, ?_⟩
  refine (θ_run _ _ _).mono (fun r h c => ?_) (Cert.Reference5Ideal.Value.run m' g')
  obtain ⟨h0, hk⟩ := h c
  obtain ⟨a0, a1, a2, a3⟩ := hargs c
  refine ⟨h0.trans (Eq.trans ?_ (Cert.Kernel5Ideal.Mod.res_eq m hfin c)), hk⟩
  rw [← a0, ← a1, ← a2, ← a3]
  rfl

/-- The modulation's reference keeps its arguments, and it declares no semaphore. -/
theorem ref_frame5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal)))
      ⟨m, fun _ => 0, g⟩ (fun r => (∀ c : Dev Cert.Reference5Ideal.nD, r.2.mem ((c.tc : Thread Cert.Reference5Ideal.nD Cert.Reference5Ideal.τ).loc Cert.Reference5Ideal.main_arg0)
        = m ((c.tc : Thread Cert.Reference5Ideal.nD Cert.Reference5Ideal.τ).loc Cert.Reference5Ideal.main_arg0) ∧ r.2.mem ((c.tc : Thread Cert.Reference5Ideal.nD Cert.Reference5Ideal.τ).loc Cert.Reference5Ideal.main_arg1)
        = m ((c.tc : Thread Cert.Reference5Ideal.nD Cert.Reference5Ideal.τ).loc Cert.Reference5Ideal.main_arg1) ∧ r.2.mem ((c.tc : Thread Cert.Reference5Ideal.nD Cert.Reference5Ideal.τ).loc Cert.Reference5Ideal.main_arg2)
        = m ((c.tc : Thread Cert.Reference5Ideal.nD Cert.Reference5Ideal.τ).loc Cert.Reference5Ideal.main_arg2) ∧ r.2.mem ((c.tc : Thread Cert.Reference5Ideal.nD Cert.Reference5Ideal.τ).loc Cert.Reference5Ideal.main_arg3)
        = m ((c.tc : Thread Cert.Reference5Ideal.nD Cert.Reference5Ideal.τ).loc Cert.Reference5Ideal.main_arg3))
        ∧ r.2.sem = fun _ => 0) :=
  (θ_run _ _ _).mono (fun r h => ⟨fun c => (h c).2, sem_eq_zero_of_no_sems (by decide) _⟩)
    (Cert.Reference5Ideal.Value.run m g)

/-- The lower bounds and their reference end with equal results. -/
theorem lower_eq : algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Value.G1 (F := Ideal) (m ((c.tc : Thread Cert.Kernel6Ideal.nD Cert.Kernel6Ideal.τ).loc Cert.Kernel6Ideal.main_arg0)),
    Cert.Kernel6Ideal.Value.run m g, ?_⟩
  refine (θ_run _ _ _).mono (fun r h c => ?_) (Cert.Reference6Ideal.Value.run m' g')
  refine ⟨(h c).1.trans (Eq.trans ?_ (Cert.Low.res_eq _)), (h c).2⟩
  rw [← hargs c]
  rfl

/-- The lower bounds' reference keeps its arguments, and it declares no semaphore. -/
theorem ref_frame6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal)))
      ⟨m, fun _ => 0, g⟩ (fun r => (∀ c : Dev Cert.Reference6Ideal.nD, r.2.mem ((c.tc : Thread Cert.Reference6Ideal.nD Cert.Reference6Ideal.τ).loc Cert.Reference6Ideal.main_arg0)
        = m ((c.tc : Thread Cert.Reference6Ideal.nD Cert.Reference6Ideal.τ).loc Cert.Reference6Ideal.main_arg0))
        ∧ r.2.sem = fun _ => 0) :=
  (θ_run _ _ _).mono (fun r h => ⟨fun c => (h c).2, sem_eq_zero_of_no_sems (by decide) _⟩)
    (Cert.Reference6Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.facts, Cert.Pre_finite2.facts, Cert.Pre_finite5.facts,
  fun m g _ => Cert.Kernel.Gen.frame m g,
  fun m g _ => Cert.KernelIdeal.Gen.frame m g,
  fun m g _ => Cert.KernelIdeal.Gen.frame m g,
  fun m g _ => ref_frame m g,
  fun m g _ => ref_frame m g,
  fun m g _ => Cert.Kernel2.Proj.frame_ok m g,
  fun m g _ => Cert.Kernel2Ideal.Proj.frame_ok m g,
  fun m g _ => Cert.Kernel2Ideal.Proj.frame_ok m g,
  fun m g _ => ref_frame2 m g,
  fun m g _ => ref_frame2 m g,
  fun m g _ => Cert.Kernel3.Gen.frame m g,
  fun m g _ => Cert.Kernel3Ideal.Gen.frame m g,
  fun m g _ => ref_frame3 m g,
  fun m g _ => Cert.Kernel4.Gen.frame m g,
  fun m g _ => Cert.Kernel4Ideal.Gen.frame m g,
  fun m g _ => ref_frame4 m g,
  fun m g _ => Cert.Kernel5.Gen.frame m g,
  fun m g _ => Cert.Kernel5Ideal.Gen.frame m g,
  fun m g _ => Cert.Kernel5Ideal.Gen.frame m g,
  fun m g _ => ref_frame5 m g,
  fun m g _ => ref_frame5 m g,
  fun m g _ => Cert.Kernel6.Gen.frame m g,
  fun m g _ => Cert.Kernel6Ideal.Gen.frame m g,
  fun m g _ => ref_frame6 m g,
  IdealRules.named_const.statement Cert.KernelIdeal.κ "mask" .f32 0xF149F2CA#32 ⊥ rfl,
  ret_scan _,
  trivial,
  in_proj _,
  trivial,
  merge_eq,
  trivial,
  merge_final_eq,
  trivial,
  mod_eq _,
  trivial,
  lower_eq⟩

end Cert.Proof

end
